-- ==== Defs.lean ====
def Pre_Moe [hPre_in_range : Cert.Pre_in_range.Facts] (m : (ℓ : Loc Cert.Moe.nD Cert.Moe.τ Cert.Moe.sig) → Buf (Elt Bits) ℓ) : Prop :=
  ∀ c : Dev Cert.Moe.nD,
    (Cert.Pre_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))) = (fun _ => 1#1)

def Pre_MoeIdeal [hPre_in_range : Cert.Pre_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_in_range [hPre_in_range : Cert.Pre_in_range.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_in_range.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))) = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def quiescent_Moe [hMoe : Cert.Moe.Facts] [hPre_in_range : Cert.Pre_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] [hPre_in_range : Cert.Pre_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_MoeRefIdeal_pre_in_range [hMoeRefIdeal : Cert.MoeRefIdeal.Facts] [hPre_in_range : Cert.Pre_in_range.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_in_range m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4)
      ∧ r.2.mem ((c.tc : Thread Cert.Pool.nD Cert.Pool.τ).loc Cert.Pool.main_arg5) = m ((c.tc : Thread Cert.Pool.nD Cert.Pool.τ).loc Cert.Pool.main_arg5)
      ∧ r.2.mem ((c.tc : Thread Cert.Pool.nD Cert.Pool.τ).loc Cert.Pool.main_arg6) = m ((c.tc : Thread Cert.Pool.nD Cert.Pool.τ).loc Cert.Pool.main_arg6)
      ∧ r.2.mem ((c.tc : Thread Cert.Pool.nD Cert.Pool.τ).loc Cert.Pool.main_arg7) = m ((c.tc : Thread Cert.Pool.nD Cert.Pool.τ).loc Cert.Pool.main_arg7))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
      ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5)
      ∧ r.2.mem ((c.tc : Thread Cert.PoolRefIdeal.nD Cert.PoolRefIdeal.τ).loc Cert.PoolRefIdeal.main_arg6) = m ((c.tc : Thread Cert.PoolRefIdeal.nD Cert.PoolRefIdeal.τ).loc Cert.PoolRefIdeal.main_arg6)
      ∧ r.2.mem ((c.tc : Thread Cert.PoolRefIdeal.nD Cert.PoolRefIdeal.τ).loc Cert.PoolRefIdeal.main_arg7) = m ((c.tc : Thread Cert.PoolRefIdeal.nD Cert.PoolRefIdeal.τ).loc Cert.PoolRefIdeal.main_arg7))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4))
      ∧ r.2.sem = fun _ => 0)

def preserves_Moe_MoeIdeal : Prop :=
  True

def algebraic_MoeIdeal_MoeRefIdeal [hMoeIdeal : Cert.MoeIdeal.Facts] [hMoeRefIdeal : Cert.MoeRefIdeal.Facts] [hPre_in_range : Cert.Pre_in_range.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v25) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)
      ∧ m' ((c.tc : Thread Cert.PoolRefIdeal.nD Cert.PoolRefIdeal.τ).loc Cert.PoolRefIdeal.main_arg4) = m ((c.tc : Thread Cert.PoolIdeal.nD Cert.PoolIdeal.τ).loc Cert.PoolIdeal.main_arg4)
      ∧ m' ((c.tc : Thread Cert.PoolRefIdeal.nD Cert.PoolRefIdeal.τ).loc Cert.PoolRefIdeal.main_arg5) = m ((c.tc : Thread Cert.PoolIdeal.nD Cert.PoolIdeal.τ).loc Cert.PoolIdeal.main_arg5)
      ∧ m' ((c.tc : Thread Cert.PoolRefIdeal.nD Cert.PoolRefIdeal.τ).loc Cert.PoolRefIdeal.main_arg6) = m ((c.tc : Thread Cert.PoolIdeal.nD Cert.PoolIdeal.τ).loc Cert.PoolIdeal.main_arg6)
      ∧ m' ((c.tc : Thread Cert.PoolRefIdeal.nD Cert.PoolRefIdeal.τ).loc Cert.PoolRefIdeal.main_arg7) = m ((c.tc : Thread Cert.PoolIdeal.nD Cert.PoolIdeal.τ).loc Cert.PoolIdeal.main_arg7)) →
    ∃ (v0 : (c : Dev Cert.PoolIdeal.nD) → Buf (Elt Ideal) ((c.tc : Thread Cert.PoolIdeal.nD Cert.PoolIdeal.τ).loc Cert.PoolIdeal.main_v17)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v17) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
          ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
          ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
          ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v124) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4)
          ∧ r.2.mem ((c.tc : Thread Cert.PoolRefIdeal.nD Cert.PoolRefIdeal.τ).loc Cert.PoolRefIdeal.main_arg5) = m' ((c.tc : Thread Cert.PoolRefIdeal.nD Cert.PoolRefIdeal.τ).loc Cert.PoolRefIdeal.main_arg5)
          ∧ r.2.mem ((c.tc : Thread Cert.PoolRefIdeal.nD Cert.PoolRefIdeal.τ).loc Cert.PoolRefIdeal.main_arg6) = m' ((c.tc : Thread Cert.PoolRefIdeal.nD Cert.PoolRefIdeal.τ).loc Cert.PoolRefIdeal.main_arg6)
          ∧ r.2.mem ((c.tc : Thread Cert.PoolRefIdeal.nD Cert.PoolRefIdeal.τ).loc Cert.PoolRefIdeal.main_arg7) = m' ((c.tc : Thread Cert.PoolRefIdeal.nD Cert.PoolRefIdeal.τ).loc Cert.PoolRefIdeal.main_arg7))

def preserves_Attn_AttnIdeal : Prop :=
  IdealRules.named_const.Statement Cert.AttnIdeal.κ "mask" .f32 0xF149F2CA#32 ⊥

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v30) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)
      ∧ m' ((c.tc : Thread Cert.FinalRefIdeal.nD Cert.FinalRefIdeal.τ).loc Cert.FinalRefIdeal.main_arg4) = m ((c.tc : Thread Cert.FinalIdeal.nD Cert.FinalIdeal.τ).loc Cert.FinalIdeal.main_arg4)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v20) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4))

def Claim : Prop :=
  ∃ (hMoe : Cert.Moe.Facts) (hMoeIdeal : Cert.MoeIdeal.Facts) (hMoeRefIdeal : Cert.MoeRefIdeal.Facts) (hPool : Cert.Pool.Facts) (hPoolIdeal : Cert.PoolIdeal.Facts) (hPoolRefIdeal : Cert.PoolRefIdeal.Facts) (hAttn : Cert.Attn.Facts) (hAttnIdeal : Cert.AttnIdeal.Facts) (hAttnRefIdeal : Cert.AttnRefIdeal.Facts) (hFinal : Cert.Final.Facts) (hFinalIdeal : Cert.FinalIdeal.Facts) (hFinalRefIdeal : Cert.FinalRefIdeal.Facts) (hPre_in_range : Cert.Pre_in_range.Facts),
    quiescent_Moe (hMoe := hMoe) (hPre_in_range := hPre_in_range)
    ∧ quiescent_MoeIdeal (hMoeIdeal := hMoeIdeal) (hPre_in_range := hPre_in_range)
    ∧ quiescent_MoeRefIdeal (hMoeRefIdeal := hMoeRefIdeal)
    ∧ quiescent_MoeRefIdeal_pre_in_range (hMoeRefIdeal := hMoeRefIdeal) (hPre_in_range := hPre_in_range)
    ∧ quiescent_Pool (hPool := hPool)
    ∧ quiescent_PoolIdeal (hPoolIdeal := hPoolIdeal)
    ∧ quiescent_PoolRefIdeal (hPoolRefIdeal := hPoolRefIdeal)
    ∧ quiescent_Attn (hAttn := hAttn)
    ∧ quiescent_AttnIdeal (hAttnIdeal := hAttnIdeal)
    ∧ quiescent_AttnRefIdeal (hAttnRefIdeal := hAttnRefIdeal)
    ∧ quiescent_Final (hFinal := hFinal)
    ∧ quiescent_FinalIdeal (hFinalIdeal := hFinalIdeal)
    ∧ quiescent_FinalRefIdeal (hFinalRefIdeal := hFinalRefIdeal)
    ∧ preserves_Moe_MoeIdeal
    ∧ algebraic_MoeIdeal_MoeRefIdeal (hMoeIdeal := hMoeIdeal) (hMoeRefIdeal := hMoeRefIdeal) (hPre_in_range := hPre_in_range)
    ∧ preserves_Pool_PoolIdeal
    ∧ algebraic_PoolIdeal_PoolRefIdeal (hPoolIdeal := hPoolIdeal) (hPoolRefIdeal := hPoolRefIdeal)
    ∧ preserves_Attn_AttnIdeal
    ∧ algebraic_AttnIdeal_AttnRefIdeal (hAttnIdeal := hAttnIdeal) (hAttnRefIdeal := hAttnRefIdeal)
    ∧ preserves_Final_FinalIdeal
    ∧ algebraic_FinalIdeal_FinalRefIdeal (hFinalIdeal := hFinalIdeal) (hFinalRefIdeal := hFinalRefIdeal)
-- ==== Pre_in_range.lean ====
abbrev S72 : Shape := ⟨1, ![72]⟩
abbrev S1 : Shape := ⟨1, ![1]⟩
abbrev S73728x1024 : Shape := ⟨2, ![73728, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel
  shapeCasts_S1_S_ : S1.ShapeCasts S_

variable [Facts]

def fn {F : FTy → Type} [FloatOps F] (main_arg0 : IVec S72 32) (main_arg1 : IVec S1 32) (main_arg2 : FVec F S73728x1024 .bf16) (main_arg3 : FVec F S8x1024x3584 .f32) (main_arg4 : FVec F S8x1024x3584 .f32) (main_arg5 : FVec F S8x3584x1024 .f32) : IVec S_ 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  let main_v9 : IVec S_ 32 := shapeCast S_ main_arg1 shapeCasts_S1_S_
  let main_c_3 : IVec S_ 32 := constantI S_ 32 72#32
  let main_v10 : IVec S_ 1 := cmpi .sle main_v9 main_c_3
  let main_v11 : IVec S_ 1 := andi main_v8 main_v10
  main_v11
-- ==== Moe.lean ====
abbrev S72 : Shape := ⟨1, ![72]⟩
abbrev S1 : Shape := ⟨1, ![1]⟩
abbrev S73728x1024 : Shape := ⟨2, ![73728, 1024]⟩
abbrev S8x1024x3584 : Shape := ⟨3, ![8, 1024, 3584]⟩
abbrev S8x3584x1024 : Shape := ⟨3, ![8, 3584, 1024]⟩
abbrev S1024x1024 : Shape := ⟨2, ![1024, 1024]⟩
abbrev S1x1024x512 : Shape := ⟨3, ![1, 1024, 512]⟩
abbrev S1x512x1024 : Shape := ⟨3, ![1, 512, 1024]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 5
  | .vmem => 10
  | .smem => 2
  | _ => 0

abbrev bufTy : (tb : Table) → Fin (tcTables nBuf tb) → BufTy
  | .hbm, ⟨0, _⟩ => ⟨S73728x1024, .bf16⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S73728x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S1024x1024, .f32⟩
  | .local _ .vmem, ⟨9, _⟩ => ⟨S1024x1024, .f32⟩
  | .local _ .smem, ⟨0, _⟩ => ⟨S72, .i32⟩
  | .local _ .smem, ⟨1, _⟩ => ⟨S1, .i32⟩
  | _, _ => ⟨S73728x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 7], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) (v3 : BitVec 32) : BitVec 1 :=
  let arg0 : BitVec 32 := BitVec.ofNat 32 (i 0).val
  let v4 : BitVec 1 := Scalar.cmpi .slt arg0 v3
  let v5 : BitVec 32 := Scalar.extui v4
  let c0_i32_1 : BitVec 32 := 0#32
  let v6 : BitVec 1 := Scalar.cmpi .ne v5 c0_i32_1
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MoeRefIdeal.lean ====
abbrev S72 : Shape := ⟨1, ![72]⟩
abbrev S1 : Shape := ⟨1, ![1]⟩
abbrev S73728x1024 : Shape := ⟨2, ![73728, 1024]⟩
abbrev S8x1024x3584 : Shape := ⟨3, ![8, 1024, 3584]⟩
abbrev S8x3584x1024 : Shape := ⟨3, ![8, 3584, 1024]⟩
abbrev S72x1 : Shape := ⟨2, ![72, 1]⟩
abbrev S72x1024 : Shape := ⟨2, ![72, 1024]⟩
abbrev S73728 : Shape := ⟨1, ![73728]⟩
abbrev S_ : Shape := ⟨0, ![]⟩
abbrev S73728x1 : Shape := ⟨2, ![73728, 1]⟩
abbrev S1x8 : Shape := ⟨2, ![1, 8]⟩
abbrev S73728x8 : Shape := ⟨2, ![73728, 8]⟩
abbrev S73728x8x3584 : Shape := ⟨3, ![73728, 8, 3584]⟩
abbrev S8x73728x1024 : Shape := ⟨3, ![8, 73728, 1024]⟩
abbrev S8x73728 : Shape := ⟨2, ![8, 73728]⟩
abbrev S8x73728x1 : Shape := ⟨3, ![8, 73728, 1]⟩

abbrev nBuf : Space → Nat
  | .hbm => 46
  | .vmem => 0
  | .smem => 0
  | _ => 0

abbrev bufTy : (tb : Table) → Fin (tcTables nBuf tb) → BufTy
  | .hbm, ⟨0, _⟩ => ⟨S72, .i32⟩
  | .hbm, ⟨1, _⟩ => ⟨S1, .i32⟩
  | .hbm, ⟨2, _⟩ => ⟨S73728x1024, .bf16⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S72x1, .i32⟩
  | .hbm, ⟨7, _⟩ => ⟨S72x1024, .i32⟩
  | .hbm, ⟨8, _⟩ => ⟨S73728, .i32⟩
  | .hbm, ⟨9, _⟩ => ⟨S72, .i32⟩
  | .hbm, ⟨10, _⟩ => ⟨S72x1, .i32⟩
  | .hbm, ⟨11, _⟩ => ⟨S72x1024, .i32⟩
  | .hbm, ⟨12, _⟩ => ⟨S73728, .i32⟩
  | .hbm, ⟨13, _⟩ => ⟨S_, .i32⟩
  | .hbm, ⟨14, _⟩ => ⟨S73728, .i32⟩
  | .hbm, ⟨15, _⟩ => ⟨S73728, .i1⟩
  | .hbm, ⟨16, _⟩ => ⟨S73728x1, .i32⟩
  | .hbm, ⟨17, _⟩ => ⟨S1x8, .i32⟩
  | .hbm, ⟨18, _⟩ => ⟨S73728x8, .i32⟩
  | .hbm, ⟨19, _⟩ => ⟨S73728x8, .i32⟩
  | .hbm, ⟨20, _⟩ => ⟨S73728x8, .i1⟩
  | .hbm, ⟨21, _⟩ => ⟨S73728x8, .f32⟩
  | .hbm, ⟨22, _⟩ => ⟨S73728, .f32⟩
  | .hbm, ⟨23, _⟩ => ⟨S73728x1, .f32⟩
  | .hbm, ⟨24, _⟩ => ⟨S73728x8, .f32⟩
  | .hbm, ⟨25, _⟩ => ⟨S73728x8, .f32⟩
  | .hbm, ⟨26, _⟩ => ⟨S73728x1024, .f32⟩
  | .hbm, ⟨27, _⟩ => ⟨S73728x8x3584, .f32⟩
  | .hbm, ⟨28, _⟩ => ⟨S73728x8x3584, .f32⟩
  | .hbm, ⟨29, _⟩ => ⟨S73728x8x3584, .f32⟩
  | .hbm, ⟨30, _⟩ => ⟨S_, .f32⟩
  | .hbm, ⟨31, _⟩ => ⟨S73728x8x3584, .f32⟩
  | .hbm, ⟨32, _⟩ => ⟨S73728x8x3584, .f32⟩
  | .hbm, ⟨33, _⟩ => ⟨S_, .f32⟩
  | .hbm, ⟨34, _⟩ => ⟨S73728x8x3584, .f32⟩
  | .hbm, ⟨35, _⟩ => ⟨S73728x8x3584, .f32⟩
  | .hbm, ⟨36, _⟩ => ⟨S73728x8x3584, .f32⟩
  | .hbm, ⟨37, _⟩ => ⟨S73728x8x3584, .f32⟩
  | .hbm, ⟨38, _⟩ => ⟨S73728x8x3584, .f32⟩
  | .hbm, ⟨39, _⟩ => ⟨S8x73728x1024, .f32⟩
  | .hbm, ⟨40, _⟩ => ⟨S8x73728, .f32⟩
  | .hbm, ⟨41, _⟩ => ⟨S8x73728x1, .f32⟩
  | .hbm, ⟨42, _⟩ => ⟨S8x73728x1024, .f32⟩
  | .hbm, ⟨43, _⟩ => ⟨S8x73728x1024, .f32⟩
  | .hbm, ⟨44, _⟩ => ⟨S_, .f32⟩
  | .hbm, ⟨45, _⟩ => ⟨S73728x1024, .f32⟩
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst : Ref sig .tc := ⟨.hbm, 44, rfl⟩
abbrev main_v25 : Ref sig .tc := ⟨.hbm, 45, rfl⟩

abbrev nD : Nat := 1
abbrev τ : Topo := Topo.v7x

variable {F : FTy → Type} [FloatOps F]
-- ==== Pool.lean ====
abbrev S2x16384x1024 : Shape := ⟨3, ![2, 16384, 1024]⟩
abbrev S2x1024 : Shape := ⟨2, ![2, 1024]⟩
abbrev S1x4x256x256 : Shape := ⟨4, ![1, 4, 256, 256]⟩
abbrev S1x1024 : Shape := ⟨2, ![1, 1024]⟩
abbrev S1x1024x2816 : Shape := ⟨3, ![1, 1024, 2816]⟩
abbrev S1x2816x1024 : Shape := ⟨3, ![1, 2816, 1024]⟩
abbrev S32768x1024 : Shape := ⟨2, ![32768, 1024]⟩
abbrev S1024 : Shape := ⟨1, ![1024]⟩
abbrev S4x256x256 : Shape := ⟨3, ![4, 256, 256]⟩
abbrev S1024x2816 : Shape := ⟨2, ![1024, 2816]⟩
abbrev S2816x1024 : Shape := ⟨2, ![2816, 1024]⟩
abbrev S512x1024 : Shape := ⟨2, ![512, 1024]⟩
abbrev S16x1024 : Shape := ⟨2, ![16, 1024]⟩
abbrev S512 : Shape := ⟨1, ![512]⟩
abbrev S512x1 : Shape := ⟨2, ![512, 1]⟩
abbrev S16 : Shape := ⟨1, ![16]⟩
abbrev S16x1 : Shape := ⟨2, ![16, 1]⟩
abbrev S528x1024 : Shape := ⟨2, ![528, 1024]⟩
abbrev S528x256 : Shape := ⟨2, ![528, 256]⟩
abbrev S512x256 : Shape := ⟨2, ![512, 256]⟩
abbrev S1x256x256 : Shape := ⟨3, ![1, 256, 256]⟩
abbrev S256x256 : Shape := ⟨2, ![256, 256]⟩
abbrev S512x2816 : Shape := ⟨2, ![512, 2816]⟩

abbrev nBuf : Space → Nat
  | .hbm => 26
  | .vmem => 13
  | .smem => 0
  | _ => 0

abbrev bufTy : (tb : Table) → Fin (tcTables nBuf tb) → BufTy
  | .hbm, ⟨0, _⟩ => ⟨S2x16384x1024, .f32⟩
  | .hbm, ⟨1, _⟩ => ⟨S2x1024, .f32⟩
  | .hbm, ⟨2, _⟩ => ⟨S2x1024, .f32⟩
  | .hbm, ⟨3, _⟩ => ⟨S1x4x256x256, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S32768x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S4x256x256, .f32⟩
  | .hbm, ⟨16, _⟩ => ⟨S4x256x256, .bf16⟩
  | .hbm, ⟨17, _⟩ => ⟨S1024, .f32⟩
  | .hbm, ⟨18, _⟩ => ⟨S1x1024, .f32⟩
  | .hbm, ⟨19, _⟩ => ⟨S1024x2816, .f32⟩
  | .hbm, ⟨20, _⟩ => ⟨S1024x2816, .bf16⟩
  | .hbm, ⟨21, _⟩ => ⟨S1024x2816, .f32⟩
  | .hbm, ⟨22, _⟩ => ⟨S1024x2816, .bf16⟩
  | .hbm, ⟨23, _⟩ => ⟨S2816x1024, .f32⟩
  | .hbm, ⟨24, _⟩ => ⟨S2816x1024, .bf16⟩
  | .hbm, ⟨25, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1x1024, .f32⟩
  | .local _ .vmem, ⟨6, _⟩ => ⟨S4x256x256, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PoolRefIdeal.lean ====
abbrev S2x16384x1024 : Shape := ⟨3, ![2, 16384, 1024]⟩
abbrev S2x1024 : Shape := ⟨2, ![2, 1024]⟩
abbrev S1x4x256x256 : Shape := ⟨4, ![1, 4, 256, 256]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S4x256x256 : Shape := ⟨3, ![4, 256, 256]⟩
abbrev S2x16384x4x256 : Shape := ⟨4, ![2, 16384, 4, 256]⟩
abbrev S16384 : Shape := ⟨1, ![16384]⟩
abbrev S2x16384x1x256 : Shape := ⟨4, ![2, 16384, 1, 256]⟩
abbrev S2x16384x256 : Shape := ⟨3, ![2, 16384, 256]⟩
abbrev S1x16384x1 : Shape := ⟨3, ![1, 16384, 1]⟩
abbrev S4x256x2x16384 : Shape := ⟨4, ![4, 256, 2, 16384]⟩
abbrev S1024x2816 : Shape := ⟨2, ![1024, 2816]⟩
abbrev S2816x1024 : Shape := ⟨2, ![2816, 1024]⟩
abbrev S2x16384x2816 : Shape := ⟨3, ![2, 16384, 2816]⟩
abbrev S32768x1024 : Shape := ⟨2, ![32768, 1024]⟩

abbrev nBuf : Space → Nat
  | .hbm => 167
  | .vmem => 0
  | .smem => 0
  | _ => 0

abbrev hbmTy0_0 (i : Nat) : BufTy := match i % 128 with
  | 0 => ⟨S2x16384x1024, .f32⟩
  | 1 => ⟨S2x1024, .f32⟩
  | 2 => ⟨S2x1024, .f32⟩
  | 3 => ⟨S1x4x256x256, .f32⟩
  | 4 => ⟨S1x1024, .f32⟩
  | 5 => ⟨S1x1024x2816, .f32⟩
  | 6 => ⟨S1x1024x2816, .f32⟩
  | 7 => ⟨S1x2816x1024, .f32⟩
  | 8 => ⟨S1x1024, .f32⟩
  | 9 => ⟨S1024, .f32⟩
  | 10 => ⟨S2x16384x1024, .f32⟩
  | 11 => ⟨S_, .f32⟩
  | 12 => ⟨S2x16384, .f32⟩
  | 13 => ⟨S2x16384x1, .f32⟩
  | 14 => ⟨S_, .f32⟩
  | 15 => ⟨S2x16384x1, .f32⟩
  | 16 => ⟨S2x16384x1, .f32⟩
  | 17 => ⟨S_, .f32⟩
  | 18 => ⟨S2x16384x1, .f32⟩
  | 19 => ⟨S2x16384x1, .f32⟩
  | 20 => ⟨S2x16384x1, .f32⟩
  | 21 => ⟨S2x16384x1024, .f32⟩
  | 22 => ⟨S2x16384x1024, .f32⟩
  | 23 => ⟨S1x1x1024, .f32⟩
  | 24 => ⟨S2x16384x1024, .f32⟩
  | 25 => ⟨S2x16384x1024, .f32⟩
  | 26 => ⟨S4x256x256, .f32⟩
  | 27 => ⟨S1024, .f32⟩
  | 28 => ⟨S2x16384x4x256, .f32⟩
  | 29 => ⟨S16384, .i32⟩
  | 30 => ⟨S_, .i32⟩
  | 31 => ⟨S16384, .i32⟩
  | 32 => ⟨S16384, .i32⟩
  | 33 => ⟨S_, .i32⟩
  | 34 => ⟨S16384, .i32⟩
  | 35 => ⟨S16384, .i32⟩
  | 36 => ⟨S_, .i32⟩
  | 37 => ⟨S16384, .i32⟩
  | 38 => ⟨S16384, .i32⟩
  | 39 => ⟨S_, .i32⟩
  | 40 => ⟨S16384, .i32⟩
  | 41 => ⟨S16384, .i32⟩
  | 42 => ⟨S16384, .i32⟩
  | 43 => ⟨S16384, .f32⟩
  | 44 => ⟨S2x16384x1x256, .f32⟩
  | 45 => ⟨S2x16384x256, .f32⟩
  | 46 => ⟨S_, .f32⟩
  | 47 => ⟨S_, .f32⟩
  | 48 => ⟨S2x16384x256, .f32⟩
  | 49 => ⟨S1x16384x1, .f32⟩
  | 50 => ⟨S2x16384x256, .f32⟩
  | 51 => ⟨S2x16384x256, .f32⟩
  | 52 => ⟨S_, .i32⟩
  | 53 => ⟨S16384, .i32⟩
  | 54 => ⟨S16384, .i32⟩
  | 55 => ⟨S_, .i32⟩
  | 56 => ⟨S16384, .i32⟩
  | 57 => ⟨S16384, .i32⟩
  | 58 => ⟨S_, .i32⟩
  | 59 => ⟨S16384, .i32⟩
  | 60 => ⟨S16384, .i32⟩
  | 61 => ⟨S_, .i32⟩
  | 62 => ⟨S16384, .i32⟩
  | 63 => ⟨S16384, .i32⟩
  | 64 => ⟨S16384, .i32⟩
  | 65 => ⟨S16384, .f32⟩
  | 66 => ⟨S2x16384x1x256, .f32⟩
  | 67 => ⟨S2x16384x256, .f32⟩
  | 68 => ⟨S_, .f32⟩
  | 69 => ⟨S_, .f32⟩
  | 70 => ⟨S2x16384x256, .f32⟩
  | 71 => ⟨S1x16384x1, .f32⟩
  | 72 => ⟨S2x16384x256, .f32⟩
  | 73 => ⟨S2x16384x256, .f32⟩
  | 74 => ⟨S_, .i32⟩
  | 75 => ⟨S16384, .i32⟩
  | 76 => ⟨S16384, .i32⟩
  | 77 => ⟨S_, .i32⟩
  | 78 => ⟨S16384, .i32⟩
  | 79 => ⟨S16384, .i32⟩
  | 80 => ⟨S_, .i32⟩
  | 81 => ⟨S16384, .i32⟩
  | 82 => ⟨S16384, .i32⟩
  | 83 => ⟨S_, .i32⟩
  | 84 => ⟨S16384, .i32⟩
  | 85 => ⟨S16384, .i32⟩
  | 86 => ⟨S16384, .i32⟩
  | 87 => ⟨S16384, .f32⟩
  | 88 => ⟨S2x16384x1x256, .f32⟩
  | 89 => ⟨S2x16384x256, .f32⟩
  | 90 => ⟨S_, .f32⟩
  | 91 => ⟨S_, .f32⟩
  | 92 => ⟨S2x16384x256, .f32⟩
  | 93 => ⟨S1x16384x1, .f32⟩
  | 94 => ⟨S2x16384x256, .f32⟩
  | 95 => ⟨S2x16384x256, .f32⟩
  | 96 => ⟨S_, .i32⟩
  | 97 => ⟨S16384, .i32⟩
  | 98 => ⟨S16384, .i32⟩
  | 99 => ⟨S_, .i32⟩
  | 100 => ⟨S16384, .i32⟩
  | 101 => ⟨S16384, .i32⟩
  | 102 => ⟨S_, .i32⟩
  | 103 => ⟨S16384, .i32⟩
  | 104 => ⟨S16384, .i32⟩
  | 105 => ⟨S_, .i32⟩
  | 106 => ⟨S16384, .i32⟩
  | 107 => ⟨S16384, .i32⟩
  | 108 => ⟨S16384, .i32⟩
  | 109 => ⟨S16384, .f32⟩
  | 110 => ⟨S2x16384x1x256, .f32⟩
  | 111 => ⟨S2x16384x256, .f32⟩
  | 112 => ⟨S_, .f32⟩
  | 113 => ⟨S_, .f32⟩
  | 114 => ⟨S2x16384x256, .f32⟩
  | 115 => ⟨S1x16384x1, .f32⟩
  | 116 => ⟨S2x16384x256, .f32⟩
  | 117 => ⟨S2x16384x256, .f32⟩
  | 118 => ⟨S2x16384x1x256, .f32⟩
  | 119 => ⟨S2x16384x1x256, .f32⟩
  | 120 => ⟨S2x16384x1x256, .f32⟩
  | 121 => ⟨S2x16384x1x256, .f32⟩
  | 122 => ⟨S2x16384x4x256, .f32⟩
  | 123 => ⟨S2x16384x4x256, .f32⟩
  | 124 => ⟨S4x256x2x16384, .f32⟩
  | 125 => ⟨S2x16384x4x256, .f32⟩
  | 126 => ⟨S2x16384x1024, .f32⟩
  | 127 => ⟨S1x1x1024, .f32⟩
  | _ => ⟨S2x16384x1024, .f32⟩

abbrev hbmTy0_1 (i : Nat) : BufTy := match i % 128 with
  | 0 => ⟨S2x16384x1024, .f32⟩
  | 1 => ⟨S2x16384x1024, .f32⟩
  | 2 => ⟨S2x16384x1024, .f32⟩
  | 3 => ⟨S1x1024, .f32⟩
  | 4 => ⟨S1024, .f32⟩
  | 5 => ⟨S2x16384x1024, .f32⟩
  | 6 => ⟨S_, .f32⟩
  | 7 => ⟨S2x16384, .f32⟩
  | 8 => ⟨S2x16384x1, .f32⟩
  | 9 => ⟨S_, .f32⟩
  | 10 => ⟨S2x16384x1, .f32⟩
  | 11 => ⟨S2x16384x1, .f32⟩
  | 12 => ⟨S_, .f32⟩
  | 13 => ⟨S2x16384x1, .f32⟩
  | 14 => ⟨S2x16384x1, .f32⟩
  | 15 => ⟨S2x16384x1, .f32⟩
  | 16 => ⟨S2x16384x1024, .f32⟩
  | 17 => ⟨S2x16384x1024, .f32⟩
  | 18 => ⟨S1x1x1024, .f32⟩
  | 19 => ⟨S2x16384x1024, .f32⟩
  | 20 => ⟨S2x16384x1024, .f32⟩
  | 21 => ⟨S1024x2816, .f32⟩
  | 22 => ⟨S1024x2816, .f32⟩
  | 23 => ⟨S2816x1024, .f32⟩
  | 24 => ⟨S2x16384x2816, .f32⟩
  | 25 => ⟨S2x16384x2816, .f32⟩
  | 26 => ⟨S2x16384x2816, .f32⟩
  | 27 => ⟨S_, .f32⟩
  | 28 => ⟨S2x16384x2816, .f32⟩
  | 29 => ⟨S2x16384x2816, .f32⟩
  | 30 => ⟨S_, .f32⟩
  | 31 => ⟨S2x16384x2816, .f32⟩
  | 32 => ⟨S2x16384x2816, .f32⟩
  | 33 => ⟨S2x16384x2816, .f32⟩
  | 34 => ⟨S2x16384x2816, .f32⟩
  | 35 => ⟨S2x16384x2816, .f32⟩
  | 36 => ⟨S2x16384x1024, .f32⟩
  | 37 => ⟨S2x16384x1024, .f32⟩
  | 38 => ⟨S32768x1024, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_c_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_c_12 : Ref sig .tc := ⟨.hbm, 77, rfl⟩
abbrev main_v55 : Ref sig .tc := ⟨.hbm, 78, rfl⟩
abbrev main_v56 : Ref sig .tc := ⟨.hbm, 79, rfl⟩
abbrev main_c_13 : Ref sig .tc := ⟨.hbm, 80, rfl⟩
abbrev main_v57 : Ref sig .tc := ⟨.hbm, 81, rfl⟩
abbrev main_v58 : Ref sig .tc := ⟨.hbm, 82, rfl⟩
abbrev main_c_14 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_15 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_16 : Ref sig .tc := ⟨.hbm, 96, rfl⟩
abbrev main_v70 : Ref sig .tc := ⟨.hbm, 97, rfl⟩
abbrev main_v71 : Ref sig .tc := ⟨.hbm, 98, rfl⟩
abbrev main_c_17 : Ref sig .tc := ⟨.hbm, 99, rfl⟩
abbrev main_v72 : Ref sig .tc := ⟨.hbm, 100, rfl⟩
abbrev main_v73 : Ref sig .tc := ⟨.hbm, 101, rfl⟩
abbrev main_c_18 : Ref sig .tc := ⟨.hbm, 102, rfl⟩
abbrev main_v74 : Ref sig .tc := ⟨.hbm, 103, rfl⟩
abbrev main_v75 : Ref sig .tc := ⟨.hbm, 104, rfl⟩
abbrev main_c_19 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_20 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_21 : Ref sig .tc := ⟨.hbm, 134, rfl⟩
abbrev main_v103 : Ref sig .tc := ⟨.hbm, 135, rfl⟩
abbrev main_v104 : Ref sig .tc := ⟨.hbm, 136, rfl⟩
abbrev main_cst_22 : Ref sig .tc := ⟨.hbm, 137, rfl⟩
abbrev main_v105 : Ref sig .tc := ⟨.hbm, 138, rfl⟩
abbrev main_v106 : Ref sig .tc := ⟨.hbm, 139, rfl⟩
abbrev main_cst_23 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_call0_v0 : Ref sig .tc := ⟨.hbm, 153, rfl⟩
abbrev main_call0_v1 : Ref sig .tc := ⟨.hbm, 154, rfl⟩
abbrev main_call0_cst : Ref sig .tc := ⟨.hbm, 155, rfl⟩
abbrev main_call0_v2 : Ref sig .tc := ⟨.hbm, 156, rfl⟩
abbrev main_call0_v3 : Ref sig .tc := ⟨.hbm, 157, rfl⟩
abbrev main_call0_cst_0 : Ref sig .tc := ⟨.hbm, 158, rfl⟩
abbrev main_call0_v4 : Ref sig .tc := ⟨.hbm, 159, rfl⟩
abbrev main_call0_v5 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩

abbrev nD : Nat := 1
abbrev τ : Topo := Topo.v7x

variable {F : FTy → Type} [FloatOps F]
-- ==== Attn.lean ====
abbrev S2x16x16384x128 : Shape := ⟨4, ![2, 16, 16384, 128]⟩
abbrev S2x16384x1024 : Shape := ⟨3, ![2, 16384, 1024]⟩
abbrev S1x2x1024x128 : Shape := ⟨4, ![1, 2, 1024, 128]⟩
abbrev S1x2x16384x128 : Shape := ⟨4, ![1, 2, 16384, 128]⟩
abbrev S1x1024x128 : Shape := ⟨3, ![1, 1024, 128]⟩
abbrev S2x2x1024x512 : Shape := ⟨4, ![2, 2, 1024, 512]⟩
abbrev S2x2x1024x128 : Shape := ⟨4, ![2, 2, 1024, 128]⟩
abbrev S2x1024x128 : Shape := ⟨3, ![2, 1024, 128]⟩
abbrev S1x1x512x128 : Shape := ⟨4, ![1, 1, 512, 128]⟩
abbrev S512x128 : Shape := ⟨2, ![512, 128]⟩
abbrev S1x1x1024x128 : Shape := ⟨4, ![1, 1, 1024, 128]⟩
abbrev S1024x128 : Shape := ⟨2, ![1024, 128]⟩
abbrev S1024x512 : Shape := ⟨2, ![1024, 512]⟩
abbrev S1x1x1024x512 : Shape := ⟨4, ![1, 1, 1024, 512]⟩
abbrev S1024 : Shape := ⟨1, ![1024]⟩
abbrev S1024x1 : Shape := ⟨2, ![1024, 1]⟩
abbrev S512x512 : Shape := ⟨2, ![512, 512]⟩
abbrev S512 : Shape := ⟨1, ![512]⟩
abbrev S512x1 : Shape := ⟨2, ![512, 1]⟩

abbrev nBuf : Space → Nat
  | .hbm => 4
  | .vmem => 13
  | .smem => 0
  | _ => 0

abbrev bufTy : (tb : Table) → Fin (tcTables nBuf tb) → BufTy
  | .hbm, ⟨0, _⟩ => ⟨S2x16x16384x128, .bf16⟩
  | .hbm, ⟨1, _⟩ => ⟨S2x16x16384x128, .bf16⟩
  | .hbm, ⟨2, _⟩ => ⟨S2x16x16384x128, .bf16⟩
  | .hbm, ⟨3, _⟩ => ⟨S2x16384x1024, .bf16⟩
  | .local _ .vmem, ⟨0, _⟩ => ⟨S1x2x1024x128, .bf16⟩
  | .local _ .vmem, ⟨1, _⟩ => ⟨S1x2x1024x128, .bf16⟩
  | .local _ .vmem, ⟨2, _⟩ => ⟨S1x2x16384x128, .bf16⟩
  | .local _ .vmem, ⟨3, _⟩ => ⟨S1x2x16384x128, .bf16⟩
  | .local _ .vmem, ⟨4, _⟩ => ⟨S1x2x16384x128, .bf16⟩
  | .local _ .vmem, ⟨5, _⟩ => ⟨S1x2x16384x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S2x2x1024x512, .f32⟩
  | .local _ .vmem, ⟨9, _⟩ => ⟨S2x2x1024x512, .bf16⟩
  | .local _ .vmem, ⟨10, _⟩ => ⟨S2x2x1024x128, .f32⟩
  | .local _ .vmem, ⟨11, _⟩ => ⟨S2x1024x128, .f32⟩
  | .local _ .vmem, ⟨12, _⟩ => ⟨S2x1024x128, .f32⟩
  | _, _ => ⟨S2x16x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 16], ![false, false, false]⟩

def k0_mult1 : BitVec 32 :=
  let c0_i32 : BitVec 32 := 0#32
  c0_i32
def k0_mult2 : BitVec 32 :=
  let c0_i32_27 : BitVec 32 := 0#32
  c0_i32_27
@[reducible] def k0_t1_loop (i : grid0.Coords) : Scf.Loop 32 :=
  let c0_i32_64 : BitVec 32 := 0#32
  let arg2 : BitVec 32 := BitVec.ofNat 32 (i 2).val
  let c2_i32 : BitVec 32 := 2#32
  let v0 : BitVec 32 := Scalar.muli arg2 c2_i32
  let c0_i32_59 : BitVec 32 := 0#32
  let v54 : BitVec 1 := Scalar.cmpi .sgt v0 c0_i32_59
  let v55 : BitVec 32 := Scalar.extui v54
  let c0_i32_60 : BitVec 32 := 0#32
  let v56 : BitVec 1 := Scalar.cmpi .slt v0 c0_i32_60
  let v57 : BitVec 32 := Scalar.extui v56
  let v58 : BitVec 32 := Scalar.subi v55 v57
  let c2_i32_58 : BitVec 32 := 2#32
  let c0_i32_61 : BitVec 32 := 0#32
  let v59 : BitVec 1 := Scalar.cmpi .sgt c2_i32_58 c0_i32_61
  let v60 : BitVec 32 := Scalar.extui v59
  let c0_i32_62 : BitVec 32 := 0#32
  let v61 : BitVec 1 := Scalar.cmpi .slt c2_i32_58 c0_i32_62
  let v62 : BitVec 32 := Scalar.extui v61
  let v63 : BitVec 32 := Scalar.subi v60 v62
  let v64 : BitVec 1 := Scalar.cmpi .ne v58 v63
  let v65 : BitVec 32 := Scalar.remsi v0 c2_i32_58
  let c0_i32_63 : BitVec 32 := 0#32
  let v66 : BitVec 1 := Scalar.cmpi .ne v65 c0_i32_63
  let v67 : BitVec 1 := Scalar.andi v64 v66
  let v53 : BitVec 32 := Scalar.divsi v0 c2_i32_58
  let c1_i32 : BitVec 32 := 1#32
  let v68 : BitVec 32 := Scalar.subi v53 c1_i32
  let v69 : BitVec 32 := Scalar.select v67 v68 v53
  let v70 : BitVec 32 := Scalar.subi v69 c0_i32_64
  let c1_i32_66 : BitVec 32 := 1#32
  let v72 : BitVec 32 := Scalar.divsi v70 c1_i32_66
  let v73 : BitVec 32 := Scalar.muli v72 c1_i32_66
  let v74 : BitVec 32 := Scalar.addi c0_i32_64 v73
  let c1_i32_67 : BitVec 32 := 1#32
  ⟨c0_i32_64, v74, c1_i32_67⟩
def k0_mult3 (i : grid0.Coords) (k0_t1 : Fin (k0_t1_loop i).trips) : BitVec 32 :=
  let c2_i32_172 : BitVec 32 := 2#32
  let c0_i32_64 : BitVec 32 := 0#32
  let c1_i32_67 : BitVec 32 := 1#32
  let arg12 : BitVec 32 := Scf.iv c0_i32_64 c1_i32_67 k0_t1
  let v302 : BitVec 32 := Scalar.muli c2_i32_172 arg12
  let c1_i32_173 : BitVec 32 := 1#32
  let v303 : BitVec 32 := Scalar.addi v302 c1_i32_173
  let c512_i32_174 : BitVec 32 := 512#32
  let v304 : BitVec 32 := Scalar.muli v303 c512_i32_174
  v304
def k0_off1 (i : grid0.Coords) (k0_t1 : Fin (k0_t1_loop i).trips) : Fin 4 → Nat :=
  let c0_175 : Index := 0#32
  let c0_176 : Index := 0#32
  let c2_i32_172 : BitVec 32 := 2#32
  let c0_i32_64 : BitVec 32 := 0#32
  let c1_i32_67 : BitVec 32 := 1#32
  let arg12 : BitVec 32 := Scf.iv c0_i32_64 c1_i32_67 k0_t1
  let v302 : BitVec 32 := Scalar.muli c2_i32_172 arg12
  let c1_i32_173 : BitVec 32 := 1#32
  let v303 : BitVec 32 := Scalar.addi v302 c1_i32_173
  let c512_i32_174 : BitVec 32 := 512#32
  let v304 : BitVec 32 := Scalar.muli v303 c512_i32_174
  let v305 : BitVec 32 := v304
  let v306 : Index := Scalar.indexCast v305
  let c0_177 : Index := 0#32
  ![0, 0, v306.toNat, 0]
def k0_mult4 (i : grid0.Coords) (k0_t1 : Fin (k0_t1_loop i).trips) : BitVec 32 :=
  let c2_i32_172 : BitVec 32 := 2#32
  let c0_i32_64 : BitVec 32 := 0#32
  let c1_i32_67 : BitVec 32 := 1#32
  let arg12 : BitVec 32 := Scf.iv c0_i32_64 c1_i32_67 k0_t1
  let v302 : BitVec 32 := Scalar.muli c2_i32_172 arg12
  let c1_i32_194 : BitVec 32 := 1#32
  let v320 : BitVec 32 := Scalar.subi v302 c1_i32_194
  let c0_i32_195 : BitVec 32 := 0#32
  let v321 : BitVec 32 := Scalar.maxsi v320 c0_i32_195
  let c512_i32_200 : BitVec 32 := 512#32
  let v324 : BitVec 32 := Scalar.muli v321 c512_i32_200
  v324
def k0_off2 (i : grid0.Coords) (k0_t1 : Fin (k0_t1_loop i).trips) : Fin 4 → Nat :=
  let c0_201 : Index := 0#32
  let c0_202 : Index := 0#32
  let c2_i32_172 : BitVec 32 := 2#32
  let c0_i32_64 : BitVec 32 := 0#32
  let c1_i32_67 : BitVec 32 := 1#32
  let arg12 : BitVec 32 := Scf.iv c0_i32_64 c1_i32_67 k0_t1
  let v302 : BitVec 32 := Scalar.muli c2_i32_172 arg12
  let c1_i32_194 : BitVec 32 := 1#32
  let v320 : BitVec 32 := Scalar.subi v302 c1_i32_194
  let c0_i32_195 : BitVec 32 := 0#32
  let v321 : BitVec 32 := Scalar.maxsi v320 c0_i32_195
  let c512_i32_200 : BitVec 32 := 512#32
  let v324 : BitVec 32 := Scalar.muli v321 c512_i32_200
  let v325 : BitVec 32 := v324
  let v326 : Index := Scalar.indexCast v325
  let c0_203 : Index := 0#32
  ![0, 0, v326.toNat, 0]
def k0_mult5 (i : grid0.Coords) (k0_t1 : Fin (k0_t1_loop i).trips) : BitVec 32 :=
  let c2_i32_172 : BitVec 32 := 2#32
  let c0_i32_64 : BitVec 32 := 0#32
  let c1_i32_67 : BitVec 32 := 1#32
  let arg12 : BitVec 32 := Scf.iv c0_i32_64 c1_i32_67 k0_t1
  let v302 : BitVec 32 := Scalar.muli c2_i32_172 arg12
  let c1_i32_227 : BitVec 32 := 1#32
  let v370 : BitVec 32 := Scalar.addi v302 c1_i32_227
  let c512_i32_228 : BitVec 32 := 512#32
  let v371 : BitVec 32 := Scalar.muli v370 c512_i32_228
  v371
def k0_off3 (i : grid0.Coords) (k0_t1 : Fin (k0_t1_loop i).trips) : Fin 4 → Nat :=
  let c0_229 : Index := 0#32
  let c1_230 : Index := 1#32
  let c2_i32_172 : BitVec 32 := 2#32
  let c0_i32_64 : BitVec 32 := 0#32
  let c1_i32_67 : BitVec 32 := 1#32
  let arg12 : BitVec 32 := Scf.iv c0_i32_64 c1_i32_67 k0_t1
  let v302 : BitVec 32 := Scalar.muli c2_i32_172 arg12
  let c1_i32_227 : BitVec 32 := 1#32
  let v370 : BitVec 32 := Scalar.addi v302 c1_i32_227
  let c512_i32_228 : BitVec 32 := 512#32
  let v371 : BitVec 32 := Scalar.muli v370 c512_i32_228
  let v372 : BitVec 32 := v371
  let v373 : Index := Scalar.indexCast v372
  let c0_231 : Index := 0#32
  ![0, 1, v373.toNat, 0]
def k0_mult6 (i : grid0.Coords) (k0_t1 : Fin (k0_t1_loop i).trips) : BitVec 32 :=
  let c2_i32_172 : BitVec 32 := 2#32
  let c0_i32_64 : BitVec 32 := 0#32
  let c1_i32_67 : BitVec 32 := 1#32
  let arg12 : BitVec 32 := Scf.iv c0_i32_64 c1_i32_67 k0_t1
  let v302 : BitVec 32 := Scalar.muli c2_i32_172 arg12
  let c1_i32_248 : BitVec 32 := 1#32
  let v387 : BitVec 32 := Scalar.subi v302 c1_i32_248
  let c0_i32_249 : BitVec 32 := 0#32
  let v388 : BitVec 32 := Scalar.maxsi v387 c0_i32_249
  let c512_i32_254 : BitVec 32 := 512#32
  let v391 : BitVec 32 := Scalar.muli v388 c512_i32_254
  v391
def k0_off4 (i : grid0.Coords) (k0_t1 : Fin (k0_t1_loop i).trips) : Fin 4 → Nat :=
  let c0_255 : Index := 0#32
  let c1_256 : Index := 1#32
  let c2_i32_172 : BitVec 32 := 2#32
  let c0_i32_64 : BitVec 32 := 0#32
  let c1_i32_67 : BitVec 32 := 1#32
  let arg12 : BitVec 32 := Scf.iv c0_i32_64 c1_i32_67 k0_t1
  let v302 : BitVec 32 := Scalar.muli c2_i32_172 arg12
  let c1_i32_248 : BitVec 32 := 1#32
  let v387 : BitVec 32 := Scalar.subi v302 c1_i32_248
  let c0_i32_249 : BitVec 32 := 0#32
  let v388 : BitVec 32 := Scalar.maxsi v387 c0_i32_249
  let c512_i32_254 : BitVec 32 := 512#32
  let v391 : BitVec 32 := Scalar.muli v388 c512_i32_254
  let v392 : BitVec 32 := v391
  let v393 : Index := Scalar.indexCast v392
  let c0_257 : Index := 0#32
  ![0, 1, v393.toNat, 0]
def k0_mult7 (i : grid0.Coords) (k0_t1 : Fin (k0_t1_loop i).trips) : BitVec 32 :=
  let c2_i32_281 : BitVec 32 := 2#32
  let c0_i32_64 : BitVec 32 := 0#32
  let c1_i32_67 : BitVec 32 := 1#32
  let arg12 : BitVec 32 := Scf.iv c0_i32_64 c1_i32_67 k0_t1
  let v437 : BitVec 32 := Scalar.muli c2_i32_281 arg12
  let c1_i32_282 : BitVec 32 := 1#32
  let v438 : BitVec 32 := Scalar.addi v437 c1_i32_282
  let c1_i32_283 : BitVec 32 := 1#32
  let v439 : BitVec 32 := Scalar.addi v438 c1_i32_283
  let c512_i32_284 : BitVec 32 := 512#32
  let v440 : BitVec 32 := Scalar.muli v439 c512_i32_284
  v440
def k0_off5 (i : grid0.Coords) (k0_t1 : Fin (k0_t1_loop i).trips) : Fin 4 → Nat :=
  let c0_285 : Index := 0#32
  let c0_286 : Index := 0#32
  let c2_i32_281 : BitVec 32 := 2#32
  let c0_i32_64 : BitVec 32 := 0#32
  let c1_i32_67 : BitVec 32 := 1#32
  let arg12 : BitVec 32 := Scf.iv c0_i32_64 c1_i32_67 k0_t1
  let v437 : BitVec 32 := Scalar.muli c2_i32_281 arg12
  let c1_i32_282 : BitVec 32 := 1#32
  let v438 : BitVec 32 := Scalar.addi v437 c1_i32_282
  let c1_i32_283 : BitVec 32 := 1#32
  let v439 : BitVec 32 := Scalar.addi v438 c1_i32_283
  let c512_i32_284 : BitVec 32 := 512#32
  let v440 : BitVec 32 := Scalar.muli v439 c512_i32_284
  let v441 : BitVec 32 := v440
  let v442 : Index := Scalar.indexCast v441
  let c0_287 : Index := 0#32
  ![0, 0, v442.toNat, 0]
def k0_mult8 (i : grid0.Coords) (k0_t1 : Fin (k0_t1_loop i).trips) : BitVec 32 :=
  let c2_i32_281 : BitVec 32 := 2#32
  let c0_i32_64 : BitVec 32 := 0#32
  let c1_i32_67 : BitVec 32 := 1#32
  let arg12 : BitVec 32 := Scf.iv c0_i32_64 c1_i32_67 k0_t1
  let v437 : BitVec 32 := Scalar.muli c2_i32_281 arg12
  let c1_i32_282 : BitVec 32 := 1#32
  let v438 : BitVec 32 := Scalar.addi v437 c1_i32_282
  let c1_i32_304 : BitVec 32 := 1#32
  let v456 : BitVec 32 := Scalar.subi v438 c1_i32_304
  let c0_i32_305 : BitVec 32 := 0#32
  let v457 : BitVec 32 := Scalar.maxsi v456 c0_i32_305
  let c512_i32_310 : BitVec 32 := 512#32
  let v460 : BitVec 32 := Scalar.muli v457 c512_i32_310
  v460
def k0_off6 (i : grid0.Coords) (k0_t1 : Fin (k0_t1_loop i).trips) : Fin 4 → Nat :=
  let c0_311 : Index := 0#32
  let c0_312 : Index := 0#32
  let c2_i32_281 : BitVec 32 := 2#32
  let c0_i32_64 : BitVec 32 := 0#32
  let c1_i32_67 : BitVec 32 := 1#32
  let arg12 : BitVec 32 := Scf.iv c0_i32_64 c1_i32_67 k0_t1
  let v437 : BitVec 32 := Scalar.muli c2_i32_281 arg12
  let c1_i32_282 : BitVec 32 := 1#32
  let v438 : BitVec 32 := Scalar.addi v437 c1_i32_282
  let c1_i32_304 : BitVec 32 := 1#32
  let v456 : BitVec 32 := Scalar.subi v438 c1_i32_304
  let c0_i32_305 : BitVec 32 := 0#32
  let v457 : BitVec 32 := Scalar.maxsi v456 c0_i32_305
  let c512_i32_310 : BitVec 32 := 512#32
  let v460 : BitVec 32 := Scalar.muli v457 c512_i32_310
  let v461 : BitVec 32 := v460
  let v462 : Index := Scalar.indexCast v461
  let c0_313 : Index := 0#32
  ![0, 0, v462.toNat, 0]
def k0_mult9 (i : grid0.Coords) (k0_t1 : Fin (k0_t1_loop i).trips) : BitVec 32 :=
  let c2_i32_281 : BitVec 32 := 2#32
  let c0_i32_64 : BitVec 32 := 0#32
  let c1_i32_67 : BitVec 32 := 1#32
  let arg12 : BitVec 32 := Scf.iv c0_i32_64 c1_i32_67 k0_t1
  let v437 : BitVec 32 := Scalar.muli c2_i32_281 arg12
  let c1_i32_282 : BitVec 32 := 1#32
  let v438 : BitVec 32 := Scalar.addi v437 c1_i32_282
  let c1_i32_337 : BitVec 32 := 1#32
  let v506 : BitVec 32 := Scalar.addi v438 c1_i32_337
  let c512_i32_338 : BitVec 32 := 512#32
  let v507 : BitVec 32 := Scalar.muli v506 c512_i32_338
  v507
def k0_off7 (i : grid0.Coords) (k0_t1 : Fin (k0_t1_loop i).trips) : Fin 4 → Nat :=
  let c0_339 : Index := 0#32
  let c1_340 : Index := 1#32
  let c2_i32_281 : BitVec 32 := 2#32
  let c0_i32_64 : BitVec 32 := 0#32
  let c1_i32_67 : BitVec 32 := 1#32
  let arg12 : BitVec 32 := Scf.iv c0_i32_64 c1_i32_67 k0_t1
  let v437 : BitVec 32 := Scalar.muli c2_i32_281 arg12
  let c1_i32_282 : BitVec 32 := 1#32
  let v438 : BitVec 32 := Scalar.addi v437 c1_i32_282
  let c1_i32_337 : BitVec 32 := 1#32
  let v506 : BitVec 32 := Scalar.addi v438 c1_i32_337
  let c512_i32_338 : BitVec 32 := 512#32
  let v507 : BitVec 32 := Scalar.muli v506 c512_i32_338
  let v508 : BitVec 32 := v507
  let v509 : Index := Scalar.indexCast v508
  let c0_341 : Index := 0#32
  ![0, 1, v509.toNat, 0]
def k0_mult10 (i : grid0.Coords) (k0_t1 : Fin (k0_t1_loop i).trips) : BitVec 32 :=
  let c2_i32_281 : BitVec 32 := 2#32
  let c0_i32_64 : BitVec 32 := 0#32
  let c1_i32_67 : BitVec 32 := 1#32
  let arg12 : BitVec 32 := Scf.iv c0_i32_64 c1_i32_67 k0_t1
  let v437 : BitVec 32 := Scalar.muli c2_i32_281 arg12
  let c1_i32_282 : BitVec 32 := 1#32
  let v438 : BitVec 32 := Scalar.addi v437 c1_i32_282
  let c1_i32_358 : BitVec 32 := 1#32
  let v523 : BitVec 32 := Scalar.subi v438 c1_i32_358
  let c0_i32_359 : BitVec 32 := 0#32
  let v524 : BitVec 32 := Scalar.maxsi v523 c0_i32_359
  let c512_i32_364 : BitVec 32 := 512#32
  let v527 : BitVec 32 := Scalar.muli v524 c512_i32_364
  v527
def k0_off8 (i : grid0.Coords) (k0_t1 : Fin (k0_t1_loop i).trips) : Fin 4 → Nat :=
  let c0_365 : Index := 0#32
  let c1_366 : Index := 1#32
  let c2_i32_281 : BitVec 32 := 2#32
  let c0_i32_64 : BitVec 32 := 0#32
  let c1_i32_67 : BitVec 32 := 1#32
  let arg12 : BitVec 32 := Scf.iv c0_i32_64 c1_i32_67 k0_t1
  let v437 : BitVec 32 := Scalar.muli c2_i32_281 arg12
  let c1_i32_282 : BitVec 32 := 1#32
  let v438 : BitVec 32 := Scalar.addi v437 c1_i32_282
  let c1_i32_358 : BitVec 32 := 1#32
  let v523 : BitVec 32 := Scalar.subi v438 c1_i32_358
  let c0_i32_359 : BitVec 32 := 0#32
  let v524 : BitVec 32 := Scalar.maxsi v523 c0_i32_359
  let c512_i32_364 : BitVec 32 := 512#32
  let v527 : BitVec 32 := Scalar.muli v524 c512_i32_364
  let v528 : BitVec 32 := v527
  let v529 : Index := Scalar.indexCast v528
  let c0_367 : Index := 0#32
  ![0, 1, v529.toNat, 0]
@[reducible] def k0_t2_loop (i : grid0.Coords) : Scf.Loop 32 :=
  let c0_i32_64 : BitVec 32 := 0#32
  let arg2 : BitVec 32 := BitVec.ofNat 32 (i 2).val
  let c2_i32 : BitVec 32 := 2#32
  let v0 : BitVec 32 := Scalar.muli arg2 c2_i32
  let c0_i32_59 : BitVec 32 := 0#32
  let v54 : BitVec 1 := Scalar.cmpi .sgt v0 c0_i32_59
  let v55 : BitVec 32 := Scalar.extui v54
  let c0_i32_60 : BitVec 32 := 0#32
  let v56 : BitVec 1 := Scalar.cmpi .slt v0 c0_i32_60
  let v57 : BitVec 32 := Scalar.extui v56
  let v58 : BitVec 32 := Scalar.subi v55 v57
  let c2_i32_58 : BitVec 32 := 2#32
  let c0_i32_61 : BitVec 32 := 0#32
  let v59 : BitVec 1 := Scalar.cmpi .sgt c2_i32_58 c0_i32_61
  let v60 : BitVec 32 := Scalar.extui v59
  let c0_i32_62 : BitVec 32 := 0#32
  let v61 : BitVec 1 := Scalar.cmpi .slt c2_i32_58 c0_i32_62
  let v62 : BitVec 32 := Scalar.extui v61
  let v63 : BitVec 32 := Scalar.subi v60 v62
  let v64 : BitVec 1 := Scalar.cmpi .ne v58 v63
  let v65 : BitVec 32 := Scalar.remsi v0 c2_i32_58
  let c0_i32_63 : BitVec 32 := 0#32
  let v66 : BitVec 1 := Scalar.cmpi .ne v65 c0_i32_63
  let v67 : BitVec 1 := Scalar.andi v64 v66
  let v53 : BitVec 32 := Scalar.divsi v0 c2_i32_58
  let c1_i32 : BitVec 32 := 1#32
  let v68 : BitVec 32 := Scalar.subi v53 c1_i32
  let v69 : BitVec 32 := Scalar.select v67 v68 v53
  let v70 : BitVec 32 := Scalar.subi v69 c0_i32_64
  let c1_i32_66 : BitVec 32 := 1#32
  let v72 : BitVec 32 := Scalar.divsi v70 c1_i32_66
  let v73 : BitVec 32 := Scalar.muli v72 c1_i32_66
  let v74 : BitVec 32 := Scalar.addi c0_i32_64 v73
  let v71 : BitVec 32 := Scalar.addi c0_i32_64 v70
  let c1_i32_68 : BitVec 32 := 1#32
  ⟨v74, v71, c1_i32_68⟩
def k0_mult11 (i : grid0.Coords) (k0_t2 : Fin (k0_t2_loop i).trips) : BitVec 32 :=
  let c2_i32_172 : BitVec 32 := 2#32
  let c0_i32_64 : BitVec 32 := 0#32
  let arg2 : BitVec 32 := BitVec.ofNat 32 (i 2).val
  let c2_i32 : BitVec 32 := 2#32
  let v0 : BitVec 32 := Scalar.muli arg2 c2_i32
  let c0_i32_59 : BitVec 32 := 0#32
  let v54 : BitVec 1 := Scalar.cmpi .sgt v0 c0_i32_59
  let v55 : BitVec 32 := Scalar.extui v54
  let c0_i32_60 : BitVec 32 := 0#32
  let v56 : BitVec 1 := Scalar.cmpi .slt v0 c0_i32_60
  let v57 : BitVec 32 := Scalar.extui v56
  let v58 : BitVec 32 := Scalar.subi v55 v57
  let c2_i32_58 : BitVec 32 := 2#32
  let c0_i32_61 : BitVec 32 := 0#32
  let v59 : BitVec 1 := Scalar.cmpi .sgt c2_i32_58 c0_i32_61
  let v60 : BitVec 32 := Scalar.extui v59
  let c0_i32_62 : BitVec 32 := 0#32
  let v61 : BitVec 1 := Scalar.cmpi .slt c2_i32_58 c0_i32_62
  let v62 : BitVec 32 := Scalar.extui v61
  let v63 : BitVec 32 := Scalar.subi v60 v62
  let v64 : BitVec 1 := Scalar.cmpi .ne v58 v63
  let v65 : BitVec 32 := Scalar.remsi v0 c2_i32_58
  let c0_i32_63 : BitVec 32 := 0#32
  let v66 : BitVec 1 := Scalar.cmpi .ne v65 c0_i32_63
  let v67 : BitVec 1 := Scalar.andi v64 v66
  let v53 : BitVec 32 := Scalar.divsi v0 c2_i32_58
  let c1_i32 : BitVec 32 := 1#32
  let v68 : BitVec 32 := Scalar.subi v53 c1_i32
  let v69 : BitVec 32 := Scalar.select v67 v68 v53
  let v70 : BitVec 32 := Scalar.subi v69 c0_i32_64
  let c1_i32_66 : BitVec 32 := 1#32
  let v72 : BitVec 32 := Scalar.divsi v70 c1_i32_66
  let v73 : BitVec 32 := Scalar.muli v72 c1_i32_66
  let v74 : BitVec 32 := Scalar.addi c0_i32_64 v73
  let c1_i32_68 : BitVec 32 := 1#32
  let arg12 : BitVec 32 := Scf.iv v74 c1_i32_68 k0_t2
  let v302 : BitVec 32 := Scalar.muli c2_i32_172 arg12
  let c1_i32_173 : BitVec 32 := 1#32
  let v303 : BitVec 32 := Scalar.addi v302 c1_i32_173
  let c512_i32_174 : BitVec 32 := 512#32
  let v304 : BitVec 32 := Scalar.muli v303 c512_i32_174
  v304
def k0_off9 (i : grid0.Coords) (k0_t2 : Fin (k0_t2_loop i).trips) : Fin 4 → Nat :=
  let c0_175 : Index := 0#32
  let c0_176 : Index := 0#32
  let c2_i32_172 : BitVec 32 := 2#32
  let c0_i32_64 : BitVec 32 := 0#32
  let arg2 : BitVec 32 := BitVec.ofNat 32 (i 2).val
  let c2_i32 : BitVec 32 := 2#32
  let v0 : BitVec 32 := Scalar.muli arg2 c2_i32
  let c0_i32_59 : BitVec 32 := 0#32
  let v54 : BitVec 1 := Scalar.cmpi .sgt v0 c0_i32_59
  let v55 : BitVec 32 := Scalar.extui v54
  let c0_i32_60 : BitVec 32 := 0#32
  let v56 : BitVec 1 := Scalar.cmpi .slt v0 c0_i32_60
  let v57 : BitVec 32 := Scalar.extui v56
  let v58 : BitVec 32 := Scalar.subi v55 v57
  let c2_i32_58 : BitVec 32 := 2#32
  let c0_i32_61 : BitVec 32 := 0#32
  let v59 : BitVec 1 := Scalar.cmpi .sgt c2_i32_58 c0_i32_61
  let v60 : BitVec 32 := Scalar.extui v59
  let c0_i32_62 : BitVec 32 := 0#32
  let v61 : BitVec 1 := Scalar.cmpi .slt c2_i32_58 c0_i32_62
  let v62 : BitVec 32 := Scalar.extui v61
  let v63 : BitVec 32 := Scalar.subi v60 v62
  let v64 : BitVec 1 := Scalar.cmpi .ne v58 v63
  let v65 : BitVec 32 := Scalar.remsi v0 c2_i32_58
  let c0_i32_63 : BitVec 32 := 0#32
  let v66 : BitVec 1 := Scalar.cmpi .ne v65 c0_i32_63
  let v67 : BitVec 1 := Scalar.andi v64 v66
  let v53 : BitVec 32 := Scalar.divsi v0 c2_i32_58
  let c1_i32 : BitVec 32 := 1#32
  let v68 : BitVec 32 := Scalar.subi v53 c1_i32
  let v69 : BitVec 32 := Scalar.select v67 v68 v53
  let v70 : BitVec 32 := Scalar.subi v69 c0_i32_64
  let c1_i32_66 : BitVec 32 := 1#32
  let v72 : BitVec 32 := Scalar.divsi v70 c1_i32_66
  let v73 : BitVec 32 := Scalar.muli v72 c1_i32_66
  let v74 : BitVec 32 := Scalar.addi c0_i32_64 v73
  let c1_i32_68 : BitVec 32 := 1#32
  let arg12 : BitVec 32 := Scf.iv v74 c1_i32_68 k0_t2
  let v302 : BitVec 32 := Scalar.muli c2_i32_172 arg12
  let c1_i32_173 : BitVec 32 := 1#32
  let v303 : BitVec 32 := Scalar.addi v302 c1_i32_173
  let c512_i32_174 : BitVec 32 := 512#32
  let v304 : BitVec 32 := Scalar.muli v303 c512_i32_174
  let v305 : BitVec 32 := v304
  let v306 : Index := Scalar.indexCast v305
  let c0_177 : Index := 0#32
  ![0, 0, v306.toNat, 0]
def k0_mult12 (i : grid0.Coords) (k0_t2 : Fin (k0_t2_loop i).trips) : BitVec 32 :=
  let c2_i32_172 : BitVec 32 := 2#32
  let c0_i32_64 : BitVec 32 := 0#32
  let arg2 : BitVec 32 := BitVec.ofNat 32 (i 2).val
  let c2_i32 : BitVec 32 := 2#32
  let v0 : BitVec 32 := Scalar.muli arg2 c2_i32
  let c0_i32_59 : BitVec 32 := 0#32
  let v54 : BitVec 1 := Scalar.cmpi .sgt v0 c0_i32_59
  let v55 : BitVec 32 := Scalar.extui v54
  let c0_i32_60 : BitVec 32 := 0#32
  let v56 : BitVec 1 := Scalar.cmpi .slt v0 c0_i32_60
  let v57 : BitVec 32 := Scalar.extui v56
  let v58 : BitVec 32 := Scalar.subi v55 v57
  let c2_i32_58 : BitVec 32 := 2#32
  let c0_i32_61 : BitVec 32 := 0#32
  let v59 : BitVec 1 := Scalar.cmpi .sgt c2_i32_58 c0_i32_61
  let v60 : BitVec 32 := Scalar.extui v59
  let c0_i32_62 : BitVec 32 := 0#32
  let v61 : BitVec 1 := Scalar.cmpi .slt c2_i32_58 c0_i32_62
  let v62 : BitVec 32 := Scalar.extui v61
  let v63 : BitVec 32 := Scalar.subi v60 v62
  let v64 : BitVec 1 := Scalar.cmpi .ne v58 v63
  let v65 : BitVec 32 := Scalar.remsi v0 c2_i32_58
  let c0_i32_63 : BitVec 32 := 0#32
  let v66 : BitVec 1 := Scalar.cmpi .ne v65 c0_i32_63
  let v67 : BitVec 1 := Scalar.andi v64 v66
  let v53 : BitVec 32 := Scalar.divsi v0 c2_i32_58
  let c1_i32 : BitVec 32 := 1#32
  let v68 : BitVec 32 := Scalar.subi v53 c1_i32
  let v69 : BitVec 32 := Scalar.select v67 v68 v53
  let v70 : BitVec 32 := Scalar.subi v69 c0_i32_64
  let c1_i32_66 : BitVec 32 := 1#32
  let v72 : BitVec 32 := Scalar.divsi v70 c1_i32_66
  let v73 : BitVec 32 := Scalar.muli v72 c1_i32_66
  let v74 : BitVec 32 := Scalar.addi c0_i32_64 v73
  let c1_i32_68 : BitVec 32 := 1#32
  let arg12 : BitVec 32 := Scf.iv v74 c1_i32_68 k0_t2
  let v302 : BitVec 32 := Scalar.muli c2_i32_172 arg12
  let c1_i32_194 : BitVec 32 := 1#32
  let v320 : BitVec 32 := Scalar.subi v302 c1_i32_194
  let c0_i32_195 : BitVec 32 := 0#32
  let v321 : BitVec 32 := Scalar.maxsi v320 c0_i32_195
  let c512_i32_200 : BitVec 32 := 512#32
  let v324 : BitVec 32 := Scalar.muli v321 c512_i32_200
  v324
def k0_off10 (i : grid0.Coords) (k0_t2 : Fin (k0_t2_loop i).trips) : Fin 4 → Nat :=
  let c0_201 : Index := 0#32
  let c0_202 : Index := 0#32
  let c2_i32_172 : BitVec 32 := 2#32
  let c0_i32_64 : BitVec 32 := 0#32
  let arg2 : BitVec 32 := BitVec.ofNat 32 (i 2).val
  let c2_i32 : BitVec 32 := 2#32
  let v0 : BitVec 32 := Scalar.muli arg2 c2_i32
  let c0_i32_59 : BitVec 32 := 0#32
  let v54 : BitVec 1 := Scalar.cmpi .sgt v0 c0_i32_59
  let v55 : BitVec 32 := Scalar.extui v54
  let c0_i32_60 : BitVec 32 := 0#32
  let v56 : BitVec 1 := Scalar.cmpi .slt v0 c0_i32_60
  let v57 : BitVec 32 := Scalar.extui v56
  let v58 : BitVec 32 := Scalar.subi v55 v57
  let c2_i32_58 : BitVec 32 := 2#32
  let c0_i32_61 : BitVec 32 := 0#32
  let v59 : BitVec 1 := Scalar.cmpi .sgt c2_i32_58 c0_i32_61
  let v60 : BitVec 32 := Scalar.extui v59
  let c0_i32_62 : BitVec 32 := 0#32
  let v61 : BitVec 1 := Scalar.cmpi .slt c2_i32_58 c0_i32_62
  let v62 : BitVec 32 := Scalar.extui v61
  let v63 : BitVec 32 := Scalar.subi v60 v62
  let v64 : BitVec 1 := Scalar.cmpi .ne v58 v63
  let v65 : BitVec 32 := Scalar.remsi v0 c2_i32_58
  let c0_i32_63 : BitVec 32 := 0#32
  let v66 : BitVec 1 := Scalar.cmpi .ne v65 c0_i32_63
  let v67 : BitVec 1 := Scalar.andi v64 v66
  let v53 : BitVec 32 := Scalar.divsi v0 c2_i32_58
  let c1_i32 : BitVec 32 := 1#32
  let v68 : BitVec 32 := Scalar.subi v53 c1_i32
  let v69 : BitVec 32 := Scalar.select v67 v68 v53
  let v70 : BitVec 32 := Scalar.subi v69 c0_i32_64
  let c1_i32_66 : BitVec 32 := 1#32
  let v72 : BitVec 32 := Scalar.divsi v70 c1_i32_66
  let v73 : BitVec 32 := Scalar.muli v72 c1_i32_66
  let v74 : BitVec 32 := Scalar.addi c0_i32_64 v73
  let c1_i32_68 : BitVec 32 := 1#32
  let arg12 : BitVec 32 := Scf.iv v74 c1_i32_68 k0_t2
  let v302 : BitVec 32 := Scalar.muli c2_i32_172 arg12
  let c1_i32_194 : BitVec 32 := 1#32
  let v320 : BitVec 32 := Scalar.subi v302 c1_i32_194
  let c0_i32_195 : BitVec 32 := 0#32
  let v321 : BitVec 32 := Scalar.maxsi v320 c0_i32_195
  let c512_i32_200 : BitVec 32 := 512#32
  let v324 : BitVec 32 := Scalar.muli v321 c512_i32_200
  let v325 : BitVec 32 := v324
  let v326 : Index := Scalar.indexCast v325
  let c0_203 : Index := 0#32
  ![0, 0, v326.toNat, 0]
def k0_mult13 (i : grid0.Coords) (k0_t2 : Fin (k0_t2_loop i).trips) : BitVec 32 :=
  let c2_i32_172 : BitVec 32 := 2#32
  let c0_i32_64 : BitVec 32 := 0#32
  let arg2 : BitVec 32 := BitVec.ofNat 32 (i 2).val
  let c2_i32 : BitVec 32 := 2#32
  let v0 : BitVec 32 := Scalar.muli arg2 c2_i32
  let c0_i32_59 : BitVec 32 := 0#32
  let v54 : BitVec 1 := Scalar.cmpi .sgt v0 c0_i32_59
  let v55 : BitVec 32 := Scalar.extui v54
  let c0_i32_60 : BitVec 32 := 0#32
  let v56 : BitVec 1 := Scalar.cmpi .slt v0 c0_i32_60
  let v57 : BitVec 32 := Scalar.extui v56
  let v58 : BitVec 32 := Scalar.subi v55 v57
  let c2_i32_58 : BitVec 32 := 2#32
  let c0_i32_61 : BitVec 32 := 0#32
  let v59 : BitVec 1 := Scalar.cmpi .sgt c2_i32_58 c0_i32_61
  let v60 : BitVec 32 := Scalar.extui v59
  let c0_i32_62 : BitVec 32 := 0#32
  let v61 : BitVec 1 := Scalar.cmpi .slt c2_i32_58 c0_i32_62
  let v62 : BitVec 32 := Scalar.extui v61
  let v63 : BitVec 32 := Scalar.subi v60 v62
  let v64 : BitVec 1 := Scalar.cmpi .ne v58 v63
  let v65 : BitVec 32 := Scalar.remsi v0 c2_i32_58
  let c0_i32_63 : BitVec 32 := 0#32
  let v66 : BitVec 1 := Scalar.cmpi .ne v65 c0_i32_63
  let v67 : BitVec 1 := Scalar.andi v64 v66
  let v53 : BitVec 32 := Scalar.divsi v0 c2_i32_58
  let c1_i32 : BitVec 32 := 1#32
  let v68 : BitVec 32 := Scalar.subi v53 c1_i32
  let v69 : BitVec 32 := Scalar.select v67 v68 v53
  let v70 : BitVec 32 := Scalar.subi v69 c0_i32_64
  let c1_i32_66 : BitVec 32 := 1#32
  let v72 : BitVec 32 := Scalar.divsi v70 c1_i32_66
  let v73 : BitVec 32 := Scalar.muli v72 c1_i32_66
  let v74 : BitVec 32 := Scalar.addi c0_i32_64 v73
  let c1_i32_68 : BitVec 32 := 1#32
  let arg12 : BitVec 32 := Scf.iv v74 c1_i32_68 k0_t2
  let v302 : BitVec 32 := Scalar.muli c2_i32_172 arg12
  let c1_i32_227 : BitVec 32 := 1#32
  let v370 : BitVec 32 := Scalar.addi v302 c1_i32_227
  let c512_i32_228 : BitVec 32 := 512#32
  let v371 : BitVec 32 := Scalar.muli v370 c512_i32_228
  v371
def k0_off11 (i : grid0.Coords) (k0_t2 : Fin (k0_t2_loop i).trips) : Fin 4 → Nat :=
  let c0_229 : Index := 0#32
  let c1_230 : Index := 1#32
  let c2_i32_172 : BitVec 32 := 2#32
  let c0_i32_64 : BitVec 32 := 0#32
  let arg2 : BitVec 32 := BitVec.ofNat 32 (i 2).val
  let c2_i32 : BitVec 32 := 2#32
  let v0 : BitVec 32 := Scalar.muli arg2 c2_i32
  let c0_i32_59 : BitVec 32 := 0#32
  let v54 : BitVec 1 := Scalar.cmpi .sgt v0 c0_i32_59
  let v55 : BitVec 32 := Scalar.extui v54
  let c0_i32_60 : BitVec 32 := 0#32
  let v56 : BitVec 1 := Scalar.cmpi .slt v0 c0_i32_60
  let v57 : BitVec 32 := Scalar.extui v56
  let v58 : BitVec 32 := Scalar.subi v55 v57
  let c2_i32_58 : BitVec 32 := 2#32
  let c0_i32_61 : BitVec 32 := 0#32
  let v59 : BitVec 1 := Scalar.cmpi .sgt c2_i32_58 c0_i32_61
  let v60 : BitVec 32 := Scalar.extui v59
  let c0_i32_62 : BitVec 32 := 0#32
  let v61 : BitVec 1 := Scalar.cmpi .slt c2_i32_58 c0_i32_62
  let v62 : BitVec 32 := Scalar.extui v61
  let v63 : BitVec 32 := Scalar.subi v60 v62
  let v64 : BitVec 1 := Scalar.cmpi .ne v58 v63
  let v65 : BitVec 32 := Scalar.remsi v0 c2_i32_58
  let c0_i32_63 : BitVec 32 := 0#32
  let v66 : BitVec 1 := Scalar.cmpi .ne v65 c0_i32_63
  let v67 : BitVec 1 := Scalar.andi v64 v66
  let v53 : BitVec 32 := Scalar.divsi v0 c2_i32_58
  let c1_i32 : BitVec 32 := 1#32
  let v68 : BitVec 32 := Scalar.subi v53 c1_i32
  let v69 : BitVec 32 := Scalar.select v67 v68 v53
  let v70 : BitVec 32 := Scalar.subi v69 c0_i32_64
  let c1_i32_66 : BitVec 32 := 1#32
  let v72 : BitVec 32 := Scalar.divsi v70 c1_i32_66
  let v73 : BitVec 32 := Scalar.muli v72 c1_i32_66
  let v74 : BitVec 32 := Scalar.addi c0_i32_64 v73
  let c1_i32_68 : BitVec 32 := 1#32
  let arg12 : BitVec 32 := Scf.iv v74 c1_i32_68 k0_t2
  let v302 : BitVec 32 := Scalar.muli c2_i32_172 arg12
  let c1_i32_227 : BitVec 32 := 1#32
  let v370 : BitVec 32 := Scalar.addi v302 c1_i32_227
  let c512_i32_228 : BitVec 32 := 512#32
  let v371 : BitVec 32 := Scalar.muli v370 c512_i32_228
  let v372 : BitVec 32 := v371
  let v373 : Index := Scalar.indexCast v372
  let c0_231 : Index := 0#32
  ![0, 1, v373.toNat, 0]
def k0_mult14 (i : grid0.Coords) (k0_t2 : Fin (k0_t2_loop i).trips) : BitVec 32 :=
  let c2_i32_172 : BitVec 32 := 2#32
  let c0_i32_64 : BitVec 32 := 0#32
  let arg2 : BitVec 32 := BitVec.ofNat 32 (i 2).val
  let c2_i32 : BitVec 32 := 2#32
  let v0 : BitVec 32 := Scalar.muli arg2 c2_i32
  let c0_i32_59 : BitVec 32 := 0#32
  let v54 : BitVec 1 := Scalar.cmpi .sgt v0 c0_i32_59
  let v55 : BitVec 32 := Scalar.extui v54
  let c0_i32_60 : BitVec 32 := 0#32
  let v56 : BitVec 1 := Scalar.cmpi .slt v0 c0_i32_60
  let v57 : BitVec 32 := Scalar.extui v56
  let v58 : BitVec 32 := Scalar.subi v55 v57
  let c2_i32_58 : BitVec 32 := 2#32
  let c0_i32_61 : BitVec 32 := 0#32
  let v59 : BitVec 1 := Scalar.cmpi .sgt c2_i32_58 c0_i32_61
  let v60 : BitVec 32 := Scalar.extui v59
  let c0_i32_62 : BitVec 32 := 0#32
  let v61 : BitVec 1 := Scalar.cmpi .slt c2_i32_58 c0_i32_62
  let v62 : BitVec 32 := Scalar.extui v61
  let v63 : BitVec 32 := Scalar.subi v60 v62
  let v64 : BitVec 1 := Scalar.cmpi .ne v58 v63
  let v65 : BitVec 32 := Scalar.remsi v0 c2_i32_58
  let c0_i32_63 : BitVec 32 := 0#32
  let v66 : BitVec 1 := Scalar.cmpi .ne v65 c0_i32_63
  let v67 : BitVec 1 := Scalar.andi v64 v66
  let v53 : BitVec 32 := Scalar.divsi v0 c2_i32_58
  let c1_i32 : BitVec 32 := 1#32
  let v68 : BitVec 32 := Scalar.subi v53 c1_i32
  let v69 : BitVec 32 := Scalar.select v67 v68 v53
  let v70 : BitVec 32 := Scalar.subi v69 c0_i32_64
  let c1_i32_66 : BitVec 32 := 1#32
  let v72 : BitVec 32 := Scalar.divsi v70 c1_i32_66
  let v73 : BitVec 32 := Scalar.muli v72 c1_i32_66
  let v74 : BitVec 32 := Scalar.addi c0_i32_64 v73
  let c1_i32_68 : BitVec 32 := 1#32
  let arg12 : BitVec 32 := Scf.iv v74 c1_i32_68 k0_t2
  let v302 : BitVec 32 := Scalar.muli c2_i32_172 arg12
  let c1_i32_248 : BitVec 32 := 1#32
  let v387 : BitVec 32 := Scalar.subi v302 c1_i32_248
  let c0_i32_249 : BitVec 32 := 0#32
  let v388 : BitVec 32 := Scalar.maxsi v387 c0_i32_249
  let c512_i32_254 : BitVec 32 := 512#32
  let v391 : BitVec 32 := Scalar.muli v388 c512_i32_254
  v391
def k0_off12 (i : grid0.Coords) (k0_t2 : Fin (k0_t2_loop i).trips) : Fin 4 → Nat :=
  let c0_255 : Index := 0#32
  let c1_256 : Index := 1#32
  let c2_i32_172 : BitVec 32 := 2#32
  let c0_i32_64 : BitVec 32 := 0#32
  let arg2 : BitVec 32 := BitVec.ofNat 32 (i 2).val
  let c2_i32 : BitVec 32 := 2#32
  let v0 : BitVec 32 := Scalar.muli arg2 c2_i32
  let c0_i32_59 : BitVec 32 := 0#32
  let v54 : BitVec 1 := Scalar.cmpi .sgt v0 c0_i32_59
  let v55 : BitVec 32 := Scalar.extui v54
  let c0_i32_60 : BitVec 32 := 0#32
  let v56 : BitVec 1 := Scalar.cmpi .slt v0 c0_i32_60
  let v57 : BitVec 32 := Scalar.extui v56
  let v58 : BitVec 32 := Scalar.subi v55 v57
  let c2_i32_58 : BitVec 32 := 2#32
  let c0_i32_61 : BitVec 32 := 0#32
  let v59 : BitVec 1 := Scalar.cmpi .sgt c2_i32_58 c0_i32_61
  let v60 : BitVec 32 := Scalar.extui v59
  let c0_i32_62 : BitVec 32 := 0#32
  let v61 : BitVec 1 := Scalar.cmpi .slt c2_i32_58 c0_i32_62
  let v62 : BitVec 32 := Scalar.extui v61
  let v63 : BitVec 32 := Scalar.subi v60 v62
  let v64 : BitVec 1 := Scalar.cmpi .ne v58 v63
  let v65 : BitVec 32 := Scalar.remsi v0 c2_i32_58
  let c0_i32_63 : BitVec 32 := 0#32
  let v66 : BitVec 1 := Scalar.cmpi .ne v65 c0_i32_63
  let v67 : BitVec 1 := Scalar.andi v64 v66
  let v53 : BitVec 32 := Scalar.divsi v0 c2_i32_58
  let c1_i32 : BitVec 32 := 1#32
  let v68 : BitVec 32 := Scalar.subi v53 c1_i32
  let v69 : BitVec 32 := Scalar.select v67 v68 v53
  let v70 : BitVec 32 := Scalar.subi v69 c0_i32_64
  let c1_i32_66 : BitVec 32 := 1#32
  let v72 : BitVec 32 := Scalar.divsi v70 c1_i32_66
  let v73 : BitVec 32 := Scalar.muli v72 c1_i32_66
  let v74 : BitVec 32 := Scalar.addi c0_i32_64 v73
  let c1_i32_68 : BitVec 32 := 1#32
  let arg12 : BitVec 32 := Scf.iv v74 c1_i32_68 k0_t2
  let v302 : BitVec 32 := Scalar.muli c2_i32_172 arg12
  let c1_i32_248 : BitVec 32 := 1#32
  let v387 : BitVec 32 := Scalar.subi v302 c1_i32_248
  let c0_i32_249 : BitVec 32 := 0#32
  let v388 : BitVec 32 := Scalar.maxsi v387 c0_i32_249
  let c512_i32_254 : BitVec 32 := 512#32
  let v391 : BitVec 32 := Scalar.muli v388 c512_i32_254
  let v392 : BitVec 32 := v391
  let v393 : Index := Scalar.indexCast v392
  let c0_257 : Index := 0#32
  ![0, 1, v393.toNat, 0]
def k0_mult15 (i : grid0.Coords) (k0_t2 : Fin (k0_t2_loop i).trips) : BitVec 32 :=
  let c2_i32_281 : BitVec 32 := 2#32
  let c0_i32_64 : BitVec 32 := 0#32
  let arg2 : BitVec 32 := BitVec.ofNat 32 (i 2).val
  let c2_i32 : BitVec 32 := 2#32
  let v0 : BitVec 32 := Scalar.muli arg2 c2_i32
  let c0_i32_59 : BitVec 32 := 0#32
  let v54 : BitVec 1 := Scalar.cmpi .sgt v0 c0_i32_59
  let v55 : BitVec 32 := Scalar.extui v54
  let c0_i32_60 : BitVec 32 := 0#32
  let v56 : BitVec 1 := Scalar.cmpi .slt v0 c0_i32_60
  let v57 : BitVec 32 := Scalar.extui v56
  let v58 : BitVec 32 := Scalar.subi v55 v57
  let c2_i32_58 : BitVec 32 := 2#32
  let c0_i32_61 : BitVec 32 := 0#32
  let v59 : BitVec 1 := Scalar.cmpi .sgt c2_i32_58 c0_i32_61
  let v60 : BitVec 32 := Scalar.extui v59
  let c0_i32_62 : BitVec 32 := 0#32
  let v61 : BitVec 1 := Scalar.cmpi .slt c2_i32_58 c0_i32_62
  let v62 : BitVec 32 := Scalar.extui v61
  let v63 : BitVec 32 := Scalar.subi v60 v62
  let v64 : BitVec 1 := Scalar.cmpi .ne v58 v63
  let v65 : BitVec 32 := Scalar.remsi v0 c2_i32_58
  let c0_i32_63 : BitVec 32 := 0#32
  let v66 : BitVec 1 := Scalar.cmpi .ne v65 c0_i32_63
  let v67 : BitVec 1 := Scalar.andi v64 v66
  let v53 : BitVec 32 := Scalar.divsi v0 c2_i32_58
  let c1_i32 : BitVec 32 := 1#32
  let v68 : BitVec 32 := Scalar.subi v53 c1_i32
  let v69 : BitVec 32 := Scalar.select v67 v68 v53
  let v70 : BitVec 32 := Scalar.subi v69 c0_i32_64
  let c1_i32_66 : BitVec 32 := 1#32
  let v72 : BitVec 32 := Scalar.divsi v70 c1_i32_66
  let v73 : BitVec 32 := Scalar.muli v72 c1_i32_66
  let v74 : BitVec 32 := Scalar.addi c0_i32_64 v73
  let c1_i32_68 : BitVec 32 := 1#32
  let arg12 : BitVec 32 := Scf.iv v74 c1_i32_68 k0_t2
  let v437 : BitVec 32 := Scalar.muli c2_i32_281 arg12
  let c1_i32_282 : BitVec 32 := 1#32
  let v438 : BitVec 32 := Scalar.addi v437 c1_i32_282
  let c1_i32_283 : BitVec 32 := 1#32
  let v439 : BitVec 32 := Scalar.addi v438 c1_i32_283
  let c512_i32_284 : BitVec 32 := 512#32
  let v440 : BitVec 32 := Scalar.muli v439 c512_i32_284
  v440
def k0_off13 (i : grid0.Coords) (k0_t2 : Fin (k0_t2_loop i).trips) : Fin 4 → Nat :=
  let c0_285 : Index := 0#32
  let c0_286 : Index := 0#32
  let c2_i32_281 : BitVec 32 := 2#32
  let c0_i32_64 : BitVec 32 := 0#32
  let arg2 : BitVec 32 := BitVec.ofNat 32 (i 2).val
  let c2_i32 : BitVec 32 := 2#32
  let v0 : BitVec 32 := Scalar.muli arg2 c2_i32
  let c0_i32_59 : BitVec 32 := 0#32
  let v54 : BitVec 1 := Scalar.cmpi .sgt v0 c0_i32_59
  let v55 : BitVec 32 := Scalar.extui v54
  let c0_i32_60 : BitVec 32 := 0#32
  let v56 : BitVec 1 := Scalar.cmpi .slt v0 c0_i32_60
  let v57 : BitVec 32 := Scalar.extui v56
  let v58 : BitVec 32 := Scalar.subi v55 v57
  let c2_i32_58 : BitVec 32 := 2#32
  let c0_i32_61 : BitVec 32 := 0#32
  let v59 : BitVec 1 := Scalar.cmpi .sgt c2_i32_58 c0_i32_61
  let v60 : BitVec 32 := Scalar.extui v59
  let c0_i32_62 : BitVec 32 := 0#32
  let v61 : BitVec 1 := Scalar.cmpi .slt c2_i32_58 c0_i32_62
  let v62 : BitVec 32 := Scalar.extui v61
  let v63 : BitVec 32 := Scalar.subi v60 v62
  let v64 : BitVec 1 := Scalar.cmpi .ne v58 v63
  let v65 : BitVec 32 := Scalar.remsi v0 c2_i32_58
  let c0_i32_63 : BitVec 32 := 0#32
  let v66 : BitVec 1 := Scalar.cmpi .ne v65 c0_i32_63
  let v67 : BitVec 1 := Scalar.andi v64 v66
  let v53 : BitVec 32 := Scalar.divsi v0 c2_i32_58
  let c1_i32 : BitVec 32 := 1#32
  let v68 : BitVec 32 := Scalar.subi v53 c1_i32
  let v69 : BitVec 32 := Scalar.select v67 v68 v53
  let v70 : BitVec 32 := Scalar.subi v69 c0_i32_64
  let c1_i32_66 : BitVec 32 := 1#32
  let v72 : BitVec 32 := Scalar.divsi v70 c1_i32_66
  let v73 : BitVec 32 := Scalar.muli v72 c1_i32_66
  let v74 : BitVec 32 := Scalar.addi c0_i32_64 v73
  let c1_i32_68 : BitVec 32 := 1#32
  let arg12 : BitVec 32 := Scf.iv v74 c1_i32_68 k0_t2
  let v437 : BitVec 32 := Scalar.muli c2_i32_281 arg12
  let c1_i32_282 : BitVec 32 := 1#32
  let v438 : BitVec 32 := Scalar.addi v437 c1_i32_282
  let c1_i32_283 : BitVec 32 := 1#32
  let v439 : BitVec 32 := Scalar.addi v438 c1_i32_283
  let c512_i32_284 : BitVec 32 := 512#32
  let v440 : BitVec 32 := Scalar.muli v439 c512_i32_284
  let v441 : BitVec 32 := v440
  let v442 : Index := Scalar.indexCast v441
  let c0_287 : Index := 0#32
  ![0, 0, v442.toNat, 0]
def k0_mult16 (i : grid0.Coords) (k0_t2 : Fin (k0_t2_loop i).trips) : BitVec 32 :=
  let c2_i32_281 : BitVec 32 := 2#32
  let c0_i32_64 : BitVec 32 := 0#32
  let arg2 : BitVec 32 := BitVec.ofNat 32 (i 2).val
  let c2_i32 : BitVec 32 := 2#32
  let v0 : BitVec 32 := Scalar.muli arg2 c2_i32
  let c0_i32_59 : BitVec 32 := 0#32
  let v54 : BitVec 1 := Scalar.cmpi .sgt v0 c0_i32_59
  let v55 : BitVec 32 := Scalar.extui v54
  let c0_i32_60 : BitVec 32 := 0#32
  let v56 : BitVec 1 := Scalar.cmpi .slt v0 c0_i32_60
  let v57 : BitVec 32 := Scalar.extui v56
  let v58 : BitVec 32 := Scalar.subi v55 v57
  let c2_i32_58 : BitVec 32 := 2#32
  let c0_i32_61 : BitVec 32 := 0#32
  let v59 : BitVec 1 := Scalar.cmpi .sgt c2_i32_58 c0_i32_61
  let v60 : BitVec 32 := Scalar.extui v59
  let c0_i32_62 : BitVec 32 := 0#32
  let v61 : BitVec 1 := Scalar.cmpi .slt c2_i32_58 c0_i32_62
  let v62 : BitVec 32 := Scalar.extui v61
  let v63 : BitVec 32 := Scalar.subi v60 v62
  let v64 : BitVec 1 := Scalar.cmpi .ne v58 v63
  let v65 : BitVec 32 := Scalar.remsi v0 c2_i32_58
  let c0_i32_63 : BitVec 32 := 0#32
  let v66 : BitVec 1 := Scalar.cmpi .ne v65 c0_i32_63
  let v67 : BitVec 1 := Scalar.andi v64 v66
  let v53 : BitVec 32 := Scalar.divsi v0 c2_i32_58
  let c1_i32 : BitVec 32 := 1#32
  let v68 : BitVec 32 := Scalar.subi v53 c1_i32
  let v69 : BitVec 32 := Scalar.select v67 v68 v53
  let v70 : BitVec 32 := Scalar.subi v69 c0_i32_64
  let c1_i32_66 : BitVec 32 := 1#32
  let v72 : BitVec 32 := Scalar.divsi v70 c1_i32_66
  let v73 : BitVec 32 := Scalar.muli v72 c1_i32_66
  let v74 : BitVec 32 := Scalar.addi c0_i32_64 v73
  let c1_i32_68 : BitVec 32 := 1#32
  let arg12 : BitVec 32 := Scf.iv v74 c1_i32_68 k0_t2
  let v437 : BitVec 32 := Scalar.muli c2_i32_281 arg12
  let c1_i32_282 : BitVec 32 := 1#32
  let v438 : BitVec 32 := Scalar.addi v437 c1_i32_282
  let c1_i32_304 : BitVec 32 := 1#32
  let v456 : BitVec 32 := Scalar.subi v438 c1_i32_304
  let c0_i32_305 : BitVec 32 := 0#32
  let v457 : BitVec 32 := Scalar.maxsi v456 c0_i32_305
  let c512_i32_310 : BitVec 32 := 512#32
  let v460 : BitVec 32 := Scalar.muli v457 c512_i32_310
  v460
def k0_off14 (i : grid0.Coords) (k0_t2 : Fin (k0_t2_loop i).trips) : Fin 4 → Nat :=
  let c0_311 : Index := 0#32
  let c0_312 : Index := 0#32
  let c2_i32_281 : BitVec 32 := 2#32
  let c0_i32_64 : BitVec 32 := 0#32
  let arg2 : BitVec 32 := BitVec.ofNat 32 (i 2).val
  let c2_i32 : BitVec 32 := 2#32
  let v0 : BitVec 32 := Scalar.muli arg2 c2_i32
  let c0_i32_59 : BitVec 32 := 0#32
  let v54 : BitVec 1 := Scalar.cmpi .sgt v0 c0_i32_59
  let v55 : BitVec 32 := Scalar.extui v54
  let c0_i32_60 : BitVec 32 := 0#32
  let v56 : BitVec 1 := Scalar.cmpi .slt v0 c0_i32_60
  let v57 : BitVec 32 := Scalar.extui v56
  let v58 : BitVec 32 := Scalar.subi v55 v57
  let c2_i32_58 : BitVec 32 := 2#32
  let c0_i32_61 : BitVec 32 := 0#32
  let v59 : BitVec 1 := Scalar.cmpi .sgt c2_i32_58 c0_i32_61
  let v60 : BitVec 32 := Scalar.extui v59
  let c0_i32_62 : BitVec 32 := 0#32
  let v61 : BitVec 1 := Scalar.cmpi .slt c2_i32_58 c0_i32_62
  let v62 : BitVec 32 := Scalar.extui v61
  let v63 : BitVec 32 := Scalar.subi v60 v62
  let v64 : BitVec 1 := Scalar.cmpi .ne v58 v63
  let v65 : BitVec 32 := Scalar.remsi v0 c2_i32_58
  let c0_i32_63 : BitVec 32 := 0#32
  let v66 : BitVec 1 := Scalar.cmpi .ne v65 c0_i32_63
  let v67 : BitVec 1 := Scalar.andi v64 v66
  let v53 : BitVec 32 := Scalar.divsi v0 c2_i32_58
  let c1_i32 : BitVec 32 := 1#32
  let v68 : BitVec 32 := Scalar.subi v53 c1_i32
  let v69 : BitVec 32 := Scalar.select v67 v68 v53
  let v70 : BitVec 32 := Scalar.subi v69 c0_i32_64
  let c1_i32_66 : BitVec 32 := 1#32
  let v72 : BitVec 32 := Scalar.divsi v70 c1_i32_66
  let v73 : BitVec 32 := Scalar.muli v72 c1_i32_66
  let v74 : BitVec 32 := Scalar.addi c0_i32_64 v73
  let c1_i32_68 : BitVec 32 := 1#32
  let arg12 : BitVec 32 := Scf.iv v74 c1_i32_68 k0_t2
  let v437 : BitVec 32 := Scalar.muli c2_i32_281 arg12
  let c1_i32_282 : BitVec 32 := 1#32
  let v438 : BitVec 32 := Scalar.addi v437 c1_i32_282
  let c1_i32_304 : BitVec 32 := 1#32
  let v456 : BitVec 32 := Scalar.subi v438 c1_i32_304
  let c0_i32_305 : BitVec 32 := 0#32
  let v457 : BitVec 32 := Scalar.maxsi v456 c0_i32_305
  let c512_i32_310 : BitVec 32 := 512#32
  let v460 : BitVec 32 := Scalar.muli v457 c512_i32_310
  let v461 : BitVec 32 := v460
  let v462 : Index := Scalar.indexCast v461
  let c0_313 : Index := 0#32
  ![0, 0, v462.toNat, 0]
def k0_mult17 (i : grid0.Coords) (k0_t2 : Fin (k0_t2_loop i).trips) : BitVec 32 :=
  let c2_i32_281 : BitVec 32 := 2#32
  let c0_i32_64 : BitVec 32 := 0#32
  let arg2 : BitVec 32 := BitVec.ofNat 32 (i 2).val
  let c2_i32 : BitVec 32 := 2#32
  let v0 : BitVec 32 := Scalar.muli arg2 c2_i32
  let c0_i32_59 : BitVec 32 := 0#32
  let v54 : BitVec 1 := Scalar.cmpi .sgt v0 c0_i32_59
  let v55 : BitVec 32 := Scalar.extui v54
  let c0_i32_60 : BitVec 32 := 0#32
  let v56 : BitVec 1 := Scalar.cmpi .slt v0 c0_i32_60
  let v57 : BitVec 32 := Scalar.extui v56
  let v58 : BitVec 32 := Scalar.subi v55 v57
  let c2_i32_58 : BitVec 32 := 2#32
  let c0_i32_61 : BitVec 32 := 0#32
  let v59 : BitVec 1 := Scalar.cmpi .sgt c2_i32_58 c0_i32_61
  let v60 : BitVec 32 := Scalar.extui v59
  let c0_i32_62 : BitVec 32 := 0#32
  let v61 : BitVec 1 := Scalar.cmpi .slt c2_i32_58 c0_i32_62
  let v62 : BitVec 32 := Scalar.extui v61
  let v63 : BitVec 32 := Scalar.subi v60 v62
  let v64 : BitVec 1 := Scalar.cmpi .ne v58 v63
  let v65 : BitVec 32 := Scalar.remsi v0 c2_i32_58
  let c0_i32_63 : BitVec 32 := 0#32
  let v66 : BitVec 1 := Scalar.cmpi .ne v65 c0_i32_63
  let v67 : BitVec 1 := Scalar.andi v64 v66
  let v53 : BitVec 32 := Scalar.divsi v0 c2_i32_58
  let c1_i32 : BitVec 32 := 1#32
  let v68 : BitVec 32 := Scalar.subi v53 c1_i32
  let v69 : BitVec 32 := Scalar.select v67 v68 v53
  let v70 : BitVec 32 := Scalar.subi v69 c0_i32_64
  let c1_i32_66 : BitVec 32 := 1#32
  let v72 : BitVec 32 := Scalar.divsi v70 c1_i32_66
  let v73 : BitVec 32 := Scalar.muli v72 c1_i32_66
  let v74 : BitVec 32 := Scalar.addi c0_i32_64 v73
  let c1_i32_68 : BitVec 32 := 1#32
  let arg12 : BitVec 32 := Scf.iv v74 c1_i32_68 k0_t2
  let v437 : BitVec 32 := Scalar.muli c2_i32_281 arg12
  let c1_i32_282 : BitVec 32 := 1#32
  let v438 : BitVec 32 := Scalar.addi v437 c1_i32_282
  let c1_i32_337 : BitVec 32 := 1#32
  let v506 : BitVec 32 := Scalar.addi v438 c1_i32_337
  let c512_i32_338 : BitVec 32 := 512#32
  let v507 : BitVec 32 := Scalar.muli v506 c512_i32_338
  v507
def k0_off15 (i : grid0.Coords) (k0_t2 : Fin (k0_t2_loop i).trips) : Fin 4 → Nat :=
  let c0_339 : Index := 0#32
  let c1_340 : Index := 1#32
  let c2_i32_281 : BitVec 32 := 2#32
  let c0_i32_64 : BitVec 32 := 0#32
  let arg2 : BitVec 32 := BitVec.ofNat 32 (i 2).val
  let c2_i32 : BitVec 32 := 2#32
  let v0 : BitVec 32 := Scalar.muli arg2 c2_i32
  let c0_i32_59 : BitVec 32 := 0#32
  let v54 : BitVec 1 := Scalar.cmpi .sgt v0 c0_i32_59
  let v55 : BitVec 32 := Scalar.extui v54
  let c0_i32_60 : BitVec 32 := 0#32
  let v56 : BitVec 1 := Scalar.cmpi .slt v0 c0_i32_60
  let v57 : BitVec 32 := Scalar.extui v56
  let v58 : BitVec 32 := Scalar.subi v55 v57
  let c2_i32_58 : BitVec 32 := 2#32
  let c0_i32_61 : BitVec 32 := 0#32
  let v59 : BitVec 1 := Scalar.cmpi .sgt c2_i32_58 c0_i32_61
  let v60 : BitVec 32 := Scalar.extui v59
  let c0_i32_62 : BitVec 32 := 0#32
  let v61 : BitVec 1 := Scalar.cmpi .slt c2_i32_58 c0_i32_62
  let v62 : BitVec 32 := Scalar.extui v61
  let v63 : BitVec 32 := Scalar.subi v60 v62
  let v64 : BitVec 1 := Scalar.cmpi .ne v58 v63
  let v65 : BitVec 32 := Scalar.remsi v0 c2_i32_58
  let c0_i32_63 : BitVec 32 := 0#32
  let v66 : BitVec 1 := Scalar.cmpi .ne v65 c0_i32_63
  let v67 : BitVec 1 := Scalar.andi v64 v66
  let v53 : BitVec 32 := Scalar.divsi v0 c2_i32_58
  let c1_i32 : BitVec 32 := 1#32
  let v68 : BitVec 32 := Scalar.subi v53 c1_i32
  let v69 : BitVec 32 := Scalar.select v67 v68 v53
  let v70 : BitVec 32 := Scalar.subi v69 c0_i32_64
  let c1_i32_66 : BitVec 32 := 1#32
  let v72 : BitVec 32 := Scalar.divsi v70 c1_i32_66
  let v73 : BitVec 32 := Scalar.muli v72 c1_i32_66
  let v74 : BitVec 32 := Scalar.addi c0_i32_64 v73
  let c1_i32_68 : BitVec 32 := 1#32
  let arg12 : BitVec 32 := Scf.iv v74 c1_i32_68 k0_t2
  let v437 : BitVec 32 := Scalar.muli c2_i32_281 arg12
  let c1_i32_282 : BitVec 32 := 1#32
  let v438 : BitVec 32 := Scalar.addi v437 c1_i32_282
  let c1_i32_337 : BitVec 32 := 1#32
  let v506 : BitVec 32 := Scalar.addi v438 c1_i32_337
  let c512_i32_338 : BitVec 32 := 512#32
  let v507 : BitVec 32 := Scalar.muli v506 c512_i32_338
  let v508 : BitVec 32 := v507
  let v509 : Index := Scalar.indexCast v508
  let c0_341 : Index := 0#32
  ![0, 1, v509.toNat, 0]
def k0_mult18 (i : grid0.Coords) (k0_t2 : Fin (k0_t2_loop i).trips) : BitVec 32 :=
  let c2_i32_281 : BitVec 32 := 2#32
  let c0_i32_64 : BitVec 32 := 0#32
  let arg2 : BitVec 32 := BitVec.ofNat 32 (i 2).val
  let c2_i32 : BitVec 32 := 2#32
  let v0 : BitVec 32 := Scalar.muli arg2 c2_i32
  let c0_i32_59 : BitVec 32 := 0#32
  let v54 : BitVec 1 := Scalar.cmpi .sgt v0 c0_i32_59
  let v55 : BitVec 32 := Scalar.extui v54
  let c0_i32_60 : BitVec 32 := 0#32
  let v56 : BitVec 1 := Scalar.cmpi .slt v0 c0_i32_60
  let v57 : BitVec 32 := Scalar.extui v56
  let v58 : BitVec 32 := Scalar.subi v55 v57
  let c2_i32_58 : BitVec 32 := 2#32
  let c0_i32_61 : BitVec 32 := 0#32
  let v59 : BitVec 1 := Scalar.cmpi .sgt c2_i32_58 c0_i32_61
  let v60 : BitVec 32 := Scalar.extui v59
  let c0_i32_62 : BitVec 32 := 0#32
  let v61 : BitVec 1 := Scalar.cmpi .slt c2_i32_58 c0_i32_62
  let v62 : BitVec 32 := Scalar.extui v61
  let v63 : BitVec 32 := Scalar.subi v60 v62
  let v64 : BitVec 1 := Scalar.cmpi .ne v58 v63
  let v65 : BitVec 32 := Scalar.remsi v0 c2_i32_58
  let c0_i32_63 : BitVec 32 := 0#32
  let v66 : BitVec 1 := Scalar.cmpi .ne v65 c0_i32_63
  let v67 : BitVec 1 := Scalar.andi v64 v66
  let v53 : BitVec 32 := Scalar.divsi v0 c2_i32_58
  let c1_i32 : BitVec 32 := 1#32
  let v68 : BitVec 32 := Scalar.subi v53 c1_i32
  let v69 : BitVec 32 := Scalar.select v67 v68 v53
  let v70 : BitVec 32 := Scalar.subi v69 c0_i32_64
  let c1_i32_66 : BitVec 32 := 1#32
  let v72 : BitVec 32 := Scalar.divsi v70 c1_i32_66
  let v73 : BitVec 32 := Scalar.muli v72 c1_i32_66
  let v74 : BitVec 32 := Scalar.addi c0_i32_64 v73
  let c1_i32_68 : BitVec 32 := 1#32
  let arg12 : BitVec 32 := Scf.iv v74 c1_i32_68 k0_t2
  let v437 : BitVec 32 := Scalar.muli c2_i32_281 arg12
  let c1_i32_282 : BitVec 32 := 1#32
  let v438 : BitVec 32 := Scalar.addi v437 c1_i32_282
  let c1_i32_358 : BitVec 32 := 1#32
  let v523 : BitVec 32 := Scalar.subi v438 c1_i32_358
  let c0_i32_359 : BitVec 32 := 0#32
  let v524 : BitVec 32 := Scalar.maxsi v523 c0_i32_359
  let c512_i32_364 : BitVec 32 := 512#32
  let v527 : BitVec 32 := Scalar.muli v524 c512_i32_364
  v527
def k0_off16 (i : grid0.Coords) (k0_t2 : Fin (k0_t2_loop i).trips) : Fin 4 → Nat :=
  let c0_365 : Index := 0#32
  let c1_366 : Index := 1#32
  let c2_i32_281 : BitVec 32 := 2#32
  let c0_i32_64 : BitVec 32 := 0#32
  let arg2 : BitVec 32 := BitVec.ofNat 32 (i 2).val
  let c2_i32 : BitVec 32 := 2#32
  let v0 : BitVec 32 := Scalar.muli arg2 c2_i32
  let c0_i32_59 : BitVec 32 := 0#32
  let v54 : BitVec 1 := Scalar.cmpi .sgt v0 c0_i32_59
  let v55 : BitVec 32 := Scalar.extui v54
  let c0_i32_60 : BitVec 32 := 0#32
  let v56 : BitVec 1 := Scalar.cmpi .slt v0 c0_i32_60
  let v57 : BitVec 32 := Scalar.extui v56
  let v58 : BitVec 32 := Scalar.subi v55 v57
  let c2_i32_58 : BitVec 32 := 2#32
  let c0_i32_61 : BitVec 32 := 0#32
  let v59 : BitVec 1 := Scalar.cmpi .sgt c2_i32_58 c0_i32_61
  let v60 : BitVec 32 := Scalar.extui v59
  let c0_i32_62 : BitVec 32 := 0#32
  let v61 : BitVec 1 := Scalar.cmpi .slt c2_i32_58 c0_i32_62
  let v62 : BitVec 32 := Scalar.extui v61
  let v63 : BitVec 32 := Scalar.subi v60 v62
  let v64 : BitVec 1 := Scalar.cmpi .ne v58 v63
  let v65 : BitVec 32 := Scalar.remsi v0 c2_i32_58
  let c0_i32_63 : BitVec 32 := 0#32
  let v66 : BitVec 1 := Scalar.cmpi .ne v65 c0_i32_63
  let v67 : BitVec 1 := Scalar.andi v64 v66
  let v53 : BitVec 32 := Scalar.divsi v0 c2_i32_58
  let c1_i32 : BitVec 32 := 1#32
  let v68 : BitVec 32 := Scalar.subi v53 c1_i32
  let v69 : BitVec 32 := Scalar.select v67 v68 v53
  let v70 : BitVec 32 := Scalar.subi v69 c0_i32_64
  let c1_i32_66 : BitVec 32 := 1#32
  let v72 : BitVec 32 := Scalar.divsi v70 c1_i32_66
  let v73 : BitVec 32 := Scalar.muli v72 c1_i32_66
  let v74 : BitVec 32 := Scalar.addi c0_i32_64 v73
  let c1_i32_68 : BitVec 32 := 1#32
  let arg12 : BitVec 32 := Scf.iv v74 c1_i32_68 k0_t2
  let v437 : BitVec 32 := Scalar.muli c2_i32_281 arg12
  let c1_i32_282 : BitVec 32 := 1#32
  let v438 : BitVec 32 := Scalar.addi v437 c1_i32_282
  let c1_i32_358 : BitVec 32 := 1#32
  let v523 : BitVec 32 := Scalar.subi v438 c1_i32_358
  let c0_i32_359 : BitVec 32 := 0#32
  let v524 : BitVec 32 := Scalar.maxsi v523 c0_i32_359
  let c512_i32_364 : BitVec 32 := 512#32
  let v527 : BitVec 32 := Scalar.muli v524 c512_i32_364
  let v528 : BitVec 32 := v527
  let v529 : Index := Scalar.indexCast v528
  let c0_367 : Index := 0#32
  ![0, 1, v529.toNat, 0]
def k0_mult19 (i : grid0.Coords) : BitVec 32 :=
  let arg2 : BitVec 32 := BitVec.ofNat 32 (i 2).val
  let c2_i32 : BitVec 32 := 2#32
  let v0 : BitVec 32 := Scalar.muli arg2 c2_i32
  let c1_i32_76 : BitVec 32 := 1#32
  let v85 : BitVec 32 := Scalar.subi v0 c1_i32_76
  let c0_i32_77 : BitVec 32 := 0#32
  let v86 : BitVec 32 := Scalar.maxsi v85 c0_i32_77
  let c512_i32 : BitVec 32 := 512#32
  let v89 : BitVec 32 := Scalar.muli v86 c512_i32
  v89
def k0_off17 (i : grid0.Coords) : Fin 4 → Nat :=
  let c0_82 : Index := 0#32
  let c0_83 : Index := 0#32
  let arg2 : BitVec 32 := BitVec.ofNat 32 (i 2).val
  let c2_i32 : BitVec 32 := 2#32
  let v0 : BitVec 32 := Scalar.muli arg2 c2_i32
  let c1_i32_76 : BitVec 32 := 1#32
  let v85 : BitVec 32 := Scalar.subi v0 c1_i32_76
  let c0_i32_77 : BitVec 32 := 0#32
  let v86 : BitVec 32 := Scalar.maxsi v85 c0_i32_77
  let c512_i32 : BitVec 32 := 512#32
  let v89 : BitVec 32 := Scalar.muli v86 c512_i32
  let v90 : BitVec 32 := v89
  let v91 : Index := Scalar.indexCast v90
  let c0_84 : Index := 0#32
  ![0, 0, v91.toNat, 0]
def k0_mult20 (i : grid0.Coords) : BitVec 32 :=
  let arg2 : BitVec 32 := BitVec.ofNat 32 (i 2).val
  let c2_i32 : BitVec 32 := 2#32
  let v0 : BitVec 32 := Scalar.muli arg2 c2_i32
  let c0_i32_95 : BitVec 32 := 0#32
  let v129 : BitVec 32 := Scalar.addi v0 c0_i32_95
  let c512_i32_96 : BitVec 32 := 512#32
  let v130 : BitVec 32 := Scalar.muli v129 c512_i32_96
  v130
def k0_off18 (i : grid0.Coords) (c0_i32_95 : BitVec 32) : Fin 4 → Nat :=
  let c0_97 : Index := 0#32
  let c0_98 : Index := 0#32
  let arg2 : BitVec 32 := BitVec.ofNat 32 (i 2).val
  let c2_i32 : BitVec 32 := 2#32
  let v0 : BitVec 32 := Scalar.muli arg2 c2_i32
  let v129 : BitVec 32 := Scalar.addi v0 c0_i32_95
  let c512_i32_96 : BitVec 32 := 512#32
  let v130 : BitVec 32 := Scalar.muli v129 c512_i32_96
  let v131 : BitVec 32 := v130
  let v132 : Index := Scalar.indexCast v131
  let c0_99 : Index := 0#32
  ![0, 0, v132.toNat, 0]
def k0_mult21 (i : grid0.Coords) : BitVec 32 :=
  let arg2 : BitVec 32 := BitVec.ofNat 32 (i 2).val
  let c2_i32 : BitVec 32 := 2#32
  let v0 : BitVec 32 := Scalar.muli arg2 c2_i32
  let c1_i32_101 : BitVec 32 := 1#32
  let v137 : BitVec 32 := Scalar.addi v0 c1_i32_101
  let c512_i32_102 : BitVec 32 := 512#32
  let v138 : BitVec 32 := Scalar.muli v137 c512_i32_102
  v138
def k0_mult22 (i : grid0.Coords) : BitVec 32 :=
  let arg2 : BitVec 32 := BitVec.ofNat 32 (i 2).val
  let c2_i32 : BitVec 32 := 2#32
  let v0 : BitVec 32 := Scalar.muli arg2 c2_i32
  let c1_i32_112 : BitVec 32 := 1#32
  let v174 : BitVec 32 := Scalar.addi v0 c1_i32_112
  let c512_i32_113 : BitVec 32 := 512#32
  let v175 : BitVec 32 := Scalar.muli v174 c512_i32_113
  v175
def k0_mult23 (i : grid0.Coords) : BitVec 32 :=
  let arg2 : BitVec 32 := BitVec.ofNat 32 (i 2).val
  let c2_i32 : BitVec 32 := 2#32
  let v0 : BitVec 32 := Scalar.muli arg2 c2_i32
  let c1_i32_125 : BitVec 32 := 1#32
  let v189 : BitVec 32 := Scalar.subi v0 c1_i32_125
  let c0_i32_126 : BitVec 32 := 0#32
  let v190 : BitVec 32 := Scalar.maxsi v189 c0_i32_126
  let c512_i32_131 : BitVec 32 := 512#32
  let v193 : BitVec 32 := Scalar.muli v190 c512_i32_131
  v193
def k0_off19 (i : grid0.Coords) : Fin 4 → Nat :=
  let c0_132 : Index := 0#32
  let c1_133 : Index := 1#32
  let arg2 : BitVec 32 := BitVec.ofNat 32 (i 2).val
  let c2_i32 : BitVec 32 := 2#32
  let v0 : BitVec 32 := Scalar.muli arg2 c2_i32
  let c1_i32_125 : BitVec 32 := 1#32
  let v189 : BitVec 32 := Scalar.subi v0 c1_i32_125
  let c0_i32_126 : BitVec 32 := 0#32
  let v190 : BitVec 32 := Scalar.maxsi v189 c0_i32_126
  let c512_i32_131 : BitVec 32 := 512#32
  let v193 : BitVec 32 := Scalar.muli v190 c512_i32_131
  let v194 : BitVec 32 := v193
  let v195 : Index := Scalar.indexCast v194
  let c0_134 : Index := 0#32
  ![0, 1, v195.toNat, 0]
def k0_mult24 (i : grid0.Coords) : BitVec 32 :=
  let arg2 : BitVec 32 := BitVec.ofNat 32 (i 2).val
  let c2_i32 : BitVec 32 := 2#32
  let v0 : BitVec 32 := Scalar.muli arg2 c2_i32
  let c0_i32_145 : BitVec 32 := 0#32
  let v233 : BitVec 32 := Scalar.addi v0 c0_i32_145
  let c512_i32_146 : BitVec 32 := 512#32
  let v234 : BitVec 32 := Scalar.muli v233 c512_i32_146
  v234
def k0_off20 (i : grid0.Coords) (c0_i32_145 : BitVec 32) : Fin 4 → Nat :=
  let c0_147 : Index := 0#32
  let c1_148 : Index := 1#32
  let arg2 : BitVec 32 := BitVec.ofNat 32 (i 2).val
  let c2_i32 : BitVec 32 := 2#32
  let v0 : BitVec 32 := Scalar.muli arg2 c2_i32
  let v233 : BitVec 32 := Scalar.addi v0 c0_i32_145
  let c512_i32_146 : BitVec 32 := 512#32
  let v234 : BitVec 32 := Scalar.muli v233 c512_i32_146
  let v235 : BitVec 32 := v234
  let v236 : Index := Scalar.indexCast v235
  let c0_149 : Index := 0#32
  ![0, 1, v236.toNat, 0]
def k0_mult25 (i : grid0.Coords) : BitVec 32 :=
  let arg2 : BitVec 32 := BitVec.ofNat 32 (i 2).val
  let c2_i32 : BitVec 32 := 2#32
  let v0 : BitVec 32 := Scalar.muli arg2 c2_i32
  let c1_i32_151 : BitVec 32 := 1#32
  let v241 : BitVec 32 := Scalar.addi v0 c1_i32_151
  let c512_i32_152 : BitVec 32 := 512#32
  let v242 : BitVec 32 := Scalar.muli v241 c512_i32_152
  v242
def k0_mult26 (i : grid0.Coords) : BitVec 32 :=
  let arg2 : BitVec 32 := BitVec.ofNat 32 (i 2).val
  let c2_i32 : BitVec 32 := 2#32
  let v0 : BitVec 32 := Scalar.muli arg2 c2_i32
  let c1_i32_163 : BitVec 32 := 1#32
  let v278 : BitVec 32 := Scalar.addi v0 c1_i32_163
  let c512_i32_164 : BitVec 32 := 512#32
  let v279 : BitVec 32 := Scalar.muli v278 c512_i32_164
  v279
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnIdeal.lean ====
variable {F : FTy → Type} [FloatOps F] [Named F]
def κ : String → Option EReal := fun
  | "mask" => some ⊥
  | _ => none
-- ==== AttnRefIdeal.lean ====
abbrev S2x16x16384x128 : Shape := ⟨4, ![2, 16, 16384, 128]⟩
abbrev S16384 : Shape := ⟨1, ![16384]⟩
abbrev S2x16x16384x16384 : Shape := ⟨4, ![2, 16, 16384, 16384]⟩
abbrev S16384x1 : Shape := ⟨2, ![16384, 1]⟩
abbrev S1x16384 : Shape := ⟨2, ![1, 16384]⟩
abbrev S16384x16384 : Shape := ⟨2, ![16384, 16384]⟩
abbrev S_ : Shape := ⟨0, ![]⟩
abbrev S2x16x16384 : Shape := ⟨3, ![2, 16, 16384]⟩
abbrev S2x16x16384x1 : Shape := ⟨4, ![2, 16, 16384, 1]⟩
abbrev S2x8x16384x64 : Shape := ⟨4, ![2, 8, 16384, 64]⟩
abbrev S2x8x16384x1 : Shape := ⟨4, ![2, 8, 16384, 1]⟩
abbrev S2x8x1x16384x64 : Shape := ⟨5, ![2, 8, 1, 16384, 64]⟩
abbrev S2x8x2x16384x64 : Shape := ⟨5, ![2, 8, 2, 16384, 64]⟩
abbrev S2x16384x8x2x64 : Shape := ⟨5, ![2, 16384, 8, 2, 64]⟩
abbrev S2x16384x1024 : Shape := ⟨3, ![2, 16384, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2x16x16384x128, .bf16⟩
  | .hbm, ⟨1, _⟩ => ⟨S2x16x16384x128, .bf16⟩
  | .hbm, ⟨2, _⟩ => ⟨S2x16x16384x128, .bf16⟩
  | .hbm, ⟨3, _⟩ => ⟨S16384, .i32⟩
  | .hbm, ⟨4, _⟩ => ⟨S2x16x16384x128, .f32⟩
  | .hbm, ⟨5, _⟩ => ⟨S2x16x16384x128, .f32⟩
  | .hbm, ⟨6, _⟩ => ⟨S2x16x16384x16384, .f32⟩
  | .hbm, ⟨7, _⟩ => ⟨S16384x1, .i32⟩
  | .hbm, ⟨8, _⟩ => ⟨S1x16384, .i32⟩
  | .hbm, ⟨9, _⟩ => ⟨S16384x16384, .i32⟩
  | .hbm, ⟨10, _⟩ => ⟨S16384x16384, .i32⟩
  | .hbm, ⟨11, _⟩ => ⟨S16384x16384, .i1⟩
  | .hbm, ⟨12, _⟩ => ⟨S_, .f32⟩
  | .hbm, ⟨13, _⟩ => ⟨S_, .f32⟩
  | .hbm, ⟨14, _⟩ => ⟨S2x16x16384x16384, .i1⟩
  | .hbm, ⟨15, _⟩ => ⟨S2x16x16384x16384, .f32⟩
  | .hbm, ⟨16, _⟩ => ⟨S2x16x16384x16384, .f32⟩
  | .hbm, ⟨17, _⟩ => ⟨S_, .f32⟩
  | .hbm, ⟨18, _⟩ => ⟨S2x16x16384, .f32⟩
  | .hbm, ⟨19, _⟩ => ⟨S2x16x16384x1, .f32⟩
  | .hbm, ⟨20, _⟩ => ⟨S2x16x16384x16384, .f32⟩
  | .hbm, ⟨21, _⟩ => ⟨S2x16x16384x16384, .f32⟩
  | .hbm, ⟨22, _⟩ => ⟨S2x16x16384x16384, .f32⟩
  | .hbm, ⟨23, _⟩ => ⟨S2x16x16384x128, .f32⟩
  | .hbm, ⟨24, _⟩ => ⟨S2x16x16384x128, .f32⟩
  | .hbm, ⟨25, _⟩ => ⟨S2x8x16384x64, .f32⟩
  | .hbm, ⟨26, _⟩ => ⟨S2x8x16384x1, .f32⟩
  | .hbm, ⟨27, _⟩ => ⟨S2x8x16384x64, .f32⟩
  | .hbm, ⟨28, _⟩ => ⟨S2x8x16384x64, .f32⟩
  | .hbm, ⟨29, _⟩ => ⟨S2x8x16384x64, .f32⟩
  | .hbm, ⟨30, _⟩ => ⟨S2x8x16384x1, .f32⟩
  | .hbm, ⟨31, _⟩ => ⟨S2x8x16384x64, .f32⟩
  | .hbm, ⟨32, _⟩ => ⟨S2x8x16384x64, .f32⟩
  | .hbm, ⟨33, _⟩ => ⟨S2x8x1x16384x64, .f32⟩
  | .hbm, ⟨34, _⟩ => ⟨S2x8x1x16384x64, .f32⟩
  | .hbm, ⟨35, _⟩ => ⟨S2x8x2x16384x64, .f32⟩
  | .hbm, ⟨36, _⟩ => ⟨S2x16384x8x2x64, .f32⟩
  | .hbm, ⟨37, _⟩ => ⟨S2x16384x1024, .f32⟩
  | .hbm, ⟨38, _⟩ => ⟨S2x16384x1024, .bf16⟩
  | _, _ => ⟨S2x16x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Final.lean ====
abbrev S32768x1024 : Shape := ⟨2, ![32768, 1024]⟩
abbrev S32768x8 : Shape := ⟨2, ![32768, 8]⟩
abbrev S1024 : Shape := ⟨1, ![1024]⟩
abbrev S1x1024 : Shape := ⟨2, ![1, 1024]⟩
abbrev S512x1024 : Shape := ⟨2, ![512, 1024]⟩
abbrev S512x8 : Shape := ⟨2, ![512, 8]⟩
abbrev S512x1 : Shape := ⟨2, ![512, 1]⟩
abbrev S512 : Shape := ⟨1, ![512]⟩

abbrev nBuf : Space → Nat
  | .hbm => 7
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S32768x8, .f32⟩
  | .hbm, ⟨4, _⟩ => ⟨S1024, .f32⟩
  | .hbm, ⟨5, _⟩ => ⟨S1x1024, .f32⟩
  | .hbm, ⟨6, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x8, .f32⟩
  | .local _ .vmem, ⟨7, _⟩ => ⟨S512x8, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FinalRefIdeal.lean ====
abbrev S32768x1024 : Shape := ⟨2, ![32768, 1024]⟩
abbrev S32768x8 : Shape := ⟨2, ![32768, 8]⟩
abbrev S1024 : Shape := ⟨1, ![1024]⟩
abbrev S32768x1 : Shape := ⟨2, ![32768, 1]⟩
abbrev S_ : Shape := ⟨0, ![]⟩
abbrev S32768 : Shape := ⟨1, ![32768]⟩
abbrev S1x1024 : Shape := ⟨2, ![1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S32768x8, .f32⟩
  | .hbm, ⟨4, _⟩ => ⟨S1024, .f32⟩
  | .hbm, ⟨5, _⟩ => ⟨S32768x1, .f32⟩
  | .hbm, ⟨6, _⟩ => ⟨S32768x1024, .f32⟩
  | .hbm, ⟨7, _⟩ => ⟨S32768x1024, .f32⟩
  | .hbm, ⟨8, _⟩ => ⟨S32768x1, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S1x1024, .f32⟩
  | .hbm, ⟨27, _⟩ => ⟨S32768x1024, .f32⟩
  | .hbm, ⟨28, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Proof.MoeTab.lean ====
/- The pipeline of the grouped expert feed-forward at ANY contents of its two prefetched tables: the tile table
   (which expert a tile of 1024 sorted rows belongs to) and the count of tiles in use. The only thing asked of the
   tables is that every block they select lies inside its array (`Adm`). From it: what the output's staging buffer
   holds after each grid point (`traj0`), the body's obligation, and the run of @main. -/
module

public import proofs.«01_k».proof.Proof.Gen.Moe.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.Moe.Tab

open Cert.Moe Cert.Moe.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The resource algebra of the staging cells, embedded whole. -/
abbrev EP : Emb (UR sig nD τ) 𝕄 := emb₁

variable (a : (pcfg0 (F := Bits)).Adm)
variable (m : (ℓ : Loc nD τ sig) → Buf (Elt Bits) ℓ) (ρ : Dev nD → PrngReg)

abbrev s₀ : MemSt nD τ sig (Elt Bits) := ⟨m, fun _ => 0, ρ⟩

/-- The two tables, and the pipeline at them. -/
abbrev tab0 : S72.Idx → Elt Bits .i32 := a.1 0
abbrev tab1 : S1.Idx → Elt Bits .i32 := a.1 1
abbrev cfgA : Pipeline.Cfg sig Λ₀ := cfg0 (F := Bits) a
abbrev pcs : Fin 1 → Pipeline.Cfg sig Λ₀ := Pipeline.pin (pcfgs (F := Bits)) fun _ => a

/-- The launch memory holds the tables. -/
def Holds : Prop :=
  (∀ c : Dev nD, m ((c : Thread nD τ).loc main_arg0) = tab0 a)
  ∧ (∀ c : Dev nD, m ((c : Thread nD τ).loc main_arg1) = tab1 a)

/-! ## A point's coordinates, words and staging memrefs -/

/-- Point `t`'s coordinates. -/
abbrev crd (t : Fin (cfgA a).N) : (cfgA a).grid.Coords := (cfgA a).grid.coords t

/-- Each window's current staging memref at point `t`, spelled as the pipeline passes it, and its wholeness. -/
abbrev ms0_0 (t : Fin (cfgA a).N) : Memref sig .tc .vmem S1024x1024 .bf16 := spec0_0.stage ((cfgA a).slots t (0 : Fin 5))
abbrev hs0_0 (t : Fin (cfgA a).N) : (ms0_0 a t).IsWhole := hstage0_0 (((cfgA a).slots t (0 : Fin 5)).cast nbuf0_0)
abbrev ms0_1 (t : Fin (cfgA a).N) : Memref sig .tc .vmem S1x1024x512 .f32 := spec0_1.stage ((cfgA a).slots t (1 : Fin 5))
abbrev hs0_1 (t : Fin (cfgA a).N) : (ms0_1 a t).IsWhole := hstage0_1 (((cfgA a).slots t (1 : Fin 5)).cast nbuf0_1)
abbrev ms0_2 (t : Fin (cfgA a).N) : Memref sig .tc .vmem S1x1024x512 .f32 := spec0_2.stage ((cfgA a).slots t (2 : Fin 5))
abbrev hs0_2 (t : Fin (cfgA a).N) : (ms0_2 a t).IsWhole := hstage0_2 (((cfgA a).slots t (2 : Fin 5)).cast nbuf0_2)
abbrev ms0_3 (t : Fin (cfgA a).N) : Memref sig .tc .vmem S1x512x1024 .f32 := spec0_3.stage ((cfgA a).slots t (3 : Fin 5))
abbrev hs0_3 (t : Fin (cfgA a).N) : (ms0_3 a t).IsWhole := hstage0_3 (((cfgA a).slots t (3 : Fin 5)).cast nbuf0_3)
abbrev ms0_4 (t : Fin (cfgA a).N) : Memref sig .tc .vmem S1024x1024 .f32 := spec0_4.stage ((cfgA a).slots t (4 : Fin 5))
abbrev hs0_4 (t : Fin (cfgA a).N) : (ms0_4 a t).IsWhole := hstage0_4 (((cfgA a).slots t (4 : Fin 5)).cast nbuf0_4)

/-! ## The windows' blocks -/

/-- Window `w`'s block at point `t`, read off its array at launch. -/
def iblk (c : Dev nD) (w : Fin (cfgA a).W) (t : Fin (cfgA a).N) : (((cfgA a).win w).xblock (crd a t)).Idx → Elt Bits ((cfgA a).win w).elt :=
  (((cfgA a).win w).blk t).view.read (Elt Bits) ((s₀ m ρ).mem (((cfgA a).win w).arr.view.loc (c : Thread nD τ)))

/-! ## The control's decisions at a point, at the pinned words (what tells the paths apart) -/

abbrev P0_0 (t : Fin (cfgA a).N) : Prop := k0_cond1 (crd a t) = 1#1
abbrev P0_1 (t : Fin (cfgA a).N) : Prop := k0_cond2 (crd a t) (View.readAt (Elt Bits) (tbM0_1).view (Rect.unit (s := S1) ![0] S1.size inb_S1_S1_0).toLoadRect (tab1 a) (Shape.Idx.first (numel1_S1.symm ▸ Nat.one_pos))) = 1#1

/-! ## The schedule of the output window -/

/-- The word the body compares the tile against is the count of tiles in use. -/
theorem word_eq : (View.readAt (Elt Bits) (tbM0_1).view (Rect.unit (s := S1) ![0] S1.size inb_S1_S1_0).toLoadRect (tab1 a) (Shape.Idx.first (numel1_S1.symm ▸ Nat.one_pos))) = a.1.atD 1 ![0] := rfl

/-- The first point of a tile's seven is where the output block is zeroed. -/
theorem first_iff : ∀ t : Fin grid0.N, k0_cond1 (grid0.coords t) = 1#1 ↔ t.val % 7 = 0 := by decide +kernel

/-- The output block is written back at the last point of a tile's seven. -/
theorem flush_closed : ∀ t : Fin grid0.N, Window.flushOf grid0 true cc0_transform_4 t = decide (t.val % 7 = 6) := by
  decide +kernel

theorem flush4 (t : Fin (cfgA a).N) : ((cfgA a).win (4 : Fin 5)).flush t = decide (t.val % 7 = 6) :=
  flush_closed t

theorem idle4 (t : Fin (cfgA a).N) :
    (cfgA a).idle (4 : Fin 5) (crd a t) = (!(k0_cond1 (crd a t) == 1#1) && !(k0_cond2 (crd a t) (a.1.atD 1 ![0]) == 1#1)) := rfl

theorem fresh4 (t : Fin (cfgA a).N) : (cfgA a).fresh (4 : Fin 5) t.val = decide (t.val % 7 = 0) := by
  refine Pipeline.Cfg.fresh_tab (cfgA a) (4 : Fin 5) (fun n => decide (n % 7 = 0)) rfl (fun t => ?_) t.val (Nat.le_of_lt t.isLt)
  have h1 := first_iff t
  rw [flush4, idle4]
  by_cases h : t.val % 7 = 6
  · have : (t.val + 1) % 7 = 0 := by omega
    simp [h, this]
  · have h' : ¬ (t.val + 1) % 7 = 0 := by omega
    by_cases h0 : t.val % 7 = 0
    · have := h1.2 h0
      simp [h, h', this]
    · simp [h, h', h0]

theorem sched0_A : ∀ (t : Fin (cfgA a).N), P0_0 a t → P0_1 a t →
    (cfgA a).idle (4 : Fin 5) ((cfgA a).grid.coords t) = false ∧ ((cfgA a).win (4 : Fin 5)).flush t = false ∧ (cfgA a).fresh (4 : Fin 5) t.val = true := by
  intro t q0 _
  have h := (first_iff t).1 q0
  refine ⟨?_, ?_, ?_⟩
  · rw [idle4, show k0_cond1 (crd a t) = 1#1 from q0]; rfl
  · rw [flush4]; simp [h]
  · rw [fresh4]; simp [h]

theorem sched0_C : ∀ (t : Fin (cfgA a).N), P0_0 a t → ¬P0_1 a t →
    (cfgA a).idle (4 : Fin 5) ((cfgA a).grid.coords t) = false ∧ ((cfgA a).win (4 : Fin 5)).flush t = false ∧ (cfgA a).fresh (4 : Fin 5) t.val = true := by
  intro t q0 _
  have h := (first_iff t).1 q0
  refine ⟨?_, ?_, ?_⟩
  · rw [idle4, show k0_cond1 (crd a t) = 1#1 from q0]; rfl
  · rw [flush4]; simp [h]
  · rw [fresh4]; simp [h]

theorem sched0_B : ∀ (t : Fin (cfgA a).N), ¬P0_0 a t → P0_1 a t →
    (cfgA a).idle (4 : Fin 5) ((cfgA a).grid.coords t) = false ∧ (cfgA a).fresh (4 : Fin 5) t.val = false := by
  intro t q0 q1
  have h : ¬ t.val % 7 = 0 := fun h0 => q0 ((first_iff t).2 h0)
  refine ⟨?_, ?_⟩
  · rw [idle4, ← word_eq, show k0_cond2 (crd a t) _ = 1#1 from q1]; simp
  · rw [fresh4]; simp [h]

theorem sched0_D : ∀ (t : Fin (cfgA a).N), ¬P0_0 a t → ¬P0_1 a t →
    (cfgA a).idle (4 : Fin 5) ((cfgA a).grid.coords t) = true ∧ (cfgA a).fresh (4 : Fin 5) t.val = false := by
  intro t q0 q1
  have h : ¬ t.val % 7 = 0 := fun h0 => q0 ((first_iff t).2 h0)
  refine ⟨?_, ?_⟩
  · rw [idle4, ← word_eq, beq_eq_false_iff_ne.2 q0, beq_eq_false_iff_ne.2 q1]; rfl
  · rw [fresh4]; simp [h]

/-! ## What the outputs and scratches hold after each point -/

/-- ONE STEP of the trajectory: what the outputs' current buffers and the scratches hold after the body at point `t`
    (output 4), from what they held before (`prev`): the path the decisions select at `t`, its
    run's contents; an output the path leaves idle keeps what it held (junk — `default`, named by nothing — where fresh). -/
def step0 (c : Dev nD) (t : Fin (cfgA a).N) (prev : (S1024x1024.Idx → Elt Bits .f32)) : (S1024x1024.Idx → Elt Bits .f32) :=
  if q0 : P0_0 a t then
    if q1 : P0_1 a t then
      out0_A_4 c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a m ρ c (0 : Fin 5) t) (iblk a m ρ c (1 : Fin 5) t) (iblk a m ρ c (2 : Fin 5) t) (iblk a m ρ c (3 : Fin 5) t) q0 q1
    else
      out0_C_4 c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a m ρ c (0 : Fin 5) t) (iblk a m ρ c (1 : Fin 5) t) (iblk a m ρ c (2 : Fin 5) t) (iblk a m ρ c (3 : Fin 5) t) q0 q1
  else
    if q1 : P0_1 a t then
      out0_B_4 c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a m ρ c (0 : Fin 5) t) (iblk a m ρ c (1 : Fin 5) t) (iblk a m ρ c (2 : Fin 5) t) (iblk a m ρ c (3 : Fin 5) t) prev q0 q1
    else
      (if (cfgA a).fresh (4 : Fin 5) t.val then default else prev)

/-- THE TRAJECTORY: after position `n`. -/
def traj0 (c : Dev nD) : (n : ℕ) → n < (cfgA a).N → (S1024x1024.Idx → Elt Bits .f32)
  | 0, h => step0 a m ρ c ⟨0, h⟩ default
  | n + 1, h => step0 a m ρ c ⟨n + 1, h⟩ (traj0 c n (Nat.lt_of_succ_lt h))

/-- What they held BEFORE point `t` (junk before the first). -/
def prev0 (c : Dev nD) (t : Fin (cfgA a).N) : (S1024x1024.Idx → Elt Bits .f32) :=
  if h : t.val = 0 then default else traj0 a m ρ c (t.val - 1) (by omega)

theorem traj0_eq (c : Dev nD) (t : Fin (cfgA a).N) : traj0 a m ρ c t.val t.isLt = step0 a m ρ c t (prev0 a m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA a).N) (prev : (S1024x1024.Idx → Elt Bits .f32)) (q0 : P0_0 a t) (q1 : P0_1 a t) :
    step0 a m ρ c t prev = out0_A_4 c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a m ρ c (0 : Fin 5) t) (iblk a m ρ c (1 : Fin 5) t) (iblk a m ρ c (2 : Fin 5) t) (iblk a m ρ c (3 : Fin 5) t) q0 q1 := by
  unfold step0; simp only [dif_pos q0, dif_pos q1]

/-- `step0` at a point of path B. -/
theorem step0_B (c : Dev nD) (t : Fin (cfgA a).N) (prev : (S1024x1024.Idx → Elt Bits .f32)) (q0 : ¬P0_0 a t) (q1 : P0_1 a t) :
    step0 a m ρ c t prev = out0_B_4 c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a m ρ c (0 : Fin 5) t) (iblk a m ρ c (1 : Fin 5) t) (iblk a m ρ c (2 : Fin 5) t) (iblk a m ρ c (3 : Fin 5) t) prev q0 q1 := by
  unfold step0; simp only [dif_neg q0, dif_pos q1]

/-- `step0` at a point of path C. -/
theorem step0_C (c : Dev nD) (t : Fin (cfgA a).N) (prev : (S1024x1024.Idx → Elt Bits .f32)) (q0 : P0_0 a t) (q1 : ¬P0_1 a t) :
    step0 a m ρ c t prev = out0_C_4 c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a m ρ c (0 : Fin 5) t) (iblk a m ρ c (1 : Fin 5) t) (iblk a m ρ c (2 : Fin 5) t) (iblk a m ρ c (3 : Fin 5) t) q0 q1 := by
  unfold step0; simp only [dif_pos q0, dif_neg q1]

/-- `step0` at a point of path D. -/
theorem step0_D (c : Dev nD) (t : Fin (cfgA a).N) (prev : (S1024x1024.Idx → Elt Bits .f32)) (q0 : ¬P0_0 a t) (q1 : ¬P0_1 a t) :
    step0 a m ρ c t prev = (if (cfgA a).fresh (4 : Fin 5) t.val then default else prev) := by
  unfold step0; simp only [dif_neg q0, dif_neg q1]

/-! ## The pipeline's proof data -/

/-- What the tracked buffers held before position `t` of `Fin (N+1)` (the invariant's index). -/
def prev0T (c : Dev nD) (t : Fin ((cfgA a).N + 1)) : (S1024x1024.Idx → Elt Bits .f32) :=
  if h : t.val = 0 then default else traj0 a m ρ c (t.val - 1) (by omega)

theorem prev0T_castSucc (c : Dev nD) (t : Fin (cfgA a).N) : prev0T a m ρ c t.castSucc = prev0 a m ρ c t := by
  unfold prev0T prev0; simp only [Fin.val_castSucc]
theorem prev0T_succ (c : Dev nD) (t : Fin (cfgA a).N) : prev0T a m ρ c t.succ = traj0 a m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Bits) ℓ) (ρ : Dev nD → PrngReg) (c : Dev nD) (t : Fin ((cfgA a).N + 1)) : sProp 𝕄 :=
  iprop((tbM0_0.view.loc (c : Thread nD τ) ↦{fullShare.right} tab0 a) ∗ (tbM0_1.view.loc (c : Thread nD τ) ↦{fullShare.right} tab1 a))

/-- The proof data of the one pipeline on core `c`. -/
def dats (_ : Fin 1) (c : Dev nD) : Dat τ (Elt Bits) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => (traj0 a m ρ c t.val t.isLt)
  Φ t := Phi a m ρ c t
  q _ := fullShare
  owed _ := 0

theorem after0_0 (c : Dev nD) (t : Fin (cfgA a).N) : (dats a m ρ 0 c).after (0 : Fin 5) t = iblk a m ρ c (0 : Fin 5) t := rfl
theorem after0_1 (c : Dev nD) (t : Fin (cfgA a).N) : (dats a m ρ 0 c).after (1 : Fin 5) t = iblk a m ρ c (1 : Fin 5) t := rfl
theorem after0_2 (c : Dev nD) (t : Fin (cfgA a).N) : (dats a m ρ 0 c).after (2 : Fin 5) t = iblk a m ρ c (2 : Fin 5) t := rfl
theorem after0_3 (c : Dev nD) (t : Fin (cfgA a).N) : (dats a m ρ 0 c).after (3 : Fin 5) t = iblk a m ρ c (3 : Fin 5) t := rfl
theorem after0_4 (c : Dev nD) (t : Fin (cfgA a).N) : (dats a m ρ 0 c).after (4 : Fin 5) t = (traj0 a m ρ c t.val t.isLt) := rfl

/-! ## What each window's staging buffer holds when the body runs -/

/-- Input window 0 holds its block, fetched there or not (Lib/Pipeline/FrameBody.lean `Dat.before_in_eq_fetched`). -/
theorem before0_0 (c : Dev nD) (t : Fin (cfgA a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4's `after` carries through the points that leave it idle. -/
theorem hcarry0_4 (c : Dev nD) : ∀ (t : Fin (cfgA a).N) (ht : t.val ≠ 0), (cfgA a).idle (4 : Fin 5) ((cfgA a).grid.coords t) = true → (cfgA a).fresh (4 : Fin 5) t.val = false →
    (dats a m ρ 0 c).after (4 : Fin 5) t = (dats a m ρ 0 c).after (4 : Fin 5) ⟨t.val - 1, by omega⟩ := by
  intro t ht hi hf
  rw [after0_4, after0_4, traj0_eq]
  by_cases q0 : P0_0 a t
  · by_cases q1 : P0_1 a t
    · obtain ⟨i4, -, -⟩ := sched0_A a t q0 q1
      rw [i4] at hi; exact absurd hi (by decide)
    · obtain ⟨i4, -, -⟩ := sched0_C a t q0 q1
      rw [i4] at hi; exact absurd hi (by decide)
  · by_cases q1 : P0_1 a t
    · obtain ⟨i4, -⟩ := sched0_B a t q0 q1
      rw [i4] at hi; exact absurd hi (by decide)
    · rw [step0_D a m ρ c t _ q0 q1]
      simp only [hf, Bool.false_eq_true, ↓reduceIte]
      unfold prev0; rw [dif_neg ht]

/-- Output window 4 holds, when the body runs at `t`: junk if nothing was stored since its last write-back (`Cfg.fresh`),
    else what the point before left (TableIdle.lean `Dat.before_out_traj`). -/
theorem before0_4 (c : Dev nD) (t : Fin (cfgA a).N) (d) :
    (dats a m ρ 0 c).before (4 : Fin 5) t d = if (cfgA a).fresh (4 : Fin 5) t.val then d else (prev0 a m ρ c t) := by
  rw [(dats a m ρ 0 c).before_out_traj (4 : Fin 5) rfl (fun _ _ => rfl) (hcarry0_4 a m ρ c) t.val t rfl d]
  by_cases hf : (cfgA a).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at point `t` on its staging memrefs, as the pipeline calls it. -/
abbrev bodyAt0 (t : Fin (cfgA a).N) : Prog (TpuEff nD τ sig (Elt Bits) Λ₀ .tc) PUnit :=
  cc0_moe (crd a t) (Memref.whole main_arg0) (Memref.isWhole_whole _) (Memref.whole main_arg1) (Memref.isWhole_whole _) (ms0_0 a t) (hs0_0 a t) (ms0_1 a t) (hs0_1 a t) (ms0_2 a t) (hs0_2 a t) (ms0_3 a t) (hs0_3 a t) (ms0_4 a t) (hs0_4 a t)

set_option maxHeartbeats 4000000 in
/-- The body's triple at point `t`: the two decisions tell which of its four paths runs; the inputs hold their blocks,
    the output what the point before left. -/
theorem sound_body (hp : Holds a m) (c : Dev nD) (t : Fin (cfgA a).N) :
    iprop((dats a m ρ 0 c).Φ t.castSucc ∗ (dats a m ρ 0 c).owesAt () t.castSucc
        ∗ (∃ d, owns (c : Thread nD τ) (ms0_0 a t) fullShare ((dats a m ρ 0 c).before (0 : Fin 5) t d))
        ∗ (∃ d, owns (c : Thread nD τ) (ms0_1 a t) fullShare ((dats a m ρ 0 c).before (1 : Fin 5) t d))
        ∗ (∃ d, owns (c : Thread nD τ) (ms0_2 a t) fullShare ((dats a m ρ 0 c).before (2 : Fin 5) t d))
        ∗ (∃ d, owns (c : Thread nD τ) (ms0_3 a t) fullShare ((dats a m ρ 0 c).before (3 : Fin 5) t d))
        ∗ (∃ d, owns (c : Thread nD τ) (ms0_4 a t) fullShare ((dats a m ρ 0 c).before (4 : Fin 5) t d)))
      ⊢ wp frame (wpE (defs₀ (F := Bits)) Variants.none c none) Set.univ (bodyAt0 a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  by_cases q0 : P0_0 a t
  · by_cases q1 : P0_1 a t
    · obtain ⟨i4, f4, fr4⟩ := sched0_A a t q0 q1
      have k0_h1 := q0
      have k0_h2 := q1
      rewrite [i4]
      simp only [before0_0, before0_1, before0_2, before0_3, before0_4, after0_0, after0_1, after0_2, after0_3, after0_4, f4]
      simp only [fr4, Bool.false_eq_true, ↓reduceIte]
      rewrite [show (dats a m ρ 0 c).Φ t.succ = Phi a m ρ c t.succ from rfl, show (dats a m ρ 0 c).Φ t.castSucc = Phi a m ρ c t.castSucc from rfl,
        show (dats a m ρ 0 c).owesAt () t.succ = (dats a m ρ 0 c).owesAt () t.castSucc from rfl]
      try rewrite [traj0_eq, step0_A a m ρ c t _ q0 q1]
      unfold Phi; simp only [prev0T_castSucc, prev0T_succ, traj0_eq, step0_A a m ρ c t _ q0 q1, Fin.val_castSucc, Fin.val_succ]
      iintro ⟨⟨HT0, HT1⟩, Ho, ⟨%d0, H0⟩, ⟨%d1, H1⟩, ⟨%d2, H2⟩, ⟨%d3, H3⟩, ⟨%d4, H4⟩⟩
      iapply ((kernelRun0_A c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a m ρ c (0 : Fin 5) t) (iblk a m ρ c (1 : Fin 5) t) (iblk a m ρ c (2 : Fin 5) t) (iblk a m ρ c (3 : Fin 5) t) k0_h1 k0_h2).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      iintro ⟨H0, H1, H2, H3, HT0, HT1, ⟨%e4, H4⟩⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_A_4 c _ _ _ _ _ _ _ _ _ _ _ _ _ _ _ _ _ _ _)
    · obtain ⟨i4, f4, fr4⟩ := sched0_C a t q0 q1
      have k0_h1 := q0
      have k0_h2 := q1
      rewrite [i4]
      simp only [before0_0, before0_1, before0_2, before0_3, before0_4, after0_0, after0_1, after0_2, after0_3, after0_4, f4]
      simp only [fr4, Bool.false_eq_true, ↓reduceIte]
      rewrite [show (dats a m ρ 0 c).Φ t.succ = Phi a m ρ c t.succ from rfl, show (dats a m ρ 0 c).Φ t.castSucc = Phi a m ρ c t.castSucc from rfl,
        show (dats a m ρ 0 c).owesAt () t.succ = (dats a m ρ 0 c).owesAt () t.castSucc from rfl]
      try rewrite [traj0_eq, step0_C a m ρ c t _ q0 q1]
      unfold Phi; simp only [prev0T_castSucc, prev0T_succ, traj0_eq, step0_C a m ρ c t _ q0 q1, Fin.val_castSucc, Fin.val_succ]
      iintro ⟨⟨HT0, HT1⟩, Ho, ⟨%d0, H0⟩, ⟨%d1, H1⟩, ⟨%d2, H2⟩, ⟨%d3, H3⟩, ⟨%d4, H4⟩⟩
      iapply ((kernelRun0_C c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a m ρ c (0 : Fin 5) t) (iblk a m ρ c (1 : Fin 5) t) (iblk a m ρ c (2 : Fin 5) t) (iblk a m ρ c (3 : Fin 5) t) k0_h1 k0_h2).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      iintro ⟨H0, H1, H2, H3, HT0, HT1, ⟨%e4, H4⟩⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_C_4 c _ _ _ _ _ _ _ _ _ _ _ _ _ _ _ _ _ _ _)
  · by_cases q1 : P0_1 a t
    · obtain ⟨i4, fr4⟩ := sched0_B a t q0 q1
      have k0_h1 := q0
      have k0_h2 := q1
      rewrite [i4]
      simp only [before0_0, before0_1, before0_2, before0_3, before0_4, after0_0, after0_1, after0_2, after0_3, after0_4]
      simp only [fr4, Bool.false_eq_true, ↓reduceIte]
      rewrite [show (dats a m ρ 0 c).Φ t.succ = Phi a m ρ c t.succ from rfl, show (dats a m ρ 0 c).Φ t.castSucc = Phi a m ρ c t.castSucc from rfl,
        show (dats a m ρ 0 c).owesAt () t.succ = (dats a m ρ 0 c).owesAt () t.castSucc from rfl]
      try rewrite [traj0_eq, step0_B a m ρ c t _ q0 q1]
      unfold Phi; simp only [prev0T_castSucc, prev0T_succ, traj0_eq, step0_B a m ρ c t _ q0 q1, Fin.val_castSucc, Fin.val_succ]
      iintro ⟨⟨HT0, HT1⟩, Ho, ⟨%d0, H0⟩, ⟨%d1, H1⟩, ⟨%d2, H2⟩, ⟨%d3, H3⟩, ⟨%d4, H4⟩⟩
      iapply ((kernelRun0_B c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a m ρ c (0 : Fin 5) t) (iblk a m ρ c (1 : Fin 5) t) (iblk a m ρ c (2 : Fin 5) t) (iblk a m ρ c (3 : Fin 5) t) _ k0_h1 k0_h2).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      iintro ⟨H0, H1, H2, H3, HT0, HT1, ⟨%e4, H4⟩⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_B_4 c _ _ _ _ _ _ _ _ _ _ _ _ _ _ _ _ _ _ _ _)
    · obtain ⟨i4, fr4⟩ := sched0_D a t q0 q1
      have k0_h1 := q0
      have k0_h2 := q1
      cases f4 : ((cfgA a).win (4 : Fin 5)).flush t
      · rewrite [i4]
        simp only [before0_0, before0_1, before0_2, before0_3, before0_4, after0_0, after0_1, after0_2, after0_3, after0_4, f4]
        simp only [fr4, Bool.false_eq_true, ↓reduceIte]
        rewrite [show (dats a m ρ 0 c).Φ t.succ = Phi a m ρ c t.succ from rfl, show (dats a m ρ 0 c).Φ t.castSucc = Phi a m ρ c t.castSucc from rfl,
          show (dats a m ρ 0 c).owesAt () t.succ = (dats a m ρ 0 c).owesAt () t.castSucc from rfl]
        try rewrite [traj0_eq, step0_D a m ρ c t _ q0 q1]
        unfold Phi; simp only [prev0T_castSucc, prev0T_succ, traj0_eq, step0_D a m ρ c t _ q0 q1, Fin.val_castSucc, Fin.val_succ]
        iintro ⟨⟨HT0, HT1⟩, Ho, ⟨%d0, H0⟩, ⟨%d1, H1⟩, ⟨%d2, H2⟩, ⟨%d3, H3⟩, ⟨%d4, H4⟩⟩
        iapply ((kernelRun0_D c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a m ρ c (0 : Fin 5) t) (iblk a m ρ c (1 : Fin 5) t) (iblk a m ρ c (2 : Fin 5) t) (iblk a m ρ c (3 : Fin 5) t) k0_h1 k0_h2).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        iintro ⟨H0, H1, H2, H3, HT0, HT1, H4⟩
        isplitl [HT0 HT1]
        · isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4
      · rewrite [i4]
        simp only [before0_0, before0_1, before0_2, before0_3, before0_4, after0_0, after0_1, after0_2, after0_3, after0_4, f4]
        simp only [fr4, Bool.false_eq_true, ↓reduceIte]
        rewrite [show (dats a m ρ 0 c).Φ t.succ = Phi a m ρ c t.succ from rfl, show (dats a m ρ 0 c).Φ t.castSucc = Phi a m ρ c t.castSucc from rfl,
          show (dats a m ρ 0 c).owesAt () t.succ = (dats a m ρ 0 c).owesAt () t.castSucc from rfl]
        try rewrite [traj0_eq, step0_D a m ρ c t _ q0 q1]
        unfold Phi; simp only [prev0T_castSucc, prev0T_succ, traj0_eq, step0_D a m ρ c t _ q0 q1, Fin.val_castSucc, Fin.val_succ, fr4, Bool.false_eq_true, ↓reduceIte]
        iintro ⟨⟨HT0, HT1⟩, Ho, ⟨%d0, H0⟩, ⟨%d1, H1⟩, ⟨%d2, H2⟩, ⟨%d3, H3⟩, ⟨%d4, H4⟩⟩
        iapply ((kernelRun0_D c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a m ρ c (0 : Fin 5) t) (iblk a m ρ c (1 : Fin 5) t) (iblk a m ρ c (2 : Fin 5) t) (iblk a m ρ c (3 : Fin 5) t) k0_h1 k0_h2).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        iintro ⟨H0, H1, H2, H3, HT0, HT1, H4⟩
        isplitl [HT0 HT1]
        · isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4

/-- The library's body obligation, at every point. -/
theorem body_obligation (hp : Holds a m) (c : Dev nD) : BodyObligation (dats a m ρ 0 c) (defs₀ (F := Bits)) Variants.none () Set.univ := fun t => by
  rw [bigSep_W0]
  exact sound_body a m ρ hp c t

/-! ## The launch -/

/-- The rounds library's launch element. -/
def u₀ : UR sig nD τ :=
  initOf (Pipeline.cells (pcs a) ((launch0 (F := Bits)).cellOf_inj fun _ => a))
    (Pipeline.launchToks (pcs a) ((launch0 (F := Bits)).cellOf_inj fun _ => a))

theorem share_eq (c : Dev nD) (w : Fin (cfgA a).W) : (dats a m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 from rfl]
  unfold Phi
  iintro ⟨-, ⟨HT0, HT1⟩, -⟩
  isplitl [HT0]
  · iexact HT0
  iexact HT1

/-- at the last point it gives the scratch buffers back (`hout`), the tables let go. -/
theorem phiN_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (Fin.last _) from rfl]
  unfold Phi
  iintro ⟨-, -⟩
  isplitr; · iempintro
  iempintro

/-- The physical post: every array at what the library computes, every table at what the pipeline ran at. -/
def QC : PUnit × MemSt nD τ sig (Elt Bits) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

theorem V_pre (hp : Holds a m) (c : Dev nD) (j : Fin 2) : m ((c : Thread nD τ).loc (pre0.ref j)) = a.1 j := by
  fin_cases j
  · exact hp.1 c
  · exact hp.2 c

set_option backward.isDefEq.respectTransparency.types false in
set_option maxHeartbeats 4000000 in
/-- From any memory with zero counters that holds the tables, every weakly fair execution of @main on the TensorCores
    terminates; at every final state each array has the computed contents and every semaphore counter is zero. -/
theorem run_main_quiescent (hp : Holds a m) : θ_run (defs (F := Bits)) (onTc (τ := τ) (main (F := Bits))) (s₀ m ρ) (fun r => QC a m ρ r ∧ r.2.sem = fun _ => 0) :=
  Pipeline.θ_run_region_noSem_pf_quiescent pcfgs (fun _ => a) (dats a m ρ) () ((launch0 (F := Bits)).cellOf_inj fun _ => a) (0 : Fin 1)
    (launch0 (F := Bits)).win.to₀ (launch0 (F := Bits)).pre EP defs₀ Variants.none m ρ main
    (hbody := fun c => (body_obligation a m ρ hp c).loose) (hne := (launch0 (F := Bits)).block_pos)
    (harr := (launch0 (F := Bits)).arr_whole) (hstage := (launch0 (F := Bits)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := Bits)).win.arr_inj c (launch0 (F := Bits)).arr_whole
      (share_eq a m ρ c) _ _ fun _ => rfl)
    (hpf := V_pre a m hp)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Holds a m) : θ_run (defs (F := Bits)) (onTc (τ := τ) (main (F := Bits))) (s₀ m ρ) (QC a m ρ) :=
  (θ_run defs _ _).mono (fun _ h => h.1) (run_main_quiescent a m ρ hp)

/-- `frame` without the counters: the argument arrays end unchanged. -/
theorem unchanged (hp : Holds a m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats a m ρ 0 c).arrAt_in (0 : Fin 5) rfl _), ((h c).1 (1 : Fin 5)).trans ((dats a m ρ 0 c).arrAt_in (1 : Fin 5) rfl _), ((h c).1 (2 : Fin 5)).trans ((dats a m ρ 0 c).arrAt_in (2 : Fin 5) rfl _), ((h c).1 (3 : Fin 5)).trans ((dats a m ρ 0 c).arrAt_in (3 : Fin 5) rfl _)⟩) (run_main a m ρ hp)

/-- The frame: every execution terminates without a fault, the arguments end unchanged, the counters end at zero. -/
theorem frame (hp : Holds a m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged a m ρ hp) ((θ_run defs _ _).mono (fun _ h => h.2) (run_main_quiescent a m ρ hp))

end Cert.Moe.Tab

end
-- ==== Proof.MoeRange.lean ====
/- The two tables in range. A tile's expert is below 8 and between 1 and 72 tiles are in use: this is what the
   precondition says, decoded here from the printed predicate. Under it the index maps have closed forms in natural
   numbers, every block they select lies inside its array, and the kernel runs. -/
module

public import proofs.«01_k».proof.Proof.MoeTab
public import proofs.«01_k».proof.Proof.Gen.Pre_in_range
public import proofs.«01_k».proof.Defs
public import Idealize.ShloMosaic.Lib.ReduceAll
public import Idealize.ShloMosaic.Lib.Affine

@[expose] public section

set_option maxRecDepth 16384

noncomputable section

namespace Cert.Moe.Tab

open Cert.Moe Cert.Moe.Gen
open Idealize.ShloMosaic Idealize.ShloMosaic.TcCoe Idealize.SL.Sem

/-- The index of tile `k`'s entry in the tile table. -/
abbrev row1 (k : Fin 72) : S72.Idx := fun a => match a with | ⟨0, _⟩ => k
/-- The index of the count of tiles in use. -/
abbrev one1 : S1.Idx := fun a => match a with | ⟨0, _⟩ => ⟨0, Nat.one_pos⟩

/-- Tile `k`'s expert, and the count of tiles in use. -/
def te (pf : pre0.Contents (Elt Bits)) (k : Fin 72) : ℕ := BitVec.toNat (w := 32) (pf 0 (row1 k))
def nu (pf : pre0.Contents (Elt Bits)) : ℕ := BitVec.toNat (w := 32) (pf 1 one1)

/-- The tables are in range. -/
structure InRange (pf : pre0.Contents (Elt Bits)) : Prop where
  te_lt : ∀ k, te pf k < 8
  nu_pos : 1 ≤ nu pf
  nu_le : nu pf ≤ 72

variable {pf : pre0.Contents (Elt Bits)}

/-! ## The index maps in natural numbers -/

theorem minsi_nat : ∀ (i : Fin 72) (n : Fin 73), 1 ≤ n.val →
    (Scalar.minsi (BitVec.ofNat 32 i.val) (Scalar.subi (BitVec.ofNat 32 n.val) 1#32)).toNat = min i.val (n.val - 1) := by
  decide +kernel

theorem slt_nat : ∀ (i : Fin 72) (n : Fin 73),
    Scalar.cmpi .slt (BitVec.ofNat 32 i.val) (BitVec.ofNat 32 n.val) = if i.val < n.val then 1#1 else 0#1 := by
  decide +kernel

theorem chunk_nat : ∀ (c : Fin 7) (b : Bool),
    (Scalar.select (if b then 1#1 else 0#1) (BitVec.ofNat 32 c.val) 6#32).toNat = if b then c.val else 6 := by
  decide +kernel

theorem ofNat_self (x : BitVec 32) : x = BitVec.ofNat 32 x.toNat := by
  rw [BitVec.ofNat_toNat, BitVec.setWidth_eq]

theorem at1 (pf : pre0.Contents (Elt Bits)) :
    pf.at 1 (Rect.unit (s := S1) ![0] S1.size inb_S1_S1_0) numel1_S1 = BitVec.ofNat 32 (nu pf) := by
  have e : (Rect.unit (s := S1) ![0] S1.size inb_S1_S1_0).emb (Shape.Idx.first (numel1_S1.symm ▸ Nat.one_pos)) = one1 :=
    funext fun a => Fin.ext (by match a with | ⟨0, _⟩ => rfl)
  exact Eq.trans (congrArg (pf 1) e) (ofNat_self (pf 1 one1))

theorem idx_nat : ∀ i : Fin 72, (Scalar.indexCast (BitVec.ofNat 32 i.val)).toNat = i.val := by decide +kernel

theorem at0 (pf : pre0.Contents (Elt Bits)) (i : grid0.Coords) :
    BitVec.toNat (w := 32) (pf.at 0 (Rect.unit (s := S72) ![(Scalar.indexCast (BitVec.ofNat 32 (i 0).val)).toNat] S1.size (k0_off1_inb i)) numel1_S1) = te pf (i 0) := by
  show BitVec.toNat (w := 32) (pf 0 _) = BitVec.toNat (w := 32) (pf 0 _)
  refine congrArg (fun x => BitVec.toNat (w := 32) (pf 0 x)) (funext fun a => Fin.ext ?_)
  match a with
  | ⟨0, _⟩ => exact (Nat.add_zero _).trans (idx_nat (i 0))

theorem transform_0 (h : InRange pf) (i : grid0.Coords) :
    cc0_transform_0 inb_S1_S1_0 numel1_S1 pf i = ![min (i 0).val (nu pf - 1), 0] := by
  show ![(Scalar.minsi (BitVec.ofNat 32 (i 0).val) (Scalar.subi (pf.at 1 (Rect.unit (s := S1) ![0] S1.size inb_S1_S1_0) numel1_S1) 1#32)).toNat, 0] = _
  rw [at1]
  exact congrArg (fun x => ![x, 0]) (minsi_nat (i 0) ⟨nu pf, Nat.lt_succ_of_le h.nu_le⟩ h.nu_pos)

/-- The 512-wide chunk of the expert's hidden width that point `i` uses: its own, or the last once the tiles ran out. -/
def chk (pf : pre0.Contents (Elt Bits)) (i : grid0.Coords) : ℕ := if (i 0).val < nu pf then (i 1).val else 6

theorem chk_nat (h : InRange pf) (i : grid0.Coords) :
    (Scalar.select (Scalar.cmpi .slt (BitVec.ofNat 32 (i 0).val) (pf.at 1 (Rect.unit (s := S1) ![0] S1.size inb_S1_S1_0) numel1_S1)) (BitVec.ofNat 32 (i 1).val) 6#32).toNat = chk pf i := by
  rw [at1, slt_nat (i 0) ⟨nu pf, Nat.lt_succ_of_le h.nu_le⟩]
  have := chunk_nat (i 1) (decide ((i 0).val < nu pf))
  simpa only [decide_eq_true_eq, chk] using this

theorem transform_1 (h : InRange pf) (i : grid0.Coords) :
    cc0_transform_1 k0_off1_inb numel1_S1 inb_S1_S1_0 pf i = ![te pf (i 0), 0, chk pf i] := by
  rw [← chk_nat h, ← at0]; rfl

theorem transform_2 (h : InRange pf) (i : grid0.Coords) :
    cc0_transform_2 k0_off1_inb numel1_S1 inb_S1_S1_0 pf i = ![te pf (i 0), 0, chk pf i] := by
  rw [← chk_nat h, ← at0]; rfl

theorem transform_3 (h : InRange pf) (i : grid0.Coords) :
    cc0_transform_3 k0_off1_inb numel1_S1 inb_S1_S1_0 pf i = ![te pf (i 0), chk pf i, 0] := by
  rw [← chk_nat h, ← at0]; rfl

theorem chk_le (pf : pre0.Contents (Elt Bits)) (i : grid0.Coords) : chk pf i ≤ 6 := by
  unfold chk
  have : (i 1).val < 7 := (i 1).isLt
  split <;> omega

/-! ## Every block lies inside its array -/

theorem ok_of (h : InRange pf) : ok0 (F := Bits) pf := by
  have hi (i : grid0.Coords) : (i 0).val < 72 := (i 0).isLt
  refine ⟨fun i => ⟨?_, .inr (Affine.block_words_dvd (s := S73728x1024) (p := EltTy.packing .bf16) (by decide) (by decide))⟩,
    fun i => ⟨?_, .inl rfl⟩, fun i => ⟨?_, .inl rfl⟩, fun i => ⟨?_, .inl rfl⟩⟩
  · rw [transform_0 h]
    have h1 := hi i; have h2 := h.nu_le; have h3 := h.nu_pos
    intro a
    match a with
    | ⟨0, _⟩ => show (min (i 0).val (nu pf - 1) + 1) * 1024 ≤ 73728; omega
    | ⟨1, _⟩ => show (0 + 1) * 1024 ≤ 1024; decide
  · rw [transform_1 h]
    have h1 := h.te_lt (i 0); have h2 := chk_le pf i
    intro a
    match a with
    | ⟨0, _⟩ => show (te pf (i 0) + 1) * 1 ≤ 8; omega
    | ⟨1, _⟩ => show (0 + 1) * 1024 ≤ 1024; decide
    | ⟨2, _⟩ => show (chk pf i + 1) * 512 ≤ 3584; omega
  · rw [transform_2 h]
    have h1 := h.te_lt (i 0); have h2 := chk_le pf i
    intro a
    match a with
    | ⟨0, _⟩ => show (te pf (i 0) + 1) * 1 ≤ 8; omega
    | ⟨1, _⟩ => show (0 + 1) * 1024 ≤ 1024; decide
    | ⟨2, _⟩ => show (chk pf i + 1) * 512 ≤ 3584; omega
  · rw [transform_3 h]
    have h1 := h.te_lt (i 0); have h2 := chk_le pf i
    intro a
    match a with
    | ⟨0, _⟩ => show (te pf (i 0) + 1) * 1 ≤ 8; omega
    | ⟨1, _⟩ => show (chk pf i + 1) * 512 ≤ 3584; omega
    | ⟨2, _⟩ => show (0 + 1) * 1024 ≤ 1024; decide

/-! ## The precondition decoded -/

theorem signed_range (x : BitVec 32) (n : ℕ) (hn : n < 2 ^ 31) (h0 : 0 ≤ x.toInt) (h1 : x.toInt ≤ n) : x.toNat ≤ n ∧ (x.toNat : ℤ) = x.toInt := by
  rw [BitVec.toInt_eq_toNat_cond] at h0 h1 ⊢
  split at h0 <;> rename_i hc
  · rw [if_pos hc] at h1 ⊢; omega
  · have := x.isLt; omega

theorem andi_eq_one {x y : BitVec 1} (h : IntOp.andi x y = 1#1) : x = 1#1 ∧ y = 1#1 := by
  revert x y; decide

instance : Subsingleton Cert.Pre_in_range.S_.Idx := ⟨fun x y => funext fun a => a.elim0⟩

variable (m : (ℓ : Loc nD τ sig) → Buf (Elt Bits) ℓ)

/-- The tables the launch memory of the device holds. -/
def tabs : pre0.Contents (Elt Bits) := fun k => match k with
  | ⟨0, _⟩ => m (((0 : Dev nD) : Thread nD τ).loc main_arg0)
  | ⟨1, _⟩ => m (((0 : Dev nD) : Thread nD τ).loc main_arg1)

variable {m}

theorem inRange_of_pre (hm : Cert.Pre_Moe (hPre_in_range := Cert.Pre_in_range.Gen.facts) m) : InRange (tabs m) := by
  have h := congrFun (hm 0) (fun a => a.elim0)
  dsimp only [Cert.Pre_in_range.fn] at h
  obtain ⟨h, hle⟩ := andi_eq_one h
  obtain ⟨hall, hge⟩ := andi_eq_one h
  have hnu : ∀ x : BitVec 32, IntOp.cmpi .sge x 1#32 = 1#1 → IntOp.cmpi .sle x 72#32 = 1#1 → 1 ≤ x.toNat ∧ x.toNat ≤ 72 := by
    intro x h1 h2
    rw [IntOp.cmpi_sge] at h1
    rw [IntOp.cmpi_sle] at h2
    have e1 : (1#32).toInt = 1 := by decide
    have e2 : (72#32).toInt = 72 := by decide
    rw [e1] at h1; rw [e2] at h2
    have := signed_range x 72 (by norm_num) (by omega) (by omega)
    omega
  have hn := hnu _ hge hle
  have e : (tabs m) 1 one1 = shapeCast Cert.Pre_in_range.S_ (m (((0 : Dev nD) : Thread nD τ).loc main_arg1)) Cert.Pre_in_range.Gen.facts.shapeCasts_S1_S_ (fun a => a.elim0) :=
    congrArg (m (((0 : Dev nD) : Thread nD τ).loc main_arg1)) (funext fun a => Fin.ext (by
      match a with
      | ⟨0, _⟩ => exact (Nat.lt_one_iff.1 (Fin.isLt _)).symm))
  refine ⟨fun k => ?_, ?_, ?_⟩
  · have hk := Host.reduce_andi_all _ _ _ _ _ hall (row1 k)
    obtain ⟨h0, h8⟩ := andi_eq_one hk
    have h0' : (0#32).toInt ≤ _ := IntOp.cmpi_sge.1 h0
    have h8' : _ < (8#32).toInt := IntOp.cmpi_slt.1 h8
    have e1 : (0#32).toInt = 0 := by decide
    have e2 : (8#32).toInt = 8 := by decide
    rw [e1] at h0'; rw [e2] at h8'
    have := (signed_range _ 7 (by norm_num) h0' (by omega)).1
    exact Nat.lt_succ_of_le this
  · show 1 ≤ BitVec.toNat (w := 32) (tabs m 1 one1)
    rw [e]; exact hn.1
  · show BitVec.toNat (w := 32) (tabs m 1 one1) ≤ 72
    rw [e]; exact hn.2

/-! ## The frame under the precondition -/

/-- The tables of the launch memory, admitted. -/
def adm (h : InRange (tabs m)) : (pcfg0 (F := Bits)).Adm := ⟨tabs m, ok_of h⟩

theorem holds_adm (h : InRange (tabs m)) : Holds (adm h) m :=
  ⟨fun c => by rw [Subsingleton.elim c 0]; rfl, fun c => by rw [Subsingleton.elim c 0]; rfl⟩

theorem quiescent : Cert.quiescent_Moe (hMoe := Cert.Moe.Gen.facts) (hPre_in_range := Cert.Pre_in_range.Gen.facts) :=
  fun m ρ hm => frame (adm (inRange_of_pre hm)) m ρ (holds_adm _)

end Cert.Moe.Tab

end
-- ==== Proof.MoeIdealTab.lean ====
/- The pipeline of the grouped expert feed-forward at ANY contents of its two prefetched tables: the tile table
   (which expert a tile of 1024 sorted rows belongs to) and the count of tiles in use. The only thing asked of the
   tables is that every block they select lies inside its array (`Adm`). From it: what the output's staging buffer
   holds after each grid point (`traj0`), the body's obligation, and the run of @main. -/
module

public import proofs.«01_k».proof.Proof.Gen.MoeIdeal.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.MoeIdeal.Tab

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The resource algebra of the staging cells, embedded whole. -/
abbrev EP : Emb (UR sig nD τ) 𝕄 := emb₁

variable (a : (pcfg0 (F := Ideal)).Adm)
variable (m : (ℓ : Loc nD τ sig) → Buf (Elt Ideal) ℓ) (ρ : Dev nD → PrngReg)

abbrev s₀ : MemSt nD τ sig (Elt Ideal) := ⟨m, fun _ => 0, ρ⟩

/-- The two tables, and the pipeline at them. -/
abbrev tab0 : S72.Idx → Elt Ideal .i32 := a.1 0
abbrev tab1 : S1.Idx → Elt Ideal .i32 := a.1 1
abbrev cfgA : Pipeline.Cfg sig Λ₀ := cfg0 (F := Ideal) a
abbrev pcs : Fin 1 → Pipeline.Cfg sig Λ₀ := Pipeline.pin (pcfgs (F := Ideal)) fun _ => a

/-- The launch memory holds the tables. -/
def Holds : Prop :=
  (∀ c : Dev nD, m ((c : Thread nD τ).loc main_arg0) = tab0 a)
  ∧ (∀ c : Dev nD, m ((c : Thread nD τ).loc main_arg1) = tab1 a)

/-! ## A point's coordinates, words and staging memrefs -/

/-- Point `t`'s coordinates. -/
abbrev crd (t : Fin (cfgA a).N) : (cfgA a).grid.Coords := (cfgA a).grid.coords t

/-- Each window's current staging memref at point `t`, spelled as the pipeline passes it, and its wholeness. -/
abbrev ms0_0 (t : Fin (cfgA a).N) : Memref sig .tc .vmem S1024x1024 .bf16 := spec0_0.stage ((cfgA a).slots t (0 : Fin 5))
abbrev hs0_0 (t : Fin (cfgA a).N) : (ms0_0 a t).IsWhole := hstage0_0 (((cfgA a).slots t (0 : Fin 5)).cast nbuf0_0)
abbrev ms0_1 (t : Fin (cfgA a).N) : Memref sig .tc .vmem S1x1024x512 .f32 := spec0_1.stage ((cfgA a).slots t (1 : Fin 5))
abbrev hs0_1 (t : Fin (cfgA a).N) : (ms0_1 a t).IsWhole := hstage0_1 (((cfgA a).slots t (1 : Fin 5)).cast nbuf0_1)
abbrev ms0_2 (t : Fin (cfgA a).N) : Memref sig .tc .vmem S1x1024x512 .f32 := spec0_2.stage ((cfgA a).slots t (2 : Fin 5))
abbrev hs0_2 (t : Fin (cfgA a).N) : (ms0_2 a t).IsWhole := hstage0_2 (((cfgA a).slots t (2 : Fin 5)).cast nbuf0_2)
abbrev ms0_3 (t : Fin (cfgA a).N) : Memref sig .tc .vmem S1x512x1024 .f32 := spec0_3.stage ((cfgA a).slots t (3 : Fin 5))
abbrev hs0_3 (t : Fin (cfgA a).N) : (ms0_3 a t).IsWhole := hstage0_3 (((cfgA a).slots t (3 : Fin 5)).cast nbuf0_3)
abbrev ms0_4 (t : Fin (cfgA a).N) : Memref sig .tc .vmem S1024x1024 .f32 := spec0_4.stage ((cfgA a).slots t (4 : Fin 5))
abbrev hs0_4 (t : Fin (cfgA a).N) : (ms0_4 a t).IsWhole := hstage0_4 (((cfgA a).slots t (4 : Fin 5)).cast nbuf0_4)

/-! ## The windows' blocks -/

/-- Window `w`'s block at point `t`, read off its array at launch. -/
def iblk (c : Dev nD) (w : Fin (cfgA a).W) (t : Fin (cfgA a).N) : (((cfgA a).win w).xblock (crd a t)).Idx → Elt Ideal ((cfgA a).win w).elt :=
  (((cfgA a).win w).blk t).view.read (Elt Ideal) ((s₀ m ρ).mem (((cfgA a).win w).arr.view.loc (c : Thread nD τ)))

/-! ## The control's decisions at a point, at the pinned words (what tells the paths apart) -/

abbrev P0_0 (t : Fin (cfgA a).N) : Prop := k0_cond1 (crd a t) = 1#1
abbrev P0_1 (t : Fin (cfgA a).N) : Prop := k0_cond2 (crd a t) (View.readAt (Elt Ideal) (tbM0_1).view (Rect.unit (s := S1) ![0] S1.size inb_S1_S1_0).toLoadRect (tab1 a) (Shape.Idx.first (numel1_S1.symm ▸ Nat.one_pos))) = 1#1

/-! ## The schedule of the output window -/

/-- The word the body compares the tile against is the count of tiles in use. -/
theorem word_eq : (View.readAt (Elt Ideal) (tbM0_1).view (Rect.unit (s := S1) ![0] S1.size inb_S1_S1_0).toLoadRect (tab1 a) (Shape.Idx.first (numel1_S1.symm ▸ Nat.one_pos))) = a.1.atD 1 ![0] := rfl

/-- The first point of a tile's seven is where the output block is zeroed. -/
theorem first_iff : ∀ t : Fin grid0.N, k0_cond1 (grid0.coords t) = 1#1 ↔ t.val % 7 = 0 := by decide +kernel

/-- The output block is written back at the last point of a tile's seven. -/
theorem flush_closed : ∀ t : Fin grid0.N, Window.flushOf grid0 true cc0_transform_4 t = decide (t.val % 7 = 6) := by
  decide +kernel

theorem flush4 (t : Fin (cfgA a).N) : ((cfgA a).win (4 : Fin 5)).flush t = decide (t.val % 7 = 6) :=
  flush_closed t

theorem idle4 (t : Fin (cfgA a).N) :
    (cfgA a).idle (4 : Fin 5) (crd a t) = (!(k0_cond1 (crd a t) == 1#1) && !(k0_cond2 (crd a t) (a.1.atD 1 ![0]) == 1#1)) := rfl

theorem fresh4 (t : Fin (cfgA a).N) : (cfgA a).fresh (4 : Fin 5) t.val = decide (t.val % 7 = 0) := by
  refine Pipeline.Cfg.fresh_tab (cfgA a) (4 : Fin 5) (fun n => decide (n % 7 = 0)) rfl (fun t => ?_) t.val (Nat.le_of_lt t.isLt)
  have h1 := first_iff t
  rw [flush4, idle4]
  by_cases h : t.val % 7 = 6
  · have : (t.val + 1) % 7 = 0 := by omega
    simp [h, this]
  · have h' : ¬ (t.val + 1) % 7 = 0 := by omega
    by_cases h0 : t.val % 7 = 0
    · have := h1.2 h0
      simp [h, h', this]
    · simp [h, h', h0]

theorem sched0_A : ∀ (t : Fin (cfgA a).N), P0_0 a t → P0_1 a t →
    (cfgA a).idle (4 : Fin 5) ((cfgA a).grid.coords t) = false ∧ ((cfgA a).win (4 : Fin 5)).flush t = false ∧ (cfgA a).fresh (4 : Fin 5) t.val = true := by
  intro t q0 _
  have h := (first_iff t).1 q0
  refine ⟨?_, ?_, ?_⟩
  · rw [idle4, show k0_cond1 (crd a t) = 1#1 from q0]; rfl
  · rw [flush4]; simp [h]
  · rw [fresh4]; simp [h]

theorem sched0_C : ∀ (t : Fin (cfgA a).N), P0_0 a t → ¬P0_1 a t →
    (cfgA a).idle (4 : Fin 5) ((cfgA a).grid.coords t) = false ∧ ((cfgA a).win (4 : Fin 5)).flush t = false ∧ (cfgA a).fresh (4 : Fin 5) t.val = true := by
  intro t q0 _
  have h := (first_iff t).1 q0
  refine ⟨?_, ?_, ?_⟩
  · rw [idle4, show k0_cond1 (crd a t) = 1#1 from q0]; rfl
  · rw [flush4]; simp [h]
  · rw [fresh4]; simp [h]

theorem sched0_B : ∀ (t : Fin (cfgA a).N), ¬P0_0 a t → P0_1 a t →
    (cfgA a).idle (4 : Fin 5) ((cfgA a).grid.coords t) = false ∧ (cfgA a).fresh (4 : Fin 5) t.val = false := by
  intro t q0 q1
  have h : ¬ t.val % 7 = 0 := fun h0 => q0 ((first_iff t).2 h0)
  refine ⟨?_, ?_⟩
  · rw [idle4, ← word_eq, show k0_cond2 (crd a t) _ = 1#1 from q1]; simp
  · rw [fresh4]; simp [h]

theorem sched0_D : ∀ (t : Fin (cfgA a).N), ¬P0_0 a t → ¬P0_1 a t →
    (cfgA a).idle (4 : Fin 5) ((cfgA a).grid.coords t) = true ∧ (cfgA a).fresh (4 : Fin 5) t.val = false := by
  intro t q0 q1
  have h : ¬ t.val % 7 = 0 := fun h0 => q0 ((first_iff t).2 h0)
  refine ⟨?_, ?_⟩
  · rw [idle4, ← word_eq, beq_eq_false_iff_ne.2 q0, beq_eq_false_iff_ne.2 q1]; rfl
  · rw [fresh4]; simp [h]

/-! ## What the outputs and scratches hold after each point -/

/-- ONE STEP of the trajectory: what the outputs' current buffers and the scratches hold after the body at point `t`
    (output 4), from what they held before (`prev`): the path the decisions select at `t`, its
    run's contents; an output the path leaves idle keeps what it held (junk — `default`, named by nothing — where fresh). -/
def step0 (c : Dev nD) (t : Fin (cfgA a).N) (prev : (S1024x1024.Idx → Elt Ideal .f32)) : (S1024x1024.Idx → Elt Ideal .f32) :=
  if q0 : P0_0 a t then
    if q1 : P0_1 a t then
      out0_A_4 c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a m ρ c (0 : Fin 5) t) (iblk a m ρ c (1 : Fin 5) t) (iblk a m ρ c (2 : Fin 5) t) (iblk a m ρ c (3 : Fin 5) t) q0 q1
    else
      out0_C_4 c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a m ρ c (0 : Fin 5) t) (iblk a m ρ c (1 : Fin 5) t) (iblk a m ρ c (2 : Fin 5) t) (iblk a m ρ c (3 : Fin 5) t) q0 q1
  else
    if q1 : P0_1 a t then
      out0_B_4 c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a m ρ c (0 : Fin 5) t) (iblk a m ρ c (1 : Fin 5) t) (iblk a m ρ c (2 : Fin 5) t) (iblk a m ρ c (3 : Fin 5) t) prev q0 q1
    else
      (if (cfgA a).fresh (4 : Fin 5) t.val then default else prev)

/-- THE TRAJECTORY: after position `n`. -/
def traj0 (c : Dev nD) : (n : ℕ) → n < (cfgA a).N → (S1024x1024.Idx → Elt Ideal .f32)
  | 0, h => step0 a m ρ c ⟨0, h⟩ default
  | n + 1, h => step0 a m ρ c ⟨n + 1, h⟩ (traj0 c n (Nat.lt_of_succ_lt h))

/-- What they held BEFORE point `t` (junk before the first). -/
def prev0 (c : Dev nD) (t : Fin (cfgA a).N) : (S1024x1024.Idx → Elt Ideal .f32) :=
  if h : t.val = 0 then default else traj0 a m ρ c (t.val - 1) (by omega)

theorem traj0_eq (c : Dev nD) (t : Fin (cfgA a).N) : traj0 a m ρ c t.val t.isLt = step0 a m ρ c t (prev0 a m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA a).N) (prev : (S1024x1024.Idx → Elt Ideal .f32)) (q0 : P0_0 a t) (q1 : P0_1 a t) :
    step0 a m ρ c t prev = out0_A_4 c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a m ρ c (0 : Fin 5) t) (iblk a m ρ c (1 : Fin 5) t) (iblk a m ρ c (2 : Fin 5) t) (iblk a m ρ c (3 : Fin 5) t) q0 q1 := by
  unfold step0; simp only [dif_pos q0, dif_pos q1]

/-- `step0` at a point of path B. -/
theorem step0_B (c : Dev nD) (t : Fin (cfgA a).N) (prev : (S1024x1024.Idx → Elt Ideal .f32)) (q0 : ¬P0_0 a t) (q1 : P0_1 a t) :
    step0 a m ρ c t prev = out0_B_4 c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a m ρ c (0 : Fin 5) t) (iblk a m ρ c (1 : Fin 5) t) (iblk a m ρ c (2 : Fin 5) t) (iblk a m ρ c (3 : Fin 5) t) prev q0 q1 := by
  unfold step0; simp only [dif_neg q0, dif_pos q1]

/-- `step0` at a point of path C. -/
theorem step0_C (c : Dev nD) (t : Fin (cfgA a).N) (prev : (S1024x1024.Idx → Elt Ideal .f32)) (q0 : P0_0 a t) (q1 : ¬P0_1 a t) :
    step0 a m ρ c t prev = out0_C_4 c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a m ρ c (0 : Fin 5) t) (iblk a m ρ c (1 : Fin 5) t) (iblk a m ρ c (2 : Fin 5) t) (iblk a m ρ c (3 : Fin 5) t) q0 q1 := by
  unfold step0; simp only [dif_pos q0, dif_neg q1]

/-- `step0` at a point of path D. -/
theorem step0_D (c : Dev nD) (t : Fin (cfgA a).N) (prev : (S1024x1024.Idx → Elt Ideal .f32)) (q0 : ¬P0_0 a t) (q1 : ¬P0_1 a t) :
    step0 a m ρ c t prev = (if (cfgA a).fresh (4 : Fin 5) t.val then default else prev) := by
  unfold step0; simp only [dif_neg q0, dif_neg q1]

/-! ## The pipeline's proof data -/

/-- What the tracked buffers held before position `t` of `Fin (N+1)` (the invariant's index). -/
def prev0T (c : Dev nD) (t : Fin ((cfgA a).N + 1)) : (S1024x1024.Idx → Elt Ideal .f32) :=
  if h : t.val = 0 then default else traj0 a m ρ c (t.val - 1) (by omega)

theorem prev0T_castSucc (c : Dev nD) (t : Fin (cfgA a).N) : prev0T a m ρ c t.castSucc = prev0 a m ρ c t := by
  unfold prev0T prev0; simp only [Fin.val_castSucc]
theorem prev0T_succ (c : Dev nD) (t : Fin (cfgA a).N) : prev0T a m ρ c t.succ = traj0 a m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA a).N + 1)) : sProp 𝕄 :=
  iprop((tbM0_0.view.loc (c : Thread nD τ) ↦{fullShare.right} tab0 a) ∗ (tbM0_1.view.loc (c : Thread nD τ) ↦{fullShare.right} tab1 a))

/-- The proof data of the one pipeline on core `c`. -/
def dats (_ : Fin 1) (c : Dev nD) : Dat τ (Elt Ideal) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => (traj0 a m ρ c t.val t.isLt)
  Φ t := Phi a m ρ c t
  q _ := fullShare
  owed _ := 0

theorem after0_0 (c : Dev nD) (t : Fin (cfgA a).N) : (dats a m ρ 0 c).after (0 : Fin 5) t = iblk a m ρ c (0 : Fin 5) t := rfl
theorem after0_1 (c : Dev nD) (t : Fin (cfgA a).N) : (dats a m ρ 0 c).after (1 : Fin 5) t = iblk a m ρ c (1 : Fin 5) t := rfl
theorem after0_2 (c : Dev nD) (t : Fin (cfgA a).N) : (dats a m ρ 0 c).after (2 : Fin 5) t = iblk a m ρ c (2 : Fin 5) t := rfl
theorem after0_3 (c : Dev nD) (t : Fin (cfgA a).N) : (dats a m ρ 0 c).after (3 : Fin 5) t = iblk a m ρ c (3 : Fin 5) t := rfl
theorem after0_4 (c : Dev nD) (t : Fin (cfgA a).N) : (dats a m ρ 0 c).after (4 : Fin 5) t = (traj0 a m ρ c t.val t.isLt) := rfl

/-! ## What each window's staging buffer holds when the body runs -/

/-- Input window 0 holds its block, fetched there or not (Lib/Pipeline/FrameBody.lean `Dat.before_in_eq_fetched`). -/
theorem before0_0 (c : Dev nD) (t : Fin (cfgA a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4's `after` carries through the points that leave it idle. -/
theorem hcarry0_4 (c : Dev nD) : ∀ (t : Fin (cfgA a).N) (ht : t.val ≠ 0), (cfgA a).idle (4 : Fin 5) ((cfgA a).grid.coords t) = true → (cfgA a).fresh (4 : Fin 5) t.val = false →
    (dats a m ρ 0 c).after (4 : Fin 5) t = (dats a m ρ 0 c).after (4 : Fin 5) ⟨t.val - 1, by omega⟩ := by
  intro t ht hi hf
  rw [after0_4, after0_4, traj0_eq]
  by_cases q0 : P0_0 a t
  · by_cases q1 : P0_1 a t
    · obtain ⟨i4, -, -⟩ := sched0_A a t q0 q1
      rw [i4] at hi; exact absurd hi (by decide)
    · obtain ⟨i4, -, -⟩ := sched0_C a t q0 q1
      rw [i4] at hi; exact absurd hi (by decide)
  · by_cases q1 : P0_1 a t
    · obtain ⟨i4, -⟩ := sched0_B a t q0 q1
      rw [i4] at hi; exact absurd hi (by decide)
    · rw [step0_D a m ρ c t _ q0 q1]
      simp only [hf, Bool.false_eq_true, ↓reduceIte]
      unfold prev0; rw [dif_neg ht]

/-- Output window 4 holds, when the body runs at `t`: junk if nothing was stored since its last write-back (`Cfg.fresh`),
    else what the point before left (TableIdle.lean `Dat.before_out_traj`). -/
theorem before0_4 (c : Dev nD) (t : Fin (cfgA a).N) (d) :
    (dats a m ρ 0 c).before (4 : Fin 5) t d = if (cfgA a).fresh (4 : Fin 5) t.val then d else (prev0 a m ρ c t) := by
  rw [(dats a m ρ 0 c).before_out_traj (4 : Fin 5) rfl (fun _ _ => rfl) (hcarry0_4 a m ρ c) t.val t rfl d]
  by_cases hf : (cfgA a).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at point `t` on its staging memrefs, as the pipeline calls it. -/
abbrev bodyAt0 (t : Fin (cfgA a).N) : Prog (TpuEff nD τ sig (Elt Ideal) Λ₀ .tc) PUnit :=
  cc0_moe (crd a t) (Memref.whole main_arg0) (Memref.isWhole_whole _) (Memref.whole main_arg1) (Memref.isWhole_whole _) (ms0_0 a t) (hs0_0 a t) (ms0_1 a t) (hs0_1 a t) (ms0_2 a t) (hs0_2 a t) (ms0_3 a t) (hs0_3 a t) (ms0_4 a t) (hs0_4 a t)

set_option maxHeartbeats 4000000 in
/-- The body's triple at point `t`: the two decisions tell which of its four paths runs; the inputs hold their blocks,
    the output what the point before left. -/
theorem sound_body (hp : Holds a m) (c : Dev nD) (t : Fin (cfgA a).N) :
    iprop((dats a m ρ 0 c).Φ t.castSucc ∗ (dats a m ρ 0 c).owesAt () t.castSucc
        ∗ (∃ d, owns (c : Thread nD τ) (ms0_0 a t) fullShare ((dats a m ρ 0 c).before (0 : Fin 5) t d))
        ∗ (∃ d, owns (c : Thread nD τ) (ms0_1 a t) fullShare ((dats a m ρ 0 c).before (1 : Fin 5) t d))
        ∗ (∃ d, owns (c : Thread nD τ) (ms0_2 a t) fullShare ((dats a m ρ 0 c).before (2 : Fin 5) t d))
        ∗ (∃ d, owns (c : Thread nD τ) (ms0_3 a t) fullShare ((dats a m ρ 0 c).before (3 : Fin 5) t d))
        ∗ (∃ d, owns (c : Thread nD τ) (ms0_4 a t) fullShare ((dats a m ρ 0 c).before (4 : Fin 5) t d)))
      ⊢ wp frame (wpE (defs₀ (F := Ideal)) Variants.none c none) Set.univ (bodyAt0 a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  by_cases q0 : P0_0 a t
  · by_cases q1 : P0_1 a t
    · obtain ⟨i4, f4, fr4⟩ := sched0_A a t q0 q1
      have k0_h1 := q0
      have k0_h2 := q1
      rewrite [i4]
      simp only [before0_0, before0_1, before0_2, before0_3, before0_4, after0_0, after0_1, after0_2, after0_3, after0_4, f4]
      simp only [fr4, Bool.false_eq_true, ↓reduceIte]
      rewrite [show (dats a m ρ 0 c).Φ t.succ = Phi a m ρ c t.succ from rfl, show (dats a m ρ 0 c).Φ t.castSucc = Phi a m ρ c t.castSucc from rfl,
        show (dats a m ρ 0 c).owesAt () t.succ = (dats a m ρ 0 c).owesAt () t.castSucc from rfl]
      try rewrite [traj0_eq, step0_A a m ρ c t _ q0 q1]
      unfold Phi; simp only [prev0T_castSucc, prev0T_succ, traj0_eq, step0_A a m ρ c t _ q0 q1, Fin.val_castSucc, Fin.val_succ]
      iintro ⟨⟨HT0, HT1⟩, Ho, ⟨%d0, H0⟩, ⟨%d1, H1⟩, ⟨%d2, H2⟩, ⟨%d3, H3⟩, ⟨%d4, H4⟩⟩
      iapply ((kernelRun0_A c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a m ρ c (0 : Fin 5) t) (iblk a m ρ c (1 : Fin 5) t) (iblk a m ρ c (2 : Fin 5) t) (iblk a m ρ c (3 : Fin 5) t) k0_h1 k0_h2).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      iintro ⟨H0, H1, H2, H3, HT0, HT1, ⟨%e4, H4⟩⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_A_4 c _ _ _ _ _ _ _ _ _ _ _ _ _ _ _ _ _ _ _)
    · obtain ⟨i4, f4, fr4⟩ := sched0_C a t q0 q1
      have k0_h1 := q0
      have k0_h2 := q1
      rewrite [i4]
      simp only [before0_0, before0_1, before0_2, before0_3, before0_4, after0_0, after0_1, after0_2, after0_3, after0_4, f4]
      simp only [fr4, Bool.false_eq_true, ↓reduceIte]
      rewrite [show (dats a m ρ 0 c).Φ t.succ = Phi a m ρ c t.succ from rfl, show (dats a m ρ 0 c).Φ t.castSucc = Phi a m ρ c t.castSucc from rfl,
        show (dats a m ρ 0 c).owesAt () t.succ = (dats a m ρ 0 c).owesAt () t.castSucc from rfl]
      try rewrite [traj0_eq, step0_C a m ρ c t _ q0 q1]
      unfold Phi; simp only [prev0T_castSucc, prev0T_succ, traj0_eq, step0_C a m ρ c t _ q0 q1, Fin.val_castSucc, Fin.val_succ]
      iintro ⟨⟨HT0, HT1⟩, Ho, ⟨%d0, H0⟩, ⟨%d1, H1⟩, ⟨%d2, H2⟩, ⟨%d3, H3⟩, ⟨%d4, H4⟩⟩
      iapply ((kernelRun0_C c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a m ρ c (0 : Fin 5) t) (iblk a m ρ c (1 : Fin 5) t) (iblk a m ρ c (2 : Fin 5) t) (iblk a m ρ c (3 : Fin 5) t) k0_h1 k0_h2).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      iintro ⟨H0, H1, H2, H3, HT0, HT1, ⟨%e4, H4⟩⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_C_4 c _ _ _ _ _ _ _ _ _ _ _ _ _ _ _ _ _ _ _)
  · by_cases q1 : P0_1 a t
    · obtain ⟨i4, fr4⟩ := sched0_B a t q0 q1
      have k0_h1 := q0
      have k0_h2 := q1
      rewrite [i4]
      simp only [before0_0, before0_1, before0_2, before0_3, before0_4, after0_0, after0_1, after0_2, after0_3, after0_4]
      simp only [fr4, Bool.false_eq_true, ↓reduceIte]
      rewrite [show (dats a m ρ 0 c).Φ t.succ = Phi a m ρ c t.succ from rfl, show (dats a m ρ 0 c).Φ t.castSucc = Phi a m ρ c t.castSucc from rfl,
        show (dats a m ρ 0 c).owesAt () t.succ = (dats a m ρ 0 c).owesAt () t.castSucc from rfl]
      try rewrite [traj0_eq, step0_B a m ρ c t _ q0 q1]
      unfold Phi; simp only [prev0T_castSucc, prev0T_succ, traj0_eq, step0_B a m ρ c t _ q0 q1, Fin.val_castSucc, Fin.val_succ]
      iintro ⟨⟨HT0, HT1⟩, Ho, ⟨%d0, H0⟩, ⟨%d1, H1⟩, ⟨%d2, H2⟩, ⟨%d3, H3⟩, ⟨%d4, H4⟩⟩
      iapply ((kernelRun0_B c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a m ρ c (0 : Fin 5) t) (iblk a m ρ c (1 : Fin 5) t) (iblk a m ρ c (2 : Fin 5) t) (iblk a m ρ c (3 : Fin 5) t) _ k0_h1 k0_h2).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      iintro ⟨H0, H1, H2, H3, HT0, HT1, ⟨%e4, H4⟩⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_B_4 c _ _ _ _ _ _ _ _ _ _ _ _ _ _ _ _ _ _ _ _)
    · obtain ⟨i4, fr4⟩ := sched0_D a t q0 q1
      have k0_h1 := q0
      have k0_h2 := q1
      cases f4 : ((cfgA a).win (4 : Fin 5)).flush t
      · rewrite [i4]
        simp only [before0_0, before0_1, before0_2, before0_3, before0_4, after0_0, after0_1, after0_2, after0_3, after0_4, f4]
        simp only [fr4, Bool.false_eq_true, ↓reduceIte]
        rewrite [show (dats a m ρ 0 c).Φ t.succ = Phi a m ρ c t.succ from rfl, show (dats a m ρ 0 c).Φ t.castSucc = Phi a m ρ c t.castSucc from rfl,
          show (dats a m ρ 0 c).owesAt () t.succ = (dats a m ρ 0 c).owesAt () t.castSucc from rfl]
        try rewrite [traj0_eq, step0_D a m ρ c t _ q0 q1]
        unfold Phi; simp only [prev0T_castSucc, prev0T_succ, traj0_eq, step0_D a m ρ c t _ q0 q1, Fin.val_castSucc, Fin.val_succ]
        iintro ⟨⟨HT0, HT1⟩, Ho, ⟨%d0, H0⟩, ⟨%d1, H1⟩, ⟨%d2, H2⟩, ⟨%d3, H3⟩, ⟨%d4, H4⟩⟩
        iapply ((kernelRun0_D c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a m ρ c (0 : Fin 5) t) (iblk a m ρ c (1 : Fin 5) t) (iblk a m ρ c (2 : Fin 5) t) (iblk a m ρ c (3 : Fin 5) t) k0_h1 k0_h2).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        iintro ⟨H0, H1, H2, H3, HT0, HT1, H4⟩
        isplitl [HT0 HT1]
        · isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4
      · rewrite [i4]
        simp only [before0_0, before0_1, before0_2, before0_3, before0_4, after0_0, after0_1, after0_2, after0_3, after0_4, f4]
        simp only [fr4, Bool.false_eq_true, ↓reduceIte]
        rewrite [show (dats a m ρ 0 c).Φ t.succ = Phi a m ρ c t.succ from rfl, show (dats a m ρ 0 c).Φ t.castSucc = Phi a m ρ c t.castSucc from rfl,
          show (dats a m ρ 0 c).owesAt () t.succ = (dats a m ρ 0 c).owesAt () t.castSucc from rfl]
        try rewrite [traj0_eq, step0_D a m ρ c t _ q0 q1]
        unfold Phi; simp only [prev0T_castSucc, prev0T_succ, traj0_eq, step0_D a m ρ c t _ q0 q1, Fin.val_castSucc, Fin.val_succ, fr4, Bool.false_eq_true, ↓reduceIte]
        iintro ⟨⟨HT0, HT1⟩, Ho, ⟨%d0, H0⟩, ⟨%d1, H1⟩, ⟨%d2, H2⟩, ⟨%d3, H3⟩, ⟨%d4, H4⟩⟩
        iapply ((kernelRun0_D c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a m ρ c (0 : Fin 5) t) (iblk a m ρ c (1 : Fin 5) t) (iblk a m ρ c (2 : Fin 5) t) (iblk a m ρ c (3 : Fin 5) t) k0_h1 k0_h2).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        iintro ⟨H0, H1, H2, H3, HT0, HT1, H4⟩
        isplitl [HT0 HT1]
        · isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4

/-- The library's body obligation, at every point. -/
theorem body_obligation (hp : Holds a m) (c : Dev nD) : BodyObligation (dats a m ρ 0 c) (defs₀ (F := Ideal)) Variants.none () Set.univ := fun t => by
  rw [bigSep_W0]
  exact sound_body a m ρ hp c t

/-! ## The launch -/

/-- The rounds library's launch element. -/
def u₀ : UR sig nD τ :=
  initOf (Pipeline.cells (pcs a) ((launch0 (F := Ideal)).cellOf_inj fun _ => a))
    (Pipeline.launchToks (pcs a) ((launch0 (F := Ideal)).cellOf_inj fun _ => a))

theorem share_eq (c : Dev nD) (w : Fin (cfgA a).W) : (dats a m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 from rfl]
  unfold Phi
  iintro ⟨-, ⟨HT0, HT1⟩, -⟩
  isplitl [HT0]
  · iexact HT0
  iexact HT1

/-- at the last point it gives the scratch buffers back (`hout`), the tables let go. -/
theorem phiN_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (Fin.last _) from rfl]
  unfold Phi
  iintro ⟨-, -⟩
  isplitr; · iempintro
  iempintro

/-- The physical post: every array at what the library computes, every table at what the pipeline ran at. -/
def QC : PUnit × MemSt nD τ sig (Elt Ideal) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

theorem V_pre (hp : Holds a m) (c : Dev nD) (j : Fin 2) : m ((c : Thread nD τ).loc (pre0.ref j)) = a.1 j := by
  fin_cases j
  · exact hp.1 c
  · exact hp.2 c

set_option backward.isDefEq.respectTransparency.types false in
set_option maxHeartbeats 4000000 in
/-- From any memory with zero counters that holds the tables, every weakly fair execution of @main on the TensorCores
    terminates; at every final state each array has the computed contents and every semaphore counter is zero. -/
theorem run_main_quiescent (hp : Holds a m) : θ_run (defs (F := Ideal)) (onTc (τ := τ) (main (F := Ideal))) (s₀ m ρ) (fun r => QC a m ρ r ∧ r.2.sem = fun _ => 0) :=
  Pipeline.θ_run_region_noSem_pf_quiescent pcfgs (fun _ => a) (dats a m ρ) () ((launch0 (F := Ideal)).cellOf_inj fun _ => a) (0 : Fin 1)
    (launch0 (F := Ideal)).win.to₀ (launch0 (F := Ideal)).pre EP defs₀ Variants.none m ρ main
    (hbody := fun c => (body_obligation a m ρ hp c).loose) (hne := (launch0 (F := Ideal)).block_pos)
    (harr := (launch0 (F := Ideal)).arr_whole) (hstage := (launch0 (F := Ideal)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := Ideal)).win.arr_inj c (launch0 (F := Ideal)).arr_whole
      (share_eq a m ρ c) _ _ fun _ => rfl)
    (hpf := V_pre a m hp)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Holds a m) : θ_run (defs (F := Ideal)) (onTc (τ := τ) (main (F := Ideal))) (s₀ m ρ) (QC a m ρ) :=
  (θ_run defs _ _).mono (fun _ h => h.1) (run_main_quiescent a m ρ hp)

/-- `frame` without the counters: the argument arrays end unchanged. -/
theorem unchanged (hp : Holds a m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats a m ρ 0 c).arrAt_in (0 : Fin 5) rfl _), ((h c).1 (1 : Fin 5)).trans ((dats a m ρ 0 c).arrAt_in (1 : Fin 5) rfl _), ((h c).1 (2 : Fin 5)).trans ((dats a m ρ 0 c).arrAt_in (2 : Fin 5) rfl _), ((h c).1 (3 : Fin 5)).trans ((dats a m ρ 0 c).arrAt_in (3 : Fin 5) rfl _)⟩) (run_main a m ρ hp)

/-- The frame: every execution terminates without a fault, the arguments end unchanged, the counters end at zero. -/
theorem frame (hp : Holds a m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged a m ρ hp) ((θ_run defs _ _).mono (fun _ h => h.2) (run_main_quiescent a m ρ hp))

end Cert.MoeIdeal.Tab

end
-- ==== Proof.MoeIdealRange.lean ====
/- The two tables in range. A tile's expert is below 8 and between 1 and 72 tiles are in use: this is what the
   precondition says, decoded here from the printed predicate. Under it the index maps have closed forms in natural
   numbers, every block they select lies inside its array, and the kernel runs. -/
module

public import proofs.«01_k».proof.Proof.MoeIdealTab
public import proofs.«01_k».proof.Proof.Gen.Pre_in_range
public import proofs.«01_k».proof.Defs
public import Idealize.ShloMosaic.Lib.ReduceAll
public import Idealize.ShloMosaic.Lib.Affine

@[expose] public section

set_option maxRecDepth 16384

noncomputable section

namespace Cert.MoeIdeal.Tab

open Cert.MoeIdeal Cert.MoeIdeal.Gen
open Idealize.ShloMosaic Idealize.ShloMosaic.TcCoe Idealize.SL.Sem

/-- The index of tile `k`'s entry in the tile table. -/
abbrev row1 (k : Fin 72) : S72.Idx := fun a => match a with | ⟨0, _⟩ => k
/-- The index of the count of tiles in use. -/
abbrev one1 : S1.Idx := fun a => match a with | ⟨0, _⟩ => ⟨0, Nat.one_pos⟩

/-- Tile `k`'s expert, and the count of tiles in use. -/
def te (pf : pre0.Contents (Elt Ideal)) (k : Fin 72) : ℕ := BitVec.toNat (w := 32) (pf 0 (row1 k))
def nu (pf : pre0.Contents (Elt Ideal)) : ℕ := BitVec.toNat (w := 32) (pf 1 one1)

/-- The tables are in range. -/
structure InRange (pf : pre0.Contents (Elt Ideal)) : Prop where
  te_lt : ∀ k, te pf k < 8
  nu_pos : 1 ≤ nu pf
  nu_le : nu pf ≤ 72

variable {pf : pre0.Contents (Elt Ideal)}

/-! ## The index maps in natural numbers -/

theorem minsi_nat : ∀ (i : Fin 72) (n : Fin 73), 1 ≤ n.val →
    (Scalar.minsi (BitVec.ofNat 32 i.val) (Scalar.subi (BitVec.ofNat 32 n.val) 1#32)).toNat = min i.val (n.val - 1) := by
  decide +kernel

theorem slt_nat : ∀ (i : Fin 72) (n : Fin 73),
    Scalar.cmpi .slt (BitVec.ofNat 32 i.val) (BitVec.ofNat 32 n.val) = if i.val < n.val then 1#1 else 0#1 := by
  decide +kernel

theorem chunk_nat : ∀ (c : Fin 7) (b : Bool),
    (Scalar.select (if b then 1#1 else 0#1) (BitVec.ofNat 32 c.val) 6#32).toNat = if b then c.val else 6 := by
  decide +kernel

theorem ofNat_self (x : BitVec 32) : x = BitVec.ofNat 32 x.toNat := by
  rw [BitVec.ofNat_toNat, BitVec.setWidth_eq]

theorem at1 (pf : pre0.Contents (Elt Ideal)) :
    pf.at 1 (Rect.unit (s := S1) ![0] S1.size inb_S1_S1_0) numel1_S1 = BitVec.ofNat 32 (nu pf) := by
  have e : (Rect.unit (s := S1) ![0] S1.size inb_S1_S1_0).emb (Shape.Idx.first (numel1_S1.symm ▸ Nat.one_pos)) = one1 :=
    funext fun a => Fin.ext (by match a with | ⟨0, _⟩ => rfl)
  exact Eq.trans (congrArg (pf 1) e) (ofNat_self (pf 1 one1))

theorem idx_nat : ∀ i : Fin 72, (Scalar.indexCast (BitVec.ofNat 32 i.val)).toNat = i.val := by decide +kernel

theorem at0 (pf : pre0.Contents (Elt Ideal)) (i : grid0.Coords) :
    BitVec.toNat (w := 32) (pf.at 0 (Rect.unit (s := S72) ![(Scalar.indexCast (BitVec.ofNat 32 (i 0).val)).toNat] S1.size (k0_off1_inb i)) numel1_S1) = te pf (i 0) := by
  show BitVec.toNat (w := 32) (pf 0 _) = BitVec.toNat (w := 32) (pf 0 _)
  refine congrArg (fun x => BitVec.toNat (w := 32) (pf 0 x)) (funext fun a => Fin.ext ?_)
  match a with
  | ⟨0, _⟩ => exact (Nat.add_zero _).trans (idx_nat (i 0))

theorem transform_0 (h : InRange pf) (i : grid0.Coords) :
    cc0_transform_0 inb_S1_S1_0 numel1_S1 pf i = ![min (i 0).val (nu pf - 1), 0] := by
  show ![(Scalar.minsi (BitVec.ofNat 32 (i 0).val) (Scalar.subi (pf.at 1 (Rect.unit (s := S1) ![0] S1.size inb_S1_S1_0) numel1_S1) 1#32)).toNat, 0] = _
  rw [at1]
  exact congrArg (fun x => ![x, 0]) (minsi_nat (i 0) ⟨nu pf, Nat.lt_succ_of_le h.nu_le⟩ h.nu_pos)

/-- The 512-wide chunk of the expert's hidden width that point `i` uses: its own, or the last once the tiles ran out. -/
def chk (pf : pre0.Contents (Elt Ideal)) (i : grid0.Coords) : ℕ := if (i 0).val < nu pf then (i 1).val else 6

theorem chk_nat (h : InRange pf) (i : grid0.Coords) :
    (Scalar.select (Scalar.cmpi .slt (BitVec.ofNat 32 (i 0).val) (pf.at 1 (Rect.unit (s := S1) ![0] S1.size inb_S1_S1_0) numel1_S1)) (BitVec.ofNat 32 (i 1).val) 6#32).toNat = chk pf i := by
  rw [at1, slt_nat (i 0) ⟨nu pf, Nat.lt_succ_of_le h.nu_le⟩]
  have := chunk_nat (i 1) (decide ((i 0).val < nu pf))
  simpa only [decide_eq_true_eq, chk] using this

theorem transform_1 (h : InRange pf) (i : grid0.Coords) :
    cc0_transform_1 k0_off1_inb numel1_S1 inb_S1_S1_0 pf i = ![te pf (i 0), 0, chk pf i] := by
  rw [← chk_nat h, ← at0]; rfl

theorem transform_2 (h : InRange pf) (i : grid0.Coords) :
    cc0_transform_2 k0_off1_inb numel1_S1 inb_S1_S1_0 pf i = ![te pf (i 0), 0, chk pf i] := by
  rw [← chk_nat h, ← at0]; rfl

theorem transform_3 (h : InRange pf) (i : grid0.Coords) :
    cc0_transform_3 k0_off1_inb numel1_S1 inb_S1_S1_0 pf i = ![te pf (i 0), chk pf i, 0] := by
  rw [← chk_nat h, ← at0]; rfl

theorem chk_le (pf : pre0.Contents (Elt Ideal)) (i : grid0.Coords) : chk pf i ≤ 6 := by
  unfold chk
  have : (i 1).val < 7 := (i 1).isLt
  split <;> omega

/-! ## Every block lies inside its array -/

theorem ok_of (h : InRange pf) : ok0 (F := Ideal) pf := by
  have hi (i : grid0.Coords) : (i 0).val < 72 := (i 0).isLt
  refine ⟨fun i => ⟨?_, .inr (Affine.block_words_dvd (s := S73728x1024) (p := EltTy.packing .bf16) (by decide) (by decide))⟩,
    fun i => ⟨?_, .inl rfl⟩, fun i => ⟨?_, .inl rfl⟩, fun i => ⟨?_, .inl rfl⟩⟩
  · rw [transform_0 h]
    have h1 := hi i; have h2 := h.nu_le; have h3 := h.nu_pos
    intro a
    match a with
    | ⟨0, _⟩ => show (min (i 0).val (nu pf - 1) + 1) * 1024 ≤ 73728; omega
    | ⟨1, _⟩ => show (0 + 1) * 1024 ≤ 1024; decide
  · rw [transform_1 h]
    have h1 := h.te_lt (i 0); have h2 := chk_le pf i
    intro a
    match a with
    | ⟨0, _⟩ => show (te pf (i 0) + 1) * 1 ≤ 8; omega
    | ⟨1, _⟩ => show (0 + 1) * 1024 ≤ 1024; decide
    | ⟨2, _⟩ => show (chk pf i + 1) * 512 ≤ 3584; omega
  · rw [transform_2 h]
    have h1 := h.te_lt (i 0); have h2 := chk_le pf i
    intro a
    match a with
    | ⟨0, _⟩ => show (te pf (i 0) + 1) * 1 ≤ 8; omega
    | ⟨1, _⟩ => show (0 + 1) * 1024 ≤ 1024; decide
    | ⟨2, _⟩ => show (chk pf i + 1) * 512 ≤ 3584; omega
  · rw [transform_3 h]
    have h1 := h.te_lt (i 0); have h2 := chk_le pf i
    intro a
    match a with
    | ⟨0, _⟩ => show (te pf (i 0) + 1) * 1 ≤ 8; omega
    | ⟨1, _⟩ => show (chk pf i + 1) * 512 ≤ 3584; omega
    | ⟨2, _⟩ => show (0 + 1) * 1024 ≤ 1024; decide

/-! ## The precondition decoded -/

theorem signed_range (x : BitVec 32) (n : ℕ) (hn : n < 2 ^ 31) (h0 : 0 ≤ x.toInt) (h1 : x.toInt ≤ n) : x.toNat ≤ n ∧ (x.toNat : ℤ) = x.toInt := by
  rw [BitVec.toInt_eq_toNat_cond] at h0 h1 ⊢
  split at h0 <;> rename_i hc
  · rw [if_pos hc] at h1 ⊢; omega
  · have := x.isLt; omega

theorem andi_eq_one {x y : BitVec 1} (h : IntOp.andi x y = 1#1) : x = 1#1 ∧ y = 1#1 := by
  revert x y; decide

instance : Subsingleton Cert.Pre_in_range.S_.Idx := ⟨fun x y => funext fun a => a.elim0⟩

variable (m : (ℓ : Loc nD τ sig) → Buf (Elt Ideal) ℓ)

/-- The tables the launch memory of the device holds. -/
def tabs : pre0.Contents (Elt Ideal) := fun k => match k with
  | ⟨0, _⟩ => m (((0 : Dev nD) : Thread nD τ).loc main_arg0)
  | ⟨1, _⟩ => m (((0 : Dev nD) : Thread nD τ).loc main_arg1)

variable {m}

theorem inRange_of_pre (hm : Cert.Pre_MoeIdeal (hPre_in_range := Cert.Pre_in_range.Gen.facts) m) : InRange (tabs m) := by
  have h := congrFun (hm 0) (fun a => a.elim0)
  dsimp only [Cert.Pre_in_range.fn] at h
  obtain ⟨h, hle⟩ := andi_eq_one h
  obtain ⟨hall, hge⟩ := andi_eq_one h
  have hnu : ∀ x : BitVec 32, IntOp.cmpi .sge x 1#32 = 1#1 → IntOp.cmpi .sle x 72#32 = 1#1 → 1 ≤ x.toNat ∧ x.toNat ≤ 72 := by
    intro x h1 h2
    rw [IntOp.cmpi_sge] at h1
    rw [IntOp.cmpi_sle] at h2
    have e1 : (1#32).toInt = 1 := by decide
    have e2 : (72#32).toInt = 72 := by decide
    rw [e1] at h1; rw [e2] at h2
    have := signed_range x 72 (by norm_num) (by omega) (by omega)
    omega
  have hn := hnu _ hge hle
  have e : (tabs m) 1 one1 = shapeCast Cert.Pre_in_range.S_ (m (((0 : Dev nD) : Thread nD τ).loc main_arg1)) Cert.Pre_in_range.Gen.facts.shapeCasts_S1_S_ (fun a => a.elim0) :=
    congrArg (m (((0 : Dev nD) : Thread nD τ).loc main_arg1)) (funext fun a => Fin.ext (by
      match a with
      | ⟨0, _⟩ => exact (Nat.lt_one_iff.1 (Fin.isLt _)).symm))
  refine ⟨fun k => ?_, ?_, ?_⟩
  · have hk := Host.reduce_andi_all _ _ _ _ _ hall (row1 k)
    obtain ⟨h0, h8⟩ := andi_eq_one hk
    have h0' : (0#32).toInt ≤ _ := IntOp.cmpi_sge.1 h0
    have h8' : _ < (8#32).toInt := IntOp.cmpi_slt.1 h8
    have e1 : (0#32).toInt = 0 := by decide
    have e2 : (8#32).toInt = 8 := by decide
    rw [e1] at h0'; rw [e2] at h8'
    have := (signed_range _ 7 (by norm_num) h0' (by omega)).1
    exact Nat.lt_succ_of_le this
  · show 1 ≤ BitVec.toNat (w := 32) (tabs m 1 one1)
    rw [e]; exact hn.1
  · show BitVec.toNat (w := 32) (tabs m 1 one1) ≤ 72
    rw [e]; exact hn.2

/-! ## The frame under the precondition -/

/-- The tables of the launch memory, admitted. -/
def adm (h : InRange (tabs m)) : (pcfg0 (F := Ideal)).Adm := ⟨tabs m, ok_of h⟩

theorem holds_adm (h : InRange (tabs m)) : Holds (adm h) m :=
  ⟨fun c => by rw [Subsingleton.elim c 0]; rfl, fun c => by rw [Subsingleton.elim c 0]; rfl⟩

theorem quiescent : Cert.quiescent_MoeIdeal (hMoeIdeal := Cert.MoeIdeal.Gen.facts) (hPre_in_range := Cert.Pre_in_range.Gen.facts) :=
  fun m ρ hm => frame (adm (inRange_of_pre hm)) m ρ (holds_adm _)

end Cert.MoeIdeal.Tab

end
-- ==== Proof.Spec.lean ====
/- The mathematics both sides are compared with: one token's pass through one expert's gated feed-forward, and the table
   of expert outputs row by row. -/
module

public import Idealize.ShloMosaic.PureOps.Ideal
public import Idealize.ShloMosaic.Lib.ValueIdx

@[expose] public section

noncomputable section

namespace Cert.Spec

open Idealize.ShloMosaic
open Idealize.ShloMosaic.ValueIdx

/-- The gated activation of one gate value and one up value. -/
def swi (g u : EReal) : EReal := g * Ideal.logistic g * u

/-- What hidden column `f` of expert `e` contributes to output column `c` of row `r` of `x`. -/
def hid (x : (⟨2, ![73728, 1024]⟩ : Shape).Idx → EReal) (wg wu : (⟨3, ![8, 1024, 3584]⟩ : Shape).Idx → EReal)
    (wd : (⟨3, ![8, 3584, 1024]⟩ : Shape).Idx → EReal) (e : Fin 8) (r : Fin 73728) (c : Fin 1024) (f : Fin 3584) : EReal :=
  swi (∑ k : Fin 1024, x (ix2 r k) * wg (ix3 e k f)) (∑ k : Fin 1024, x (ix2 r k) * wu (ix3 e k f)) * wd (ix3 e f c)

/-- Row `r` of `x` through expert `e`, at output column `c`. -/
def expert (x : (⟨2, ![73728, 1024]⟩ : Shape).Idx → EReal) (wg wu : (⟨3, ![8, 1024, 3584]⟩ : Shape).Idx → EReal)
    (wd : (⟨3, ![8, 3584, 1024]⟩ : Shape).Idx → EReal) (e : Fin 8) (r : Fin 73728) (c : Fin 1024) : EReal :=
  ∑ f : Fin 3584, hid x wg wu wd e r c f

/-- The whole table: row `r` lies in tile `r / 1024`; a tile in use (number below `n`) goes through its expert, the rows
    of the others are zero. -/
def moe (x : (⟨2, ![73728, 1024]⟩ : Shape).Idx → EReal) (wg wu : (⟨3, ![8, 1024, 3584]⟩ : Shape).Idx → EReal)
    (wd : (⟨3, ![8, 3584, 1024]⟩ : Shape).Idx → EReal) (te : Fin 72 → Fin 8) (n : ℕ) (i : (⟨2, ![73728, 1024]⟩ : Shape).Idx) : EReal :=
  if (i 0).val / 1024 < n then
    expert x wg wu wd (te ⟨(i 0).val / 1024, by have : (i 0).val < 73728 := (i 0).isLt; omega⟩) (i 0) (i 1)
  else 0

end Cert.Spec

end

end
-- ==== Proof.MoeIdealValue.lean ====
module

public import proofs.«01_k».proof.Proof.MoeIdealRange
public import proofs.«01_k».proof.Proof.Spec
public import Idealize.ShloMosaic.Lib.Pipeline.ValueKit
public import Idealize.ShloMosaic.Lib.MatmulPlain
public import Idealize.ShloMosaic.Lib.ValueLayout

/-! # The value of the grouped expert feed-forward -/

@[expose] public section

noncomputable section

namespace Cert.MoeIdeal.Tab

open Idealize.ShloMosaic hiding ix1 ix2 ix3 eq_ix1 eq_ix2 eq_ix3
open Idealize.ShloMosaic.TcCoe Idealize.SL.Sem
open Idealize.ShloMosaic.ValueIdx
open Cert.Spec
open Idealize.ShloMosaic.Pipeline (Dat)
open Cert.MoeIdeal Cert.MoeIdeal.Gen

theorem pay4_apply (x : Vec Ideal S1024x1024 .bf16) (p q : Vec Ideal S1x1024x256 .f32) (r : Fin 1024) (k : Fin 256) :
    k0_pay4 x p q (ix2 r k)
      = swi (∑ d : Fin 1024, x (ix2 r d) * p (ix3 0 d k)) (∑ d : Fin 1024, x (ix2 r d) * q (ix3 0 d k)) := by
  unfold k0_pay4 swi
  have hm : ∀ p : Vec Ideal S1x1024x256 .f32,
      matmul (F := Ideal) (φ₁ := .bf16) dot_S1024x1024_S1024x256_S1024x256_1_0_0_1_n_n none (x : FVec Ideal S1024x1024 .bf16)
        (truncf .bf16 (shapeCast S1024x256 p shapeCasts_S1x1024x256_S1024x256) bitsLt_bf16_f32)
        (constant S1024x256 .f32 0x00000000#32) (ix2 r k) = ∑ d : Fin 1024, x (ix2 r d) * p (ix3 0 d k) := by
    intro p
    refine (Ideal.matmul_plain_apply (M := 1024) (K := 1024) (N := 256) none _ _ _ r k).trans ?_
    rw [show (constant (F := Ideal) S1024x256 .f32 0x00000000#32) (ix2 r k) = 0 from Ideal.ofBits_zero_f32, zero_add]
    refine Finset.sum_congr rfl fun d _ => ?_
    congr 1
    exact shapeCast_1ab_ab_apply (a := 1024) (b := 256) p _ d k
  exact congrArg₂ (fun g u : EReal => g * Ideal.logistic g * u) (hm p) (hm q)

theorem pay2_apply (x : FVec Ideal S1024x256 .bf16) (y : Vec Ideal S1024x1024 .f32) (w : Vec Ideal S1x256x1024 .f32) (r c : Fin 1024) :
    k0_pay2 x y w (ix2 r c) = y (ix2 r c) + ∑ k : Fin 256, x (ix2 r k) * w (ix3 0 k c) := by
  unfold k0_pay2
  rw [shapeCast_self]
  refine congrArg (y (ix2 r c) + ·) ((Ideal.matmul_plain_apply (M := 1024) (K := 256) (N := 1024) none _ _ _ r c).trans ?_)
  rw [show (constant (F := Ideal) S1024x1024 .f32 0x00000000#32) (ix2 r c) = 0 from Ideal.ofBits_zero_f32, zero_add]
  refine Finset.sum_congr rfl fun d _ => ?_
  congr 1
  exact shapeCast_1ab_ab_apply (a := 256) (b := 1024) w _ d c

theorem pay3_eq (x : Vec Ideal S1024x1024 .bf16) (p q : Vec Ideal S1x1024x256 .f32) (y : Vec Ideal S1024x1024 .f32) (w : Vec Ideal S1x256x1024 .f32) :
    k0_pay3 x p q y w = k0_pay2 (k0_pay4 x p q) y w := rfl

/-- What one grid point adds to the output block, over the blocks it reads. -/
def part (x0 : Vec Ideal S1024x1024 .bf16) (x1 x2 : Vec Ideal S1x1024x512 .f32) (x3 : Vec Ideal S1x512x1024 .f32) (r c : Fin 1024) : EReal :=
  ∑ l : Fin 512, swi (∑ d : Fin 1024, x0 (ix2 r d) * x1 (ix3 0 d l)) (∑ d : Fin 1024, x0 (ix2 r d) * x2 (ix3 0 d l)) * x3 (ix3 0 l c)

variable (a : (pcfg0 (F := Ideal)).Adm)
variable (m : (ℓ : Loc nD τ sig) → Buf (Elt Ideal) ℓ) (ρ : Dev nD → PrngReg)

/-- One point's two half-blocks of hidden columns, over the blocks as the body loads them: together they add `part`. -/
theorem body_apply (x0 : Vec Ideal S1024x1024 .bf16) (x1 x2 : Vec Ideal S1x1024x512 .f32) (x3 : Vec Ideal S1x512x1024 .f32)
    (y : Vec Ideal S1024x1024 .f32) (h0 h1 h2 h3) (r d : Fin 1024) :
    k0_pay2 (k0_pay4 x0 (View.ld x1 (Rect.unit ![0, 0, 256] ![1, 1024, 256] h1)) (View.ld x2 (Rect.unit ![0, 0, 256] ![1, 1024, 256] h1)))
      (k0_pay3 x0 (View.ld x1 (Rect.unit ![0, 0, 0] ![1, 1024, 256] h0)) (View.ld x2 (Rect.unit ![0, 0, 0] ![1, 1024, 256] h0)) y
        (View.ld x3 (Rect.unit ![0, 0, 0] ![1, 256, 1024] h2)))
      (View.ld x3 (Rect.unit ![0, 256, 0] ![1, 256, 1024] h3)) (ix2 r d) = y (ix2 r d) + part x0 x1 x2 x3 r d := by
  rw [pay3_eq, pay2_apply, pay2_apply, add_assoc]
  congr 1
  unfold part
  rw [← Fin.sum_mul_add_fin (S := 2) (n := 256) (L := 512), Fin.sum_univ_two]
  have e1 : ∀ (x : Vec Ideal S1x1024x512 .f32) (k : Fin 1024) (l : Fin 256),
      View.ld x (Rect.unit ![0, 0, 0] ![1, 1024, 256] h0) (ix3 0 k l) = x (ix3 0 k ⟨0 * 256 + l.val, by omega⟩) := fun x k l =>
    View.ld_unit_apply_of _ _ _ _ _ _ fun a => by
      match a with
      | ⟨0, _⟩ => rfl
      | ⟨1, _⟩ => show k.val = 0 + k.val; omega
      | ⟨2, _⟩ => show 0 * 256 + l.val = 0 + l.val; omega
  have e2 : ∀ (x : Vec Ideal S1x1024x512 .f32) (k : Fin 1024) (l : Fin 256),
      View.ld x (Rect.unit ![0, 0, 256] ![1, 1024, 256] h1) (ix3 0 k l) = x (ix3 0 k ⟨1 * 256 + l.val, by omega⟩) := fun x k l =>
    View.ld_unit_apply_of _ _ _ _ _ _ fun a => by
      match a with
      | ⟨0, _⟩ => rfl
      | ⟨1, _⟩ => show k.val = 0 + k.val; omega
      | ⟨2, _⟩ => show 1 * 256 + l.val = 256 + l.val; omega
  have e3 : ∀ (l : Fin 256) (k : Fin 1024),
      View.ld x3 (Rect.unit ![0, 0, 0] ![1, 256, 1024] h2) (ix3 0 l k) = x3 (ix3 0 ⟨0 * 256 + l.val, by omega⟩ k) := fun l k =>
    View.ld_unit_apply_of _ _ _ _ _ _ fun a => by
      match a with
      | ⟨0, _⟩ => rfl
      | ⟨1, _⟩ => show 0 * 256 + l.val = 0 + l.val; omega
      | ⟨2, _⟩ => show k.val = 0 + k.val; omega
  have e4 : ∀ (l : Fin 256) (k : Fin 1024),
      View.ld x3 (Rect.unit ![0, 256, 0] ![1, 256, 1024] h3) (ix3 0 l k) = x3 (ix3 0 ⟨1 * 256 + l.val, by omega⟩ k) := fun l k =>
    View.ld_unit_apply_of _ _ _ _ _ _ fun a => by
      match a with
      | ⟨0, _⟩ => rfl
      | ⟨1, _⟩ => show 1 * 256 + l.val = 256 + l.val; omega
      | ⟨2, _⟩ => show k.val = 0 + k.val; omega
  congr 1
  · refine Finset.sum_congr rfl fun l _ => ?_
    exact congrArg₂ (fun u v : EReal => u * v) ((pay4_apply _ _ _ r l).trans (congrArg₂ swi
      (Finset.sum_congr rfl fun k _ => congrArg (fun u : EReal => x0 (ix2 r k) * u) (e1 x1 k l))
      (Finset.sum_congr rfl fun k _ => congrArg (fun u : EReal => x0 (ix2 r k) * u) (e1 x2 k l)))) (e3 l d)
  · refine Finset.sum_congr rfl fun l _ => ?_
    exact congrArg₂ (fun u v : EReal => u * v) ((pay4_apply _ _ _ r l).trans (congrArg₂ swi
      (Finset.sum_congr rfl fun k _ => congrArg (fun u : EReal => x0 (ix2 r k) * u) (e2 x1 k l))
      (Finset.sum_congr rfl fun k _ => congrArg (fun u : EReal => x0 (ix2 r k) * u) (e2 x2 k l)))) (e4 l d)

/-- What grid point `t` adds to its output block. -/
def term (c : Dev nD) (t : Fin (cfgA a).N) (j : S1024x1024.Idx) : EReal :=
  if P0_1 a t then part (iblk a m ρ c (0 : Fin 5) t) (iblk a m ρ c (1 : Fin 5) t) (iblk a m ρ c (2 : Fin 5) t) (iblk a m ρ c (3 : Fin 5) t) (j 0) (j 1) else 0

theorem step_first (c : Dev nD) (t : Fin (cfgA a).N) (prev : (S1024x1024.Idx → Elt Ideal .f32)) (q0 : P0_0 a t) (j : S1024x1024.Idx) :
    step0 a m ρ c t prev j = 0 + term a m ρ c t j := by
  obtain ⟨r, d, rfl⟩ : ∃ r d, j = ix2 r d := ⟨j 0, j 1, eq_ix2 j⟩
  unfold term
  by_cases q1 : P0_1 a t
  · rw [if_pos q1, step0_A a m ρ c t prev q0 q1]
    frame_out
    simp only [View.read_rep]
    refine (body_apply _ _ _ _ _ _ _ _ _ r d).trans ?_
    rw [show k0_pay1 (F := Ideal) (ix2 r d) = 0 from Ideal.ofBits_zero_f32]
  · rw [if_neg q1, step0_C a m ρ c t prev q0 q1, add_zero]
    frame_out
    exact Ideal.ofBits_zero_f32

theorem step_next (c : Dev nD) (t : Fin (cfgA a).N) (prev : (S1024x1024.Idx → Elt Ideal .f32)) (q0 : ¬P0_0 a t)
    (j : S1024x1024.Idx) :
    step0 a m ρ c t prev j = prev j + term a m ρ c t j := by
  obtain ⟨r, d, rfl⟩ : ∃ r d, j = ix2 r d := ⟨j 0, j 1, eq_ix2 j⟩
  unfold term
  by_cases q1 : P0_1 a t
  · rw [if_pos q1, step0_B a m ρ c t prev q0 q1]
    frame_out
    simp only [View.read_rep]
    exact body_apply _ _ _ _ _ _ _ _ _ r d
  · rw [if_neg q1, add_zero, step0_D a m ρ c t prev q0 q1]
    have h0 : ¬t.val % 7 = 0 := fun h => q0 ((first_iff t).2 h)
    rw [fresh4, decide_eq_false h0]
    rfl

theorem traj_sum (c : Dev nD) (t : Fin (cfgA a).N) (hf : t.val % 7 = 6) (j : S1024x1024.Idx) :
    traj0 a m ρ c t.val t.isLt j
      = ∑ s : Fin 7, term a m ρ c ⟨7 * (t.val / 7) + s.val, Pipeline.run_point_lt_of_flush t hf s⟩ j := by
  rw [Pipeline.eq_sum_fin_of_reset_step_apply_of_flush (fun n hn => traj0 a m ρ c n hn) 7 (fun _ => (0 : EReal))
    (term a m ρ c) (fun t ht j => (congrFun (traj0_eq a m ρ c t) j).trans (step_first a m ρ c t _ ((first_iff t).2 ht) j))
    (fun t ht j => ?_) t hf j, zero_add]
  have h0 : t.val ≠ 0 := fun e => ht (by rw [e])
  refine (congrFun (traj0_eq a m ρ c t) j).trans ((step_next a m ρ c t _ (fun q => ht ((first_iff t).1 q)) j).trans ?_)
  have e : prev0 a m ρ c t = traj0 a m ρ c (t.val - 1) (Nat.lt_of_le_of_lt (Nat.sub_le _ _) t.isLt) := dif_neg h0
  rw [e]

/-! ## The blocks a point reads -/

theorem coords0 : ∀ t : Fin grid0.N, ((grid0.coords t) 0).val = t.val / 7 := by decide +kernel
theorem coords1 : ∀ t : Fin grid0.N, ((grid0.coords t) 1).val = t.val % 7 := by decide +kernel

theorem out_index : ∀ t : Fin grid0.N, cc0_transform_4 (grid0.coords t) = ![((grid0.coords t) 0).val, 0] := by decide +kernel

theorem used_nat : ∀ b : Bool, Scalar.cmpi .ne (Scalar.extui (if b then 1#1 else 0#1) : BitVec 32) 0#32 = 1#1 ↔ b = true := by decide

variable {m} (h : InRange (tabs m))

theorem used_iff (t : Fin (cfgA (adm h)).N) : P0_1 (adm h) t ↔ t.val / 7 < nu (tabs m) := by
  have e : (tabs m).atD 1 ![0] = BitVec.ofNat 32 (nu (tabs m)) :=
    Eq.trans (congrArg (tabs m 1) (funext fun a => Fin.ext (by match a with | ⟨0, _⟩ => rfl))) (ofNat_self (tabs m 1 one1))
  unfold P0_1
  rw [word_eq]
  show k0_cond2 (grid0.coords t) ((tabs m).atD 1 ![0]) = 1#1 ↔ _
  rw [e]
  show Scalar.cmpi .ne (Scalar.extui (Scalar.cmpi .slt (BitVec.ofNat 32 ((grid0.coords t) 0).val) (BitVec.ofNat 32 (nu (tabs m))))) 0#32 = 1#1 ↔ _
  rw [slt_nat ((grid0.coords t) 0) ⟨nu (tabs m), Nat.lt_succ_of_le h.nu_le⟩, ← coords0 t]
  have := used_nat (decide (((grid0.coords t) 0).val < nu (tabs m)))
  simpa only [decide_eq_true_eq] using this

/-- Tile `k`'s expert. -/
def ex (k : Fin 72) : Fin 8 := ⟨te (tabs m) k, h.te_lt k⟩

theorem tile_lt (t : Fin (cfgA (adm h)).N) : t.val / 7 < 72 := by
  have : t.val < 504 := lt_of_lt_of_eq t.isLt N_0
  omega

theorem blk0 (c : Dev nD) (t : Fin (cfgA (adm h)).N) (hu : t.val / 7 < nu (tabs m)) (r k : Fin 1024) :
    iblk (adm h) m ρ c (0 : Fin 5) t (ix2 r k)
      = m ((c : Thread nD τ).loc main_arg2) (ix2 ⟨t.val / 7 * 1024 + r.val, by have := tile_lt h t; omega⟩ k) := by
  unfold iblk
  rw [View.read_apply]
  show m ((c : Thread nD τ).loc main_arg2) _ = _
  have e : ((cfgA (adm h)).win (0 : Fin 5)).index t = ![min ((grid0.coords t) 0).val (nu (tabs m) - 1), 0] := transform_0 h (grid0.coords t)
  refine congrArg (m ((c : Thread nD τ).loc main_arg2)) (funext fun a => Fin.ext ?_)
  refine (Pipeline.Window.rect_emb_val ((cfgA (adm h)).win (0 : Fin 5)) t _ a).trans ?_
  rw [e, coords0]
  match a with
  | ⟨0, _⟩ => show min (t.val / 7) (nu (tabs m) - 1) * 1024 + r.val = t.val / 7 * 1024 + r.val; rw [Nat.min_eq_left (by omega)]
  | ⟨1, _⟩ => show 0 * 1024 + k.val = k.val; omega

theorem tile_eq (t : Fin (cfgA (adm h)).N) : (grid0.coords t) 0 = ⟨t.val / 7, tile_lt h t⟩ := Fin.ext (coords0 t)

theorem chk_eq (t : Fin (cfgA (adm h)).N) (hu : t.val / 7 < nu (tabs m)) : chk (tabs m) (grid0.coords t) = t.val % 7 := by
  unfold chk
  rw [coords0, coords1, if_pos hu]

theorem blk1 (c : Dev nD) (t : Fin (cfgA (adm h)).N) (hu : t.val / 7 < nu (tabs m)) (k : Fin 1024) (l : Fin 512) :
    iblk (adm h) m ρ c (1 : Fin 5) t (ix3 0 k l)
      = m ((c : Thread nD τ).loc main_arg3) (ix3 (ex h ⟨t.val / 7, tile_lt h t⟩) k ⟨t.val % 7 * 512 + l.val, by omega⟩) := by
  unfold iblk
  rw [View.read_apply]
  show m ((c : Thread nD τ).loc main_arg3) _ = _
  have e : ((cfgA (adm h)).win (1 : Fin 5)).index t = ![te (tabs m) ((grid0.coords t) 0), 0, chk (tabs m) (grid0.coords t)] := transform_1 h (grid0.coords t)
  refine congrArg (m ((c : Thread nD τ).loc main_arg3)) (funext fun a => Fin.ext ?_)
  refine (Pipeline.Window.rect_emb_val ((cfgA (adm h)).win (1 : Fin 5)) t _ a).trans ?_
  rw [e]
  match a with
  | ⟨0, _⟩ => show te (tabs m) ((grid0.coords t) 0) * 1 + 0 = te (tabs m) ⟨t.val / 7, tile_lt h t⟩; rw [tile_eq h t]; exact Nat.mul_one _
  | ⟨1, _⟩ => show 0 * 1024 + k.val = k.val; omega
  | ⟨2, _⟩ => show chk (tabs m) (grid0.coords t) * 512 + l.val = t.val % 7 * 512 + l.val; rw [chk_eq h t hu]

theorem blk2 (c : Dev nD) (t : Fin (cfgA (adm h)).N) (hu : t.val / 7 < nu (tabs m)) (k : Fin 1024) (l : Fin 512) :
    iblk (adm h) m ρ c (2 : Fin 5) t (ix3 0 k l)
      = m ((c : Thread nD τ).loc main_arg4) (ix3 (ex h ⟨t.val / 7, tile_lt h t⟩) k ⟨t.val % 7 * 512 + l.val, by omega⟩) := by
  unfold iblk
  rw [View.read_apply]
  show m ((c : Thread nD τ).loc main_arg4) _ = _
  have e : ((cfgA (adm h)).win (2 : Fin 5)).index t = ![te (tabs m) ((grid0.coords t) 0), 0, chk (tabs m) (grid0.coords t)] := transform_2 h (grid0.coords t)
  refine congrArg (m ((c : Thread nD τ).loc main_arg4)) (funext fun a => Fin.ext ?_)
  refine (Pipeline.Window.rect_emb_val ((cfgA (adm h)).win (2 : Fin 5)) t _ a).trans ?_
  rw [e]
  match a with
  | ⟨0, _⟩ => show te (tabs m) ((grid0.coords t) 0) * 1 + 0 = te (tabs m) ⟨t.val / 7, tile_lt h t⟩; rw [tile_eq h t]; exact Nat.mul_one _
  | ⟨1, _⟩ => show 0 * 1024 + k.val = k.val; omega
  | ⟨2, _⟩ => show chk (tabs m) (grid0.coords t) * 512 + l.val = t.val % 7 * 512 + l.val; rw [chk_eq h t hu]

theorem blk3 (c : Dev nD) (t : Fin (cfgA (adm h)).N) (hu : t.val / 7 < nu (tabs m)) (l : Fin 512) (k : Fin 1024) :
    iblk (adm h) m ρ c (3 : Fin 5) t (ix3 0 l k)
      = m ((c : Thread nD τ).loc main_arg5) (ix3 (ex h ⟨t.val / 7, tile_lt h t⟩) ⟨t.val % 7 * 512 + l.val, by omega⟩ k) := by
  unfold iblk
  rw [View.read_apply]
  show m ((c : Thread nD τ).loc main_arg5) _ = _
  have e : ((cfgA (adm h)).win (3 : Fin 5)).index t = ![te (tabs m) ((grid0.coords t) 0), chk (tabs m) (grid0.coords t), 0] := transform_3 h (grid0.coords t)
  refine congrArg (m ((c : Thread nD τ).loc main_arg5)) (funext fun a => Fin.ext ?_)
  refine (Pipeline.Window.rect_emb_val ((cfgA (adm h)).win (3 : Fin 5)) t _ a).trans ?_
  rw [e]
  match a with
  | ⟨0, _⟩ => show te (tabs m) ((grid0.coords t) 0) * 1 + 0 = te (tabs m) ⟨t.val / 7, tile_lt h t⟩; rw [tile_eq h t]; exact Nat.mul_one _
  | ⟨1, _⟩ => show chk (tabs m) (grid0.coords t) * 512 + l.val = t.val % 7 * 512 + l.val; rw [chk_eq h t hu]
  | ⟨2, _⟩ => show 0 * 1024 + k.val = k.val; omega

/-! ## A tile's seven points summed -/

/-- The result's contents, off the launch memory. -/
def result (c : Dev nD) : Buf (Elt Ideal) ((c : Thread nD τ).loc main_v0) :=
  moe (m ((c : Thread nD τ).loc main_arg2)) (m ((c : Thread nD τ).loc main_arg3)) (m ((c : Thread nD τ).loc main_arg4))
    (m ((c : Thread nD τ).loc main_arg5)) (ex h) (nu (tabs m))

/-- The summand over the arrays of the launch memory. -/
def H (c : Dev nD) (e : Fin 8) (r : Fin 73728) (d : Fin 1024) (f : Fin 3584) : EReal :=
  hid (m ((c : Thread nD τ).loc main_arg2)) (m ((c : Thread nD τ).loc main_arg3)) (m ((c : Thread nD τ).loc main_arg4))
    (m ((c : Thread nD τ).loc main_arg5)) e r d f

theorem hidden (c : Dev nD) (t : Fin (cfgA (adm h)).N) (hu : t.val / 7 < nu (tabs m)) (r d : Fin 1024) :
    term (adm h) m ρ c t (ix2 r d)
      = ∑ l : Fin 512, H (m := m) c (ex h ⟨t.val / 7, tile_lt h t⟩) ⟨t.val / 7 * 1024 + r.val, by have := tile_lt h t; omega⟩ d
          ⟨t.val % 7 * 512 + l.val, by omega⟩ := by
  unfold term
  rw [if_pos ((used_iff h t).2 hu)]
  unfold part H hid
  refine Finset.sum_congr rfl fun l _ => ?_
  exact congrArg₂ (fun u v : EReal => u * v) (congrArg₂ swi
      (Finset.sum_congr rfl fun q _ => congrArg₂ (fun u v : EReal => u * v) (blk0 ρ h c t hu r q) (blk1 ρ h c t hu q l))
      (Finset.sum_congr rfl fun q _ => congrArg₂ (fun u v : EReal => u * v) (blk0 ρ h c t hu r q) (blk2 ρ h c t hu q l)))
    (blk3 ρ h c t hu l d)

theorem tile_sum (c : Dev nD) (t : Fin (cfgA (adm h)).N) (hf : t.val % 7 = 6) (r d : Fin 1024) :
    traj0 (adm h) m ρ c t.val t.isLt (ix2 r d)
      = result h c (ix2 ⟨t.val / 7 * 1024 + r.val, by have := tile_lt h t; omega⟩ d) := by
  rw [traj_sum (adm h) m ρ c t hf]
  have hq : ∀ s : Fin 7, (7 * (t.val / 7) + s.val) / 7 = t.val / 7 ∧ (7 * (t.val / 7) + s.val) % 7 = s.val := fun s => by omega
  have hrow : (t.val / 7 * 1024 + r.val) / 1024 = t.val / 7 := by omega
  by_cases hu : t.val / 7 < nu (tabs m)
  · refine Eq.trans ?_ (if_pos (show (t.val / 7 * 1024 + r.val) / 1024 < nu (tabs m) by rw [hrow]; exact hu)).symm
    have hN : (cfgA (adm h)).N = 504 := N_0
    have hlt := t.isLt
    have hrow' : (⟨(t.val / 7 * 1024 + r.val) / 1024, by rw [hrow]; exact tile_lt h t⟩ : Fin 72) = ⟨t.val / 7, tile_lt h t⟩ := Fin.ext hrow
    have hs : ∀ s : Fin 7, term (adm h) m ρ c ⟨7 * (t.val / 7) + s.val, Pipeline.run_point_lt_of_flush t hf s⟩ (ix2 r d)
        = ∑ l : Fin 512, H (m := m) c (ex h ⟨t.val / 7, tile_lt h t⟩) ⟨t.val / 7 * 1024 + r.val, by have := tile_lt h t; omega⟩ d
          ⟨s.val * 512 + l.val, by omega⟩ := fun s => by
      rw [hidden ρ h c _ (lt_of_eq_of_lt (hq s).1 hu)]
      refine Finset.sum_congr rfl fun l _ => ?_
      congr 1
      · exact congrArg (ex h) (Fin.ext (hq s).1)
      · exact Fin.ext (congrArg (fun n => n * 1024 + r.val) (hq s).1)
      · exact Fin.ext (congrArg (fun n => n * 512 + l.val) (hq s).2)
    refine (Finset.sum_congr rfl fun s _ => hs s).trans ?_
    show _ = expert _ _ _ _ (ex h ⟨(t.val / 7 * 1024 + r.val) / 1024, _⟩) _ _
    rw [hrow']
    exact Fin.sum_mul_add_congr (S := 7) (n := 512) (L := 3584) fun s l hl => rfl
  · refine Eq.trans ?_ (if_neg (show ¬ (t.val / 7 * 1024 + r.val) / 1024 < nu (tabs m) by rw [hrow]; exact hu)).symm
    refine Finset.sum_eq_zero fun s _ => ?_
    unfold term
    rw [if_neg]
    rw [used_iff]
    show ¬ (7 * (t.val / 7) + s.val) / 7 < _
    rw [(hq s).1]; exact hu

/-! ## The result array -/

theorem final (c : Dev nD) : (dats (adm h) m ρ 0 c).arrAt (4 : Fin 5) (cfgA (adm h)).N = result h c := by
  have hidx : ∀ t : Fin (cfgA (adm h)).N, ((cfgA (adm h)).win (4 : Fin 5)).index t = ![t.val / 7, 0] := fun t => by
    rw [← coords0 t]; exact out_index t
  refine Dat.arrAt_eq_of_emb (dats (adm h) m ρ 0 c) (4 : Fin 5) (result h c) (fun t hf y => ?_) (fun i => ?_)
  · have hm : t.val % 7 = 6 := by have := hf; rw [flush4] at this; exact of_decide_eq_true this
    rw [after0_4]
    obtain ⟨r, d, rfl⟩ : ∃ r d, y = ix2 r d := ⟨y 0, y 1, eq_ix2 y⟩
    refine (tile_sum ρ h c t hm r d).trans (congrArg (result h c) (funext fun a => Fin.ext ?_))
    refine Eq.trans ?_ (Pipeline.Window.rect_emb_val ((cfgA (adm h)).win (4 : Fin 5)) t _ a).symm
    rw [hidx]
    match a with
    | ⟨0, _⟩ => rfl
    | ⟨1, _⟩ => show d.val = 0 * 1024 + d.val; omega
  · have hN : (cfgA (adm h)).N = 504 := N_0
    have hi : (i 0).val < 73728 := (i 0).isLt
    have hi1 : (i 1).val < 1024 := (i 1).isLt
    refine ⟨⟨7 * ((i 0).val / 1024) + 6, by omega⟩, ?_, ?_⟩
    · rw [flush4]; exact decide_eq_true (by show (7 * ((i 0).val / 1024) + 6) % 7 = 6; omega)
    · refine (Pipeline.Window.emb_mem_blk_iff ((cfgA (adm h)).win (4 : Fin 5)) _ i).2 fun a => ?_
      rw [hidx]
      match a with
      | ⟨0, _⟩ => show (7 * ((i 0).val / 1024) + 6) / 7 * 1024 ≤ (i 0).val ∧ (i 0).val < (7 * ((i 0).val / 1024) + 6) / 7 * 1024 + 1024; omega
      | ⟨1, _⟩ => show 0 * 1024 ≤ (i 1).val ∧ (i 1).val < 0 * 1024 + 1024; omega

/-- The run, read: the result array at the table of expert outputs, the arguments unchanged. -/
theorem value : θ_run (defs (F := Ideal)) (onTc (τ := τ) (main (F := Ideal))) ⟨m, fun _ => 0, ρ⟩ (fun r => ∀ c : Dev nD,
      r.2.mem ((c.tc : Thread nD τ).loc main_v0) = result h c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ hr c => ⟨((hr.1 c).1 (4 : Fin 5)).trans (final ρ h c), hr.2 c⟩)
    (θ_run_and (run_main (adm h) m ρ (holds_adm h)) (unchanged (adm h) m ρ (holds_adm h)))

end Cert.MoeIdeal.Tab

end

end
-- ==== Proof.MoeRefValue.lean ====
/- The reference's value: the one-hot gates pick, of the eight experts run on every row, the row's own, and the mask of
   used tiles blanks the other rows; so the reference computes the table of `Spec.lean`. -/
module

public import proofs.«01_k».proof.Proof.Spec
public import proofs.«01_k».proof.Proof.Gen.MoeRefIdeal.Read
public import Idealize.ShloMosaic.Lib.Affine

@[expose] public section

noncomputable section

namespace Cert.MoeRefIdeal.Read

open Cert.MoeRefIdeal Cert.MoeRefIdeal.Gen
open Idealize.ShloMosaic Idealize.ShloMosaic.TcCoe Idealize.SL.Sem
open Idealize.ShloMosaic.ValueIdx
open Cert.Spec

theorem one_word : Ideal.ofBits .f32 0x3F800000#32 = 1 := IdealRules.sign_bit.ideal_onePat .f32

/-- The words the gates compare, decided over the two finite ranges. -/
theorem eq_word : ∀ a b : Fin 8, (IntOp.cmpi .eq (BitVec.ofNat 32 a.val) (BitVec.ofNat 32 b.val)).toNat = if a = b then 1 else 0 := by
  decide +kernel
theorem lt_word : ∀ (k : Fin 72) (n : Fin 73), (IntOp.cmpi .slt (BitVec.ofNat 32 k.val) (BitVec.ofNat 32 n.val)).toNat = if k.val < n.val then 1 else 0 := by
  decide +kernel

variable (x0 : (⟨S72, .i32⟩ : BufTy).Contents (Elt Ideal)) (x1 : (⟨S1, .i32⟩ : BufTy).Contents (Elt Ideal))
  (x2 : (⟨S73728x1024, .bf16⟩ : BufTy).Contents (Elt Ideal)) (x3 x4 : (⟨S8x1024x3584, .f32⟩ : BufTy).Contents (Elt Ideal))
  (x5 : (⟨S8x3584x1024, .f32⟩ : BufTy).Contents (Elt Ideal))

/-- The gate of row `r` at expert `e`. -/
theorem gate_apply (te : Fin 72 → Fin 8) (n : Fin 73)
    (h0 : ∀ k : Fin 72, x0 (ix1 k) = BitVec.ofNat 32 (te k).val) (h1 : ∀ j, x1 j = BitVec.ofNat 32 n.val)
    (r : Fin 73728) (e : Fin 8) (k : Fin 72) (hk : k.val = r.val / 1024) :
    val_main_v14 (F := Ideal) x0 x1 (ix2 r e) = (if te k = e then 1 else 0) * (if k.val < n.val then 1 else 0) := by
  have hk' : (⟨r.val / 1024, by omega⟩ : Fin 72) = k := Fin.ext hk.symm
  have ha : val_main_v10 (F := Ideal) x0 (ix2 r e) = if te k = e then 1 else 0 := by
    rw [val_main_v10_apply, val_main_call0_v4_apply, val_main_call0_v2_apply, val_main_call0_v0_apply, val_main_v2_apply, val_main_v1_apply,
      val_main_v0_apply, val_main_call0_v3_apply, val_main_call0_v1_apply]
    have e0 : x0 (idx_main_v0 (idx_main_v1 (idx_main_v2 (idx_main_call0_v0 (idx_main_call0_v2 (ix2 r e)))))) = BitVec.ofNat 32 (te k).val := by
      rw [← h0 k]
      exact congrArg x0 (funext fun a => Fin.ext (by match a with | ⟨0, _⟩ => exact hk.symm))
    rw [e0]
    show (((IntOp.cmpi .eq (BitVec.ofNat 32 (te k).val) (BitVec.ofNat 32 e.val)).toNat : ℝ) : EReal) = _
    rw [eq_word]
    split <;> simp
  have hb : val_main_v13 (F := Ideal) x1 (ix2 r e) = if k.val < n.val then 1 else 0 := by
    rw [val_main_v13_apply, val_main_v12_apply, val_main_v11_apply, val_main_v9_apply, val_main_v8_apply, val_main_v6_apply,
      val_main_v5_apply, val_main_v4_apply, val_main_v3_apply]
    have e1 : val_main_v7 (F := Ideal) x1 (idx_main_v8 (idx_main_v12 (idx_main_v13 (ix2 r e)))) = BitVec.ofNat 32 n.val := h1 _
    rw [e1]
    show (((IntOp.cmpi .slt (BitVec.ofNat 32 (r.val / 1024)) (BitVec.ofNat 32 n.val)).toNat : ℝ) : EReal) = _
    rw [← hk, lt_word]
    split <;> simp
  rw [val_main_v14_apply, ha, hb]
  rfl

theorem gate_proj (r : Fin 73728) (e : Fin 8) (f : Fin 3584) :
    val_main_v16 (F := Ideal) x2 x3 (ix3 r e f) = ∑ k : Fin 1024, x2 (ix2 r k) * x3 (ix3 e k f) := by
  rw [val_main_v16_apply]
  refine Finset.sum_congr rfl fun k _ => ?_
  exact congrArg₂ (fun u v : EReal => u * v)
    (congrArg x2 (funext fun a => Fin.ext (by match a with | ⟨0, _⟩ => rfl | ⟨1, _⟩ => rfl)))
    (congrArg x3 (funext fun a => Fin.ext (by match a with | ⟨0, _⟩ => rfl | ⟨1, _⟩ => rfl | ⟨2, _⟩ => rfl)))

theorem up_proj (r : Fin 73728) (e : Fin 8) (f : Fin 3584) :
    val_main_v18 (F := Ideal) x2 x4 (ix3 r e f) = ∑ k : Fin 1024, x2 (ix2 r k) * x4 (ix3 e k f) := gate_proj x2 x4 r e f

theorem hidden_apply (r : Fin 73728) (e : Fin 8) (f : Fin 3584) :
    val_main_v19 (F := Ideal) x2 x3 x4 (ix3 r e f)
      = swi (∑ k : Fin 1024, x2 (ix2 r k) * x3 (ix3 e k f)) (∑ k : Fin 1024, x2 (ix2 r k) * x4 (ix3 e k f)) := by
  rw [val_main_v19_apply, val_main_v17_apply, up_proj, val_main_call1_v5_apply, val_main_call1_v3_apply, val_main_call1_v1_apply,
    val_main_call1_v0_apply, val_main_call1_v4_apply, val_main_call1_v2_apply, val_main_call1_cst_apply, val_main_call1_cst_0_apply, gate_proj]
  show _ * Ideal.div (Ideal.ofBits .f32 0x3F800000#32) (Ideal.ofBits .f32 0x3F800000#32 + Ideal.exp (-_)) * _ = _
  rw [one_word]
  rfl

theorem expert_apply (r : Fin 73728) (e : Fin 8) (d : Fin 1024) :
    val_main_v20 (F := Ideal) x2 x3 x4 x5 (ix3 e r d) = expert x2 x3 x4 x5 e r d := by
  rw [val_main_v20_apply]
  refine Finset.sum_congr rfl fun f _ => ?_
  refine congrArg₂ (fun u v : EReal => u * v) (Eq.trans (congrArg (val_main_v19 (F := Ideal) x2 x3 x4) ?_) (hidden_apply x2 x3 x4 r e f)) (congrArg x5 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl | ⟨2, _⟩ => rfl)

/-- The reference's result is the table of expert outputs. -/
theorem value (te : Fin 72 → Fin 8) (n : Fin 73)
    (h0 : ∀ k : Fin 72, x0 (ix1 k) = BitVec.ofNat 32 (te k).val) (h1 : ∀ j, x1 j = BitVec.ofNat 32 n.val) :
    val_main_v25 (F := Ideal) x0 x1 x2 x3 x4 x5 = moe x2 x3 x4 x5 te n.val := by
  funext i
  obtain ⟨r, d, rfl⟩ : ∃ r d, i = ix2 r d := ⟨i 0, i 1, eq_ix2 i⟩
  have hlt : r.val / 1024 < 72 := by omega
  rw [val_main_v25_apply, val_main_cst_apply, show FloatOps.ofBits (F := Ideal) .f32 0x00000000#32 = 0 from Ideal.ofBits_zero_f32, zero_add]
  have hk : ∀ e : Fin 8, val_main_v24 (F := Ideal) x0 x1 x2 x3 x4 x5 (idx_main_v25 (ix2 r d) e)
      = (if te ⟨r.val / 1024, hlt⟩ = e then 1 else 0) * (if r.val / 1024 < n.val then 1 else 0) * expert x2 x3 x4 x5 e r d := fun e => by
    have ei : idx_main_v25 (ix2 r d) e = ix3 e r d := funext fun a => Fin.ext (by match a with | ⟨0, _⟩ => rfl | ⟨1, _⟩ => rfl | ⟨2, _⟩ => rfl)
    rw [ei, val_main_v24_apply, expert_apply, val_main_v23_apply, val_main_v22_apply, val_main_v21_apply]
    have eg := gate_apply x0 x1 te n h0 h1 r e ⟨r.val / 1024, hlt⟩ rfl
    refine congrArg (fun u : EReal => u * expert x2 x3 x4 x5 e r d) (Eq.trans (congrArg (val_main_v14 (F := Ideal) x0 x1) ?_) eg)
    exact funext fun a => Fin.ext (by match a with | ⟨0, _⟩ => rfl | ⟨1, _⟩ => rfl)
  rw [Finset.sum_congr rfl fun e _ => hk e]
  show _ = if r.val / 1024 < n.val then expert x2 x3 x4 x5 (te ⟨r.val / 1024, hlt⟩) r d else 0
  by_cases hu : r.val / 1024 < n.val
  · simp [hu]
  · simp [hu]

end Cert.MoeRefIdeal.Read

end

end
-- ==== Proof.MoeClaims.lean ====
/- The claims about the reference of the grouped expert feed-forward, and the value claim that joins it to the kernel. -/
module

public import proofs.«01_k».proof.Proof.MoeIdealValue
public import proofs.«01_k».proof.Proof.MoeRefValue
public import proofs.«01_k».proof.Proof.Gen.MoeRefIdeal.Run
public import Idealize.ShloMosaic.Lib.Quiescent

@[expose] public section

noncomputable section

namespace Cert.MoeIdeal.Tab

open Idealize.ShloMosaic Idealize.ShloMosaic.TcCoe Idealize.SL.Sem

variable (m : (ℓ : Loc nD τ sig) → Buf (Elt Ideal) ℓ)

/-- The two tables, word by word, on any device. -/
theorem te_word (c : Dev nD) (k : Fin 72) : m ((c.tc : Thread nD τ).loc main_arg0) (row1 k) = BitVec.ofNat 32 (te (tabs m) k) := by
  obtain rfl : c = 0 := Subsingleton.elim c 0
  exact ofNat_self _

theorem nu_word (c : Dev nD) (j : S1.Idx) : m ((c.tc : Thread nD τ).loc main_arg1) j = BitVec.ofNat 32 (nu (tabs m)) := by
  obtain rfl : c = 0 := Subsingleton.elim c 0
  obtain rfl : j = one1 := funext fun a => Fin.ext (by match a with | ⟨0, _⟩ => exact Nat.lt_one_iff.mp (j ⟨0, _⟩).isLt)
  exact ofNat_self _

end Cert.MoeIdeal.Tab

namespace Cert.MoeRefIdeal.Read

open Cert.MoeRefIdeal Cert.MoeRefIdeal.Gen
open Idealize.ShloMosaic Idealize.ShloMosaic.TcCoe Idealize.SL.Sem

/-- The reference's frame: it holds no semaphore, so the counters stay at zero. -/
theorem quiescent : Cert.quiescent_MoeRefIdeal (hMoeRefIdeal := Cert.MoeRefIdeal.Gen.facts) := fun m ρ _ =>
  (θ_run defs _ _).mono (fun r h => ⟨fun c => (h c).2, sem_eq_zero_of_no_sems (by decide) r.2⟩) (Cert.MoeRefIdeal.Value.run (F := Ideal) m ρ)

theorem quiescent_pre : Cert.quiescent_MoeRefIdeal_pre_in_range (hMoeRefIdeal := Cert.MoeRefIdeal.Gen.facts)
    (hPre_in_range := Cert.Pre_in_range.Gen.facts) := fun m ρ _ => quiescent m ρ trivial

theorem row_eq (k : Fin 72) : ValueIdx.ix1 k = MoeIdeal.Tab.row1 k := funext fun a => Fin.ext (by match a with | ⟨0, _⟩ => rfl)

/-- From equal arguments with tables in range, the kernel and the reference end at the same table of expert outputs. -/
theorem algebraic : Cert.algebraic_MoeIdeal_MoeRefIdeal (hMoeIdeal := Cert.MoeIdeal.Gen.facts) (hMoeRefIdeal := Cert.MoeRefIdeal.Gen.facts)
    (hPre_in_range := Cert.Pre_in_range.Gen.facts) := fun m ρ m' ρ' hm hargs => by
  have h := MoeIdeal.Tab.inRange_of_pre hm
  refine ⟨MoeIdeal.Tab.result h, MoeIdeal.Tab.value ρ h, ?_⟩
  refine (θ_run defs _ _).mono (fun r hr c => ⟨?_, (hr c).2⟩) (Cert.MoeRefIdeal.Value.run (F := Ideal) m' ρ')
  obtain ⟨a0, a1, a2, a3, a4, a5⟩ := hargs c
  have hv := value (m' ((c.tc : Thread nD τ).loc main_arg0)) (m' ((c.tc : Thread nD τ).loc main_arg1))
    (m' ((c.tc : Thread nD τ).loc main_arg2)) (m' ((c.tc : Thread nD τ).loc main_arg3))
    (m' ((c.tc : Thread nD τ).loc main_arg4)) (m' ((c.tc : Thread nD τ).loc main_arg5))
    (MoeIdeal.Tab.ex h) ⟨MoeIdeal.Tab.nu (MoeIdeal.Tab.tabs m), Nat.lt_succ_of_le h.nu_le⟩
    (fun k => by rw [row_eq]; exact (congrFun a0 (MoeIdeal.Tab.row1 k)).trans (MoeIdeal.Tab.te_word m c k)) (fun j => (congrFun a1 _).trans (MoeIdeal.Tab.nu_word m c j))
  refine ((hr c).1.trans (val_main_v25_eq (F := Ideal) _ _ _ _ _ _)).trans (hv.trans ?_)
  rw [a2, a3, a4, a5]
  rfl

end Cert.MoeRefIdeal.Read

end

end
-- ==== Proof.PoolSpec.lean ====
/- The mathematics of the first layer: the root-mean-square norm, the causal window averages of four widths each mixed by
   its own matrix, and the gated feed-forward, token by token. -/
module

public import proofs.«01_k».proof.Proof.Spec

@[expose] public section

noncomputable section

namespace Cert.PoolSpec

open Idealize.ShloMosaic
open Idealize.ShloMosaic.ValueIdx
open Cert.Spec

/-- A token's features divided by their root mean square (1024 and the small addend as the words the programs hold). -/
def norm (v : Fin 1024 → EReal) (d : Fin 1024) : EReal :=
  v d * Ideal.rsqrt (Ideal.div (∑ k : Fin 1024, v k * v k) (Ideal.ofBits .f32 0x44800000#32) + Ideal.ofBits .f32 0x3727C5AC#32)

/-- Token `s` of sequence `b`, normalized and scaled. -/
def hrow (x : (⟨3, ![2, 16384, 1024]⟩ : Shape).Idx → EReal) (g : Fin 1024 → EReal) (b : Fin 2) (s : ℕ) (d : Fin 1024) : EReal :=
  if h : s < 16384 then norm (fun k => x (ix3 b ⟨s, h⟩ k)) d * g d else 0

/-- The mean of `H` over the window of `w` tokens ending at token `s` (fewer at a sequence's start), less `H` at `s`. -/
def pooled (H : ℕ → Fin 1024 → EReal) (w s : ℕ) (d : Fin 1024) : EReal :=
  Ideal.div (∑ k ∈ Finset.range w, if k ≤ s then H (s - k) d else 0) (((min (s + 1) w : ℕ) : ℝ) : EReal) - H s d

/-- Feature `256 g + c`. -/
def feat (g : Fin 4) (c : Fin 256) : Fin 1024 := ⟨g.val * 256 + c.val, by omega⟩

/-- Feature `256 g + e` of the mixture: the group's 256 pooled features, window `2 ^ (g + 1)`, through its matrix. -/
def mixed (H : ℕ → Fin 1024 → EReal) (pw : Fin 4 → Fin 256 → Fin 256 → EReal) (s : ℕ) (g : Fin 4) (e : Fin 256) : EReal :=
  ∑ c : Fin 256, pooled H (2 ^ (g.val + 1)) s (feat g c) * pw g c e

/-- The group of a feature, and its place in the group. -/
def grp (d : Fin 1024) : Fin 4 := ⟨d.val / 256, by omega⟩
def place (d : Fin 1024) : Fin 256 := ⟨d.val % 256, by omega⟩

theorem feat_grp (d : Fin 1024) : feat (grp d) (place d) = d := Fin.ext (by show d.val / 256 * 256 + d.val % 256 = d.val; omega)
theorem grp_feat (g : Fin 4) (c : Fin 256) : grp (feat g c) = g := Fin.ext (by show (g.val * 256 + c.val) / 256 = g.val; omega)
theorem place_feat (g : Fin 4) (c : Fin 256) : place (feat g c) = c := Fin.ext (by show (g.val * 256 + c.val) % 256 = c.val; omega)

/-- The residual after the mixture. -/
def resid (x : Fin 1024 → EReal) (mix : Fin 4 → Fin 256 → EReal) (ps : Fin 1024 → EReal) (d : Fin 1024) : EReal :=
  x d + mix (grp d) (place d) * ps d

/-- The residual `v` after the gated feed-forward. -/
def feed (v g : Fin 1024 → EReal) (wg wu : Fin 1024 → Fin 2816 → EReal) (wd : Fin 2816 → Fin 1024 → EReal) (d : Fin 1024) : EReal :=
  v d + ∑ f : Fin 2816, swi (∑ k : Fin 1024, norm v k * g k * wg k f) (∑ k : Fin 1024, norm v k * g k * wu k f) * wd f d

/-- The layer at feature `d` of token `s` of sequence `b`. -/
def layer (x : (⟨3, ![2, 16384, 1024]⟩ : Shape).Idx → EReal) (gm gf : (⟨2, ![2, 1024]⟩ : Shape).Idx → EReal)
    (pw : (⟨4, ![1, 4, 256, 256]⟩ : Shape).Idx → EReal) (ps : (⟨2, ![1, 1024]⟩ : Shape).Idx → EReal)
    (wg wu : (⟨3, ![1, 1024, 2816]⟩ : Shape).Idx → EReal) (wd : (⟨3, ![1, 2816, 1024]⟩ : Shape).Idx → EReal)
    (b : Fin 2) (s : Fin 16384) (d : Fin 1024) : EReal :=
  feed (resid (fun k => x (ix3 b s k)) (mixed (hrow x (fun k => gm (ix2 0 k)) b) (fun g c e => pw (ix4 0 g c e)) s.val) (fun k => ps (ix2 0 k)))
    (fun k => gf (ix2 0 k)) (fun k f => wg (ix3 0 k f)) (fun k f => wu (ix3 0 k f)) (fun f k => wd (ix3 0 f k)) d

/-- The table of results: row `16384 b + s` is token `s` of sequence `b`. -/
def table (x : (⟨3, ![2, 16384, 1024]⟩ : Shape).Idx → EReal) (gm gf : (⟨2, ![2, 1024]⟩ : Shape).Idx → EReal)
    (pw : (⟨4, ![1, 4, 256, 256]⟩ : Shape).Idx → EReal) (ps : (⟨2, ![1, 1024]⟩ : Shape).Idx → EReal)
    (wg wu : (⟨3, ![1, 1024, 2816]⟩ : Shape).Idx → EReal) (wd : (⟨3, ![1, 2816, 1024]⟩ : Shape).Idx → EReal)
    (i : (⟨2, ![32768, 1024]⟩ : Shape).Idx) : EReal :=
  layer x gm gf pw ps wg wu wd ⟨(i 0).val / 16384, by have : (i 0).val < 32768 := (i 0).isLt; omega⟩
    ⟨(i 0).val % 16384, by omega⟩ (i 1)

end Cert.PoolSpec

end

end
-- ==== Proof.PoolIdealBody.lean ====
/- What one grid point of the first layer computes from the blocks it reads. -/
module

public import proofs.«01_k».proof.Proof.PoolSpec
public import proofs.«01_k».proof.Proof.Gen.PoolIdeal.Value
public import Idealize.ShloMosaic.Lib.Pipeline.ValueKit
public import Idealize.ShloMosaic.Lib.MatmulPlain
public import Idealize.ShloMosaic.Lib.ValueLayout
public import Idealize.ShloMosaic.Lib.KernelVsHost
public import Idealize.ShloMosaic.Lib.Routing.BitFacts

@[expose] public section

noncomputable section

namespace Cert.PoolIdeal.Body

open Idealize.ShloMosaic hiding ix1 ix2 ix3 eq_ix1 eq_ix2 eq_ix3
open Idealize.ShloMosaic.TcCoe Idealize.SL.Sem
open Idealize.ShloMosaic.ValueIdx
open Cert.Spec Cert.PoolSpec
open Cert.PoolIdeal Cert.PoolIdeal.Gen

/-- A vector of 528 rows rotated down by `s`, read at a row that nothing has wrapped around to. -/
theorem roll_apply (s : ℕ) (sb : BitVec 32) (hs : sb.toNat = s) (x : FVec Ideal S528x256 .f32) (h) (p : ℕ) (hp : p < 528) (hsp : s ≤ p) (c : Fin 256) :
    dynamicRotate 0 sb none x h (ix2 ⟨p, hp⟩ c) = x (ix2 ⟨p - s, by omega⟩ c) := by
  refine dynamicRotate_apply (s := S528x256) 0 sb x h _ _ fun a => ?_
  match a with
  | ⟨0, _⟩ => show p - s = (p + 528 - sb.toNat % 528) % 528; omega
  | ⟨1, _⟩ => rfl

/-- `y` holds, from row `n - 1` on, the sums of `n` rows of `f` that end at the row. -/
def Sums (f : ℕ → Fin 256 → EReal) (n : ℕ) (y : FVec Ideal S528x256 .f32) : Prop :=
  ∀ (p : ℕ) (hp : p < 528) (c : Fin 256), n ≤ p + 1 → y (ix2 ⟨p, hp⟩ c) = ∑ k ∈ Finset.range n, f (p - k) c

theorem Sums.double {f : ℕ → Fin 256 → EReal} {n : ℕ} {y : FVec Ideal S528x256 .f32} (hy : Sums f n y) (sb : BitVec 32) (hs : sb.toNat = n) (h) :
    Sums f (n + n) (addf y (dynamicRotate 0 sb none y h)) := fun p hp c hn => by
  show y _ + dynamicRotate 0 sb none y h _ = _
  rw [roll_apply n sb hs y h p hp (by omega) c, hy p hp c (by omega), hy (p - n) (by omega) c (by omega), Finset.sum_range_add]
  refine congrArg (_ + ·) (Finset.sum_congr rfl fun k _ => ?_)
  rw [Nat.sub_sub]

/-- The rows a tile pools over: sixteen before it, then its own. -/
def Ext (f : ℕ → Fin 1024 → EReal) (e : FVec Ideal S528x1024 .f32) : Prop :=
  ∀ (p : ℕ) (hp : p < 528) (d : Fin 1024), e (ix2 ⟨p, hp⟩ d) = f p d

theorem Ext.group {f : ℕ → Fin 1024 → EReal} {e : FVec Ideal S528x1024 .f32} (he : Ext f e) (g : Fin 4) (off : Fin 2 → ℕ) (ho : off = ![0, g.val * 256]) (h) :
    Sums (fun p c => f p (feat g c)) 1 (extractStridedSlice S528x256 off e h) := fun p hp c _ => by
  subst ho
  rw [Finset.sum_range_one]
  refine (extractStridedSlice_apply _ e h _ (ix2 ⟨p, hp⟩ (feat g c)) fun a => ?_).trans (he p hp (feat g c))
  match a with
  | ⟨0, _⟩ => show p = 0 + p; omega
  | ⟨1, _⟩ => rfl

/-- One group of a tile: the pooled features of its row `r` from the summed rows `y`. -/
theorem pool_apply {f : ℕ → Fin 1024 → EReal} {g : Fin 4} {n : ℕ} {y : FVec Ideal S528x256 .f32} (hn : n ≤ 16)
    (hy : Sums (fun p c => f p (feat g c)) n y) (hh : FVec Ideal S512x1024 .f32)
    (ehh : ∀ (r : Fin 512) (d : Fin 1024), hh (ix2 r d) = f (16 + r.val) d) (cnt : FVec Ideal S512x1 .f32) (off : Fin 2 → ℕ) (ho : off = ![0, g.val * 256])
    (h1 h2 h3) (r : Fin 512) (c : Fin 256) :
    subf (divf (extractStridedSlice S512x256 ![16, 0] y h1) (broadcastTo S512x256 cnt h2)) (extractStridedSlice S512x256 off hh h3) (ix2 r c)
      = Ideal.div (∑ k ∈ Finset.range n, f (16 + r.val - k) (feat g c)) (cnt (ix2 r 0)) - f (16 + r.val) (feat g c) := by
  subst ho
  have e1 : extractStridedSlice S512x256 ![16, 0] y h1 (ix2 r c) = ∑ k ∈ Finset.range n, f (16 + r.val - k) (feat g c) := by
    refine (extractStridedSlice_apply _ y h1 _ (ix2 ⟨16 + r.val, by omega⟩ c) fun a => ?_).trans (hy (16 + r.val) (by omega) c (by omega))
    match a with
    | ⟨0, _⟩ => rfl
    | ⟨1, _⟩ => show c.val = 0 + c.val; omega
  have e2 : broadcastTo S512x256 cnt h2 (ix2 r c) = cnt (ix2 r 0) := by
    pointwise
    rfl
  have e3 : extractStridedSlice S512x256 ![0, g.val * 256] hh h3 (ix2 r c) = f (16 + r.val) (feat g c) := by
    refine (extractStridedSlice_apply _ hh h3 _ (ix2 r (feat g c)) fun a => ?_).trans (ehh r (feat g c))
    match a with
    | ⟨0, _⟩ => show r.val = 0 + r.val; omega
    | ⟨1, _⟩ => rfl
  exact congrArg₂ (fun u v : EReal => u - v) (congrArg₂ Ideal.div e1 e2) e3

/-- A group's matrix product. -/
theorem mat_apply (x : FVec Ideal S512x256 .bf16) (w : Vec Ideal S1x256x256 .bf16) (r : Fin 512) (e : Fin 256) :
    matmul dot_S512x256_S256x256_S512x256_1_0_0_1_n_n none x (shapeCast S256x256 w shapeCasts_S1x256x256_S256x256 : FVec Ideal S256x256 .bf16)
      (constant S512x256 .f32 0x00000000#32) (ix2 r e) = ∑ c : Fin 256, x (ix2 r c) * w (ix3 0 c e) := by
  refine (Ideal.matmul_plain_apply (M := 512) (K := 256) (N := 256) none _ _ _ r e).trans ?_
  rw [show (constant (F := Ideal) S512x256 .f32 0x00000000#32) (ix2 r e) = 0 from Ideal.ofBits_zero_f32, zero_add]
  refine Finset.sum_congr rfl fun c _ => ?_
  congr 1
  exact shapeCast_1ab_ab_apply (a := 256) (b := 256) w _ c e

/-- The number of tokens in a window of width `w` at token `s`, as the programs' words count it. -/
theorem min_word (w : ℕ) (hw : w ≤ 16) (s : ℕ) (hs : s < 16384) :
    (IntOp.minsi (BitVec.ofNat 32 (s + 1)) (BitVec.ofNat 32 w)).toInt = ((min (s + 1) w : ℕ) : ℤ) := by
  have hi : ∀ n : ℕ, n < 2 ^ 31 → (BitVec.ofNat 32 n).toInt = (n : ℤ) := fun n hn => by
    rw [BitVec.toInt_eq_toNat_of_msb (Routing.msb_ofNat32 hn), BitVec.toNat_ofNat, Nat.mod_eq_of_lt (by omega)]
  unfold IntOp.minsi
  rw [Routing.slt_ofNat32 (by omega) (by omega)]
  by_cases h : s + 1 < w
  · rw [if_pos (decide_eq_true h), Nat.min_eq_left h.le, hi _ (by omega)]
  · rw [if_neg (by simpa using h), Nat.min_eq_right (by omega), hi _ (by omega)]

/-- The position of a tile's row, as its word. -/
theorem pos_word (t : ℕ) (ht : t < 32) (r : Fin 512) : k0_pay7 (BitVec.ofNat 32 t) (ix2 r 0) = BitVec.ofNat 32 (t * 512 + r.val) := by
  have e : iota .tc S512x1 32 [0] iota_S512x1_d0_w32 (ix2 r 0) = BitVec.ofNat 32 r.val := by pointwise
  show BitVec.ofNat 32 t * 512#32 + iota .tc S512x1 32 [0] iota_S512x1_d0_w32 (ix2 r 0) = _
  rw [e, BitVec.ofNat_add, BitVec.ofNat_mul]

theorem cnt_apply (pos : IVec S512x1 32) (s : ℕ) (hs : s < 16384) (r : Fin 512) (hp : pos (ix2 r 0) = BitVec.ofNat 32 s) (w : ℕ) (hw : w ≤ 16) :
    sitofp (F := Ideal) .f32 (minsi (addi pos (broadcast S512x1 1#32)) (broadcast S512x1 (BitVec.ofNat 32 w))) (ix2 r 0)
      = (((min (s + 1) w : ℕ) : ℝ) : EReal) := by
  show (((IntOp.minsi (pos (ix2 r 0) + 1#32) (BitVec.ofNat 32 w)).toInt : ℝ) : EReal) = _
  rw [hp, show BitVec.ofNat 32 s + 1#32 = BitVec.ofNat 32 (s + 1) from (BitVec.ofNat_add ..).symm, min_word w hw s hs]
  norm_cast

/-- A tile's rows, each divided by its root mean square, read at a feature. -/
theorem norm_apply (x : FVec Ideal S512x1024 .f32) (r : Fin 512) (d : Fin 1024) :
    mulf x (broadcastTo S512x1024 (rsqrt (addf (divf (shapeCast S512x1 (multiReduction .add [1] S512 (mulf x x) 0x00000000#32
      reduces_S512x1024_S512 (.inl rfl) rfl) shapeCasts_S512_S512x1) (broadcast S512x1 (Scalar.ofBits .f32 0x44800000#32)))
      (broadcast S512x1 (Scalar.ofBits .f32 0x3727C5AC#32)))) broadcasts_S512x1_S512x1024) (ix2 r d)
      = norm (fun k => x (ix2 r k)) d := by
  pointwise
  rfl

/-- The scale row laid under a tile. -/
theorem row_apply (g : Vec Ideal S1x1024 .f32) (r : Fin 512) (d : Fin 1024) :
    broadcastTo S512x1024 (shapeCast S1x1024 g shapeCasts_S1x1024_S1x1024) broadcasts_S1x1024_S512x1024 (ix2 r d) = g (ix2 0 d) := by
  pointwise
  rfl

theorem own_apply (x : Vec Ideal S512x1024 .f32) (g : Vec Ideal S1x1024 .f32) (r : Fin 512) (d : Fin 1024) :
    k0_pay3 x g (ix2 r d) = norm (fun k => x (ix2 r k)) d * g (ix2 0 d) := by
  unfold k0_pay3 k0_pay1 k0_pay2
  rw [shapeCast_self x]
  exact congrArg₂ (fun u v : EReal => u * v) (norm_apply x r d) (row_apply g r d)

theorem before_apply (x : Vec Ideal S16x1024 .f32) (g : Vec Ideal S1x1024 .f32) (r : Fin 16) (d : Fin 1024) :
    mulf (k0_pay4 x) (k0_pay5 g) (ix2 r d) = norm (fun k => x (ix2 r k)) d * g (ix2 0 d) := by
  unfold k0_pay4 k0_pay5 k0_pay2
  rw [shapeCast_self x]
  pointwise
  rfl

/-- The rows a tile pools over, as one function of the row's number. -/
def rows (first : Prop) [Decidable first] (x : Vec Ideal S512x1024 .f32) (y : Vec Ideal S16x1024 .f32) (g : Vec Ideal S1x1024 .f32) (p : ℕ) (d : Fin 1024) : EReal :=
  if h : p < 16 then (if first then 0 else norm (fun k => y (ix2 ⟨p, h⟩ k)) d * g (ix2 0 d))
  else if h : p - 16 < 512 then norm (fun k => x (ix2 ⟨p - 16, h⟩ k)) d * g (ix2 0 d) else 0

theorem ext_rows (first : Prop) [Decidable first] (b : BitVec 1) (hb : b = 1#1 ↔ first) (x : Vec Ideal S512x1024 .f32) (y : Vec Ideal S16x1024 .f32) (g : Vec Ideal S1x1024 .f32) :
    Ext (rows first x y g) (k0_pay6 (k0_pay3 x g) b (k0_pay4 y) (k0_pay5 g)) := fun p hp d => by
  unfold k0_pay6 rows
  pointwise
  by_cases h : p < 16
  · rw [dif_pos h, dif_pos h]
    by_cases hf : first
    · rw [if_pos hf, hb.2 hf]
      rfl
    · rw [if_neg hf]
      exact (if_neg fun e => hf (hb.1 e)).trans (before_apply y g ⟨p, h⟩ d)
  · rw [dif_neg h, dif_neg h, dif_pos (by omega)]
    exact own_apply x g _ d

/-- The gated feed-forward of a tile, over its residual `v`. -/
theorem feed_apply (v : FVec Ideal S512x1024 .f32) (h : FVec Ideal S512x1024 .bf16) (g : Fin 1024 → EReal)
    (wg wu : Vec Ideal S1024x2816 .bf16) (wd : Vec Ideal S2816x1024 .bf16) (r : Fin 512) (d : Fin 1024)
    (hh : ∀ k : Fin 1024, h (ix2 r k) = norm (fun k => v (ix2 r k)) k * g k) :
    addf v (matmul dot_S512x2816_S2816x1024_S512x1024_1_0_0_1_n_n none
      (truncf .bf16 (mulf (mulf
          (matmul dot_S512x1024_S1024x2816_S512x2816_1_0_0_1_n_n none h (shapeCast S1024x2816 wg shapeCasts_S1024x2816_S1024x2816 : FVec Ideal S1024x2816 .bf16) (constant S512x2816 .f32 0x00000000#32))
          (logistic (matmul dot_S512x1024_S1024x2816_S512x2816_1_0_0_1_n_n none h (shapeCast S1024x2816 wg shapeCasts_S1024x2816_S1024x2816 : FVec Ideal S1024x2816 .bf16) (constant S512x2816 .f32 0x00000000#32))))
          (matmul dot_S512x1024_S1024x2816_S512x2816_1_0_0_1_n_n none h (shapeCast S1024x2816 wu shapeCasts_S1024x2816_S1024x2816 : FVec Ideal S1024x2816 .bf16) (constant S512x2816 .f32 0x00000000#32))) bitsLt_bf16_f32)
      (shapeCast S2816x1024 wd shapeCasts_S2816x1024_S2816x1024 : FVec Ideal S2816x1024 .bf16) (constant S512x1024 .f32 0x00000000#32)) (ix2 r d)
      = feed (fun k => v (ix2 r k)) g (fun k f => wg (ix2 k f)) (fun k f => wu (ix2 k f)) (fun f k => wd (ix2 f k)) d := by
  rw [shapeCast_self wg, shapeCast_self wu, shapeCast_self wd]
  have hp : ∀ (w : Vec Ideal S1024x2816 .bf16) (f : Fin 2816),
      matmul dot_S512x1024_S1024x2816_S512x2816_1_0_0_1_n_n none h (w : FVec Ideal S1024x2816 .bf16) (constant S512x2816 .f32 0x00000000#32) (ix2 r f)
        = ∑ k : Fin 1024, norm (fun k => v (ix2 r k)) k * g k * w (ix2 k f) := fun w f => by
    refine (Ideal.matmul_plain_apply (M := 512) (K := 1024) (N := 2816) none _ _ _ r f).trans ?_
    rw [show (constant (F := Ideal) S512x2816 .f32 0x00000000#32) (ix2 r f) = 0 from Ideal.ofBits_zero_f32, zero_add]
    exact Finset.sum_congr rfl fun k _ => congrArg (fun u : EReal => u * w (ix2 k f)) (hh k)
  refine congrArg (v (ix2 r d) + ·) ((Ideal.matmul_plain_apply (M := 512) (K := 2816) (N := 1024) none _ _ _ r d).trans ?_)
  rw [show (constant (F := Ideal) S512x1024 .f32 0x00000000#32) (ix2 r d) = 0 from Ideal.ofBits_zero_f32, zero_add]
  refine Finset.sum_congr rfl fun f _ => ?_
  exact congrArg (fun u : EReal => u * wd (ix2 f d)) (congrArg₂ swi (hp wg f) (hp wu f))

/-- The tile's residual after the mixture, from its four groups. -/
theorem resid_apply (x : FVec Ideal S512x1024 .f32) (m0 m1 m2 m3 : FVec Ideal S512x256 .f32) (ps : Vec Ideal S1x1024 .f32)
    (r : Fin 512) (mix : Fin 4 → Fin 256 → EReal) (h0 : ∀ e, m0 (ix2 r e) = mix 0 e) (h1 : ∀ e, m1 (ix2 r e) = mix 1 e)
    (h2 : ∀ e, m2 (ix2 r e) = mix 2 e) (h3 : ∀ e, m3 (ix2 r e) = mix 3 e) (d : Fin 1024) :
    addf x (mulf (concatenate S512x1024 1 [⟨S512x256, m0⟩, ⟨S512x256, m1⟩, ⟨S512x256, m2⟩, ⟨S512x256, m3⟩]
      concatenates_S512x256_S512x256_S512x256_S512x256_S512x1024_d1) (broadcastTo S512x1024 (shapeCast S1x1024 ps shapeCasts_S1x1024_S1x1024) broadcasts_S1x1024_S512x1024)) (ix2 r d)
      = resid (fun k => x (ix2 r k)) mix (fun k => ps (ix2 0 k)) d := by
  refine congrArg (x (ix2 r d) + ·) (congrArg₂ (fun u v : EReal => u * v) ?_ (row_apply ps r d))
  pointwise
  have e : ∀ (g : Fin 4) (l : Fin 256), d.val = g.val * 256 + l.val → mix g l = mix (grp d) (place d) := fun g l h => by
    obtain rfl : d = feat g l := Fin.ext h
    rw [grp_feat, place_feat]
  have hd : ((ix2 r d : S512x1024.Idx) 1).val = d.val := rfl
  split
  · next h => exact (h0 ⟨d.val, h⟩).trans (e 0 ⟨d.val, h⟩ (by show d.val = 0 * 256 + d.val; omega))
  · split
    · next h => exact (h1 ⟨d.val - 256, h⟩).trans (e 1 ⟨d.val - 256, h⟩ (by show d.val = 1 * 256 + (d.val - 256); omega))
    · split
      · next h => exact (h2 ⟨d.val - 256 - 256, h⟩).trans (e 2 ⟨d.val - 256 - 256, h⟩ (by show d.val = 2 * 256 + (d.val - 256 - 256); omega))
      · next h => exact (h3 ⟨d.val - 256 - 256 - 256, by omega⟩).trans (e 3 ⟨d.val - 256 - 256 - 256, by omega⟩ (by show d.val = 3 * 256 + (d.val - 256 - 256 - 256); omega))

theorem pay14_apply (x : FVec Ideal S512x1024 .f32) (m0 m1 m2 : FVec Ideal S512x256 .f32) (p3 : FVec Ideal S512x256 .bf16)
    (w3 : Vec Ideal S1x256x256 .bf16) (ps gf : Vec Ideal S1x1024 .f32) (wg wu : Vec Ideal S1024x2816 .bf16) (wd : Vec Ideal S2816x1024 .bf16)
    (r : Fin 512) (mix : Fin 4 → Fin 256 → EReal) (h0 : ∀ e, m0 (ix2 r e) = mix 0 e) (h1 : ∀ e, m1 (ix2 r e) = mix 1 e)
    (h2 : ∀ e, m2 (ix2 r e) = mix 2 e) (h3 : ∀ e, (∑ c : Fin 256, p3 (ix2 r c) * w3 (ix3 0 c e)) = mix 3 e) (d : Fin 1024) :
    k0_pay14 x m0 m1 m2 p3 w3 ps gf wg wu wd (ix2 r d)
      = feed (resid (fun k => x (ix2 r k)) mix (fun k => ps (ix2 0 k))) (fun k => gf (ix2 0 k)) (fun k f => wg (ix2 k f))
          (fun k f => wu (ix2 k f)) (fun f k => wd (ix2 f k)) d := by
  unfold k0_pay14
  refine (feed_apply _ _ (fun k => gf (ix2 0 k)) wg wu wd r d fun k => ?_).trans ?_
  · exact congrArg₂ (fun u v : EReal => u * v) (norm_apply _ r k) (row_apply gf r k)
  · refine congrArg (fun v => feed v (fun k => gf (ix2 0 k)) (fun k f => wg (ix2 k f)) (fun k f => wu (ix2 k f)) (fun f k => wd (ix2 f k)) d) (funext fun k => ?_)
    exact resid_apply x m0 m1 m2 _ ps r mix h0 h1 h2 (fun e => (mat_apply p3 w3 r e).trans (h3 e)) k

/-- What a tile's row `r`, token `s` of its sequence, needs of the rows above it: they hold `H` at the fifteen tokens
    before, zeros where the sequence has not begun. -/
def Follows (f H : ℕ → Fin 1024 → EReal) (r s : ℕ) : Prop :=
  ∀ (k : ℕ) (d : Fin 1024), k < 16 → f (16 + r - k) d = if k ≤ s then H (s - k) d else 0

/-- A group's pooled features at row `r`, from its summed rows. -/
theorem group_apply {f H : ℕ → Fin 1024 → EReal} {g : Fin 4} {n : ℕ} {y : FVec Ideal S528x256 .f32} (hn : n ≤ 16) (hg : n = 2 ^ (g.val + 1))
    (hy : Sums (fun p c => f p (feat g c)) n y) (hh : FVec Ideal S512x1024 .f32)
    (ehh : ∀ (r : Fin 512) (d : Fin 1024), hh (ix2 r d) = f (16 + r.val) d) (pos : IVec S512x1 32) (nb : BitVec 32) (hnb : nb = BitVec.ofNat 32 n)
    (off : Fin 2 → ℕ) (ho : off = ![0, g.val * 256]) (h1 h2 h3) (r : Fin 512) (s : ℕ) (hs : s < 16384)
    (hp : pos (ix2 r 0) = BitVec.ofNat 32 s) (hf : Follows f H r.val s) (c : Fin 256) :
    truncf .bf16 (subf (divf (extractStridedSlice S512x256 ![16, 0] y h1)
      (broadcastTo S512x256 (sitofp (F := Ideal) .f32 (minsi (addi pos (broadcast S512x1 1#32)) (broadcast S512x1 nb))) h2))
      (extractStridedSlice S512x256 off hh h3)) bitsLt_bf16_f32 (ix2 r c) = pooled H (2 ^ (g.val + 1)) s (feat g c) := by
  subst hnb
  rw [← hg]
  refine (pool_apply hn hy hh ehh _ off ho h1 h2 h3 r c).trans ?_
  unfold pooled
  rw [cnt_apply pos s hs r hp n hn]
  refine congrArg₂ (fun u v : EReal => Ideal.div u _ - v) (Finset.sum_congr rfl fun k hk => hf k _ (by have := Finset.mem_range.1 hk; omega)) ?_
  have := hf 0 (feat g c) (by omega)
  rwa [if_pos (Nat.zero_le _)] at this

section

variable {f H : ℕ → Fin 1024 → EReal} {hh : FVec Ideal S512x1024 .f32} {b : BitVec 1} {p4 p5 : FVec Ideal S16x1024 .f32} {tw : BitVec 32}
  (he : Ext f (k0_pay6 hh b p4 p5)) (ehh : ∀ (r : Fin 512) (d : Fin 1024), hh (ix2 r d) = f (16 + r.val) d) (r : Fin 512) (s : ℕ) (hs : s < 16384)
  (hp : k0_pay7 tw (ix2 r 0) = BitVec.ofNat 32 s) (hf : Follows f H r.val s)

include he ehh hs hp hf

theorem group0 (w : Vec Ideal S1x256x256 .bf16) (e : Fin 256) :
    k0_pay8 tw hh b p4 p5 w (ix2 r e) = ∑ c : Fin 256, pooled H (2 ^ ((0 : Fin 4).val + 1)) s (feat 0 c) * w (ix3 0 c e) := by
  unfold k0_pay8
  refine (mat_apply _ w r e).trans (Finset.sum_congr rfl fun c _ => congrArg (fun u : EReal => u * w (ix3 0 c e)) ?_)
  exact group_apply (g := 0) (n := 2) (by omega) rfl ((he.group 0 _ rfl _).double 1#32 rfl _) hh ehh _ _ rfl _ rfl _ _ _ r s hs hp hf c

theorem group1 (w : Vec Ideal S1x256x256 .bf16) (e : Fin 256) :
    k0_pay11 (k0_pay9 tw hh b p4 p5) (k0_pay10 w) (constant S512x256 .f32 0x00000000#32) (ix2 r e)
      = ∑ c : Fin 256, pooled H (2 ^ ((1 : Fin 4).val + 1)) s (feat 1 c) * w (ix3 0 c e) := by
  unfold k0_pay11 k0_pay10 k0_pay9
  refine (mat_apply _ w r e).trans (Finset.sum_congr rfl fun c _ => congrArg (fun u : EReal => u * w (ix3 0 c e)) ?_)
  exact group_apply (g := 1) (n := 4) (by omega) rfl (((he.group 1 _ rfl _).double 1#32 rfl _).double 2#32 rfl _) hh ehh _ _ rfl _ rfl _ _ _ r s hs hp hf c

theorem group2 (w : Vec Ideal S1x256x256 .bf16) (e : Fin 256) :
    k0_pay12 hh (k0_pay6 hh b p4 p5) (k0_pay7 tw) w (ix2 r e)
      = ∑ c : Fin 256, pooled H (2 ^ ((2 : Fin 4).val + 1)) s (feat 2 c) * w (ix3 0 c e) := by
  unfold k0_pay12
  refine (mat_apply _ w r e).trans (Finset.sum_congr rfl fun c _ => congrArg (fun u : EReal => u * w (ix3 0 c e)) ?_)
  exact group_apply (g := 2) (n := 8) (by omega) rfl ((((he.group 2 _ rfl _).double 1#32 rfl _).double 2#32 rfl _).double 4#32 rfl _) hh ehh _ _ rfl _ rfl _ _ _ r s hs hp hf c

theorem group3 (c : Fin 256) :
    k0_pay13 hh (k0_pay6 hh b p4 p5) (k0_pay7 tw) (ix2 r c) = pooled H (2 ^ ((3 : Fin 4).val + 1)) s (feat 3 c) := by
  unfold k0_pay13
  exact group_apply (g := 3) (n := 16) (by omega) rfl (((((he.group 3 _ rfl _).double 1#32 rfl _).double 2#32 rfl _).double 4#32 rfl _).double 8#32 rfl _) hh ehh _ _ rfl _ rfl _ _ _ r s hs hp hf c

end

/-- A grid point's tile number within its sequence, as the word the body computes. -/
def tileWord (i : Fin 64) : BitVec 32 :=
  Scalar.select (Scalar.andi (Scalar.xori (Scalar.cmpi .slt (Scalar.remsi (BitVec.ofNat 32 i.val) (Scalar.select (Scalar.cmpi .eq 32#32 0#32) 1#32 32#32)) 0#32) (Scalar.cmpi .slt (Scalar.select (Scalar.cmpi .eq 32#32 0#32) 1#32 32#32) 0#32)) (Scalar.cmpi .ne (Scalar.remsi (BitVec.ofNat 32 i.val) (Scalar.select (Scalar.cmpi .eq 32#32 0#32) 1#32 32#32)) 0#32)) (Scalar.addi (Scalar.remsi (BitVec.ofNat 32 i.val) (Scalar.select (Scalar.cmpi .eq 32#32 0#32) 1#32 32#32)) (Scalar.select (Scalar.cmpi .eq 32#32 0#32) 1#32 32#32)) (Scalar.remsi (BitVec.ofNat 32 i.val) (Scalar.select (Scalar.cmpi .eq 32#32 0#32) 1#32 32#32))

theorem tileWord_eq : ∀ i : Fin 64, tileWord i = BitVec.ofNat 32 (i.val % 32) := by decide +kernel
theorem first_iff : ∀ i : Fin 64, Scalar.cmpi .eq (tileWord i) 0#32 = 1#1 ↔ i.val % 32 = 0 := by decide +kernel

/-- One matrix of the four, loaded. -/
theorem ld_apply (x4 : Vec Ideal S4x256x256 .bf16) (g : Fin 4) (off : Fin 3 → ℕ) (ho : off = ![g.val, 0, 0]) (h) (c e : Fin 256) :
    View.ld x4 (Rect.unit (s := S4x256x256) off S1x256x256.size h) (ix3 0 c e) = x4 (ix3 g c e) := by
  subst ho
  exact View.ld_unit_apply_of _ _ _ _ _ _ fun a => by
    match a with
    | ⟨0, _⟩ => rfl
    | ⟨1, _⟩ => show c.val = 0 + c.val; omega
    | ⟨2, _⟩ => show e.val = 0 + e.val; omega

/-- Row `r` of the tile of grid point `i`, from the blocks the point reads. -/
theorem out_apply (i : grid0.Coords) (n : Fin 64) (hi : (i 0).val = n.val) (x0 : Vec Ideal S512x1024 .f32) (x1 : Vec Ideal S16x1024 .f32) (x2 x3 : Vec Ideal S1x1024 .f32)
    (x4 : Vec Ideal S4x256x256 .bf16) (x5 : Vec Ideal S1x1024 .f32) (x6 x7 : Vec Ideal S1024x2816 .bf16) (x8 : Vec Ideal S2816x1024 .bf16)
    (H : ℕ → Fin 1024 → EReal) (r : Fin 512) (d : Fin 1024) (hf : Follows (rows (n.val % 32 = 0) x0 x1 x2) H r.val (n.val % 32 * 512 + r.val)) :
    out0_9 i x0 x1 x2 x3 x4 x5 x6 x7 x8 (ix2 r d)
      = feed (resid (fun k => x0 (ix2 r k)) (mixed H (fun g c e => x4 (ix3 g c e)) (n.val % 32 * 512 + r.val)) (fun k => x5 (ix2 0 k)))
          (fun k => x3 (ix2 0 k)) (fun k f => x6 (ix2 k f)) (fun k f => x7 (ix2 k f)) (fun f k => x8 (ix2 f k)) d := by
  have hs : n.val % 32 * 512 + r.val < 16384 := by omega
  have he := ext_rows (n.val % 32 = 0) _ (first_iff n) x0 x1 x2
  have ehh : ∀ (r : Fin 512) (d : Fin 1024), k0_pay3 x0 x2 (ix2 r d) = rows (n.val % 32 = 0) x0 x1 x2 (16 + r.val) d := fun r d => by
    have hr : 16 + r.val - 16 = r.val := by omega
    refine (own_apply x0 x2 r d).trans ?_
    unfold rows
    rw [dif_neg (by omega), dif_pos (by omega)]
    refine congrArg (fun q : Fin 512 => norm (fun k => x0 (ix2 q k)) d * x2 (ix2 0 d)) (Fin.ext hr.symm)
  have hp : k0_pay7 (tileWord n) (ix2 r 0) = BitVec.ofNat 32 (n.val % 32 * 512 + r.val) := by
    rw [tileWord_eq]
    exact pos_word _ (by omega) r
  unfold_out out0_9
  frame_out
  rw [hi]
  refine (pay14_apply _ _ _ _ _ _ _ _ _ _ _ r (mixed H (fun g c e => x4 (ix3 g c e)) (n.val % 32 * 512 + r.val)) (fun e => ?_) (fun e => ?_) (fun e => ?_) (fun e => ?_) d).trans ?_
  · refine (group0 (tw := tileWord n) he ehh r _ hs hp hf _ e).trans (Finset.sum_congr rfl fun c _ => ?_)
    exact congrArg (pooled H (2 ^ ((0 : Fin 4).val + 1)) (n.val % 32 * 512 + r.val) (feat 0 c) * ·) (ld_apply x4 0 _ rfl _ c e)
  · refine (group1 (tw := tileWord n) he ehh r _ hs hp hf _ e).trans (Finset.sum_congr rfl fun c _ => ?_)
    exact congrArg (pooled H (2 ^ ((1 : Fin 4).val + 1)) (n.val % 32 * 512 + r.val) (feat 1 c) * ·) (ld_apply x4 1 _ rfl _ c e)
  · refine (group2 (tw := tileWord n) he ehh r _ hs hp hf _ e).trans (Finset.sum_congr rfl fun c _ => ?_)
    exact congrArg (pooled H (2 ^ ((2 : Fin 4).val + 1)) (n.val % 32 * 512 + r.val) (feat 2 c) * ·) (ld_apply x4 2 _ rfl _ c e)
  · refine Finset.sum_congr rfl fun c _ => ?_
    exact congrArg₂ (fun u v : EReal => u * v) (group3 (tw := tileWord n) he ehh r _ hs hp hf c) (ld_apply x4 3 _ rfl _ c e)
  · unfold k0_pay1
    rw [shapeCast_self x0]

end Cert.PoolIdeal.Body

end

end
-- ==== Proof.PoolIdealValue.lean ====
/- The first layer's result array: every row of the table of results. -/
module

public import proofs.«01_k».proof.Proof.PoolIdealBody

@[expose] public section

noncomputable section

namespace Cert.PoolIdeal.Body

open Idealize.ShloMosaic hiding ix1 ix2 ix3 ix4 eq_ix1 eq_ix2 eq_ix3 eq_ix4
open Idealize.ShloMosaic.TcCoe Idealize.SL.Sem
open Idealize.ShloMosaic.ValueIdx
open Cert.Spec Cert.PoolSpec
open Cert.PoolIdeal Cert.PoolIdeal.Gen
open Idealize.ShloMosaic.Pipeline (Dat)

variable (m : (ℓ : Loc nD τ sig) → Buf (Elt Ideal) ℓ) (ρ : Dev nD → PrngReg)

/-- The token array, row `16384 b + s` of it token `s` of sequence `b`. -/
theorem tokens (c : Dev nD) (q : Fin 32768) (d : Fin 1024) (b : Fin 2) (s : Fin 16384) (h : q.val = b.val * 16384 + s.val) :
    V m c main_v0 (ix2 q d) = m ((c : Thread nD τ).loc main_arg0) (ix3 b s d) := by
  entry_read
  refine shapeCast_apply (s := S2x16384x1024) (t := S32768x1024) _ _ (ix2 q d) (ix3 b s d) ?_
  rw [Shape.rowMajor_val_three, Shape.rowMajor_val_two]
  show (b.val * 16384 + s.val) * 1024 + d.val = q.val * 1024 + d.val
  rw [h]

/-- A row vector cut out of an array of rows and reshaped twice. -/
theorem scale1 (c : Dev nD) (d : Fin 1024) : V m c main_v3 (ix2 0 d) = m ((c : Thread nD τ).loc main_arg1) (ix2 0 d) := by
  entry_read
  refine (shapeCast_a_1a_apply (a := 1024) _ _ 0 d).trans ((shapeCast_1a_a_apply (a := 1024) _ _ d).trans ?_)
  exact extractStridedSlice_apply _ _ _ _ (ix2 0 d) fun a => by match a with | ⟨0, _⟩ => rfl | ⟨1, _⟩ => show d.val = 0 + d.val; omega

theorem scale2 (c : Dev nD) (d : Fin 1024) : V m c main_v6 (ix2 0 d) = m ((c : Thread nD τ).loc main_arg2) (ix2 0 d) := by
  entry_read
  refine (shapeCast_a_1a_apply (a := 1024) _ _ 0 d).trans ((shapeCast_1a_a_apply (a := 1024) _ _ d).trans ?_)
  exact extractStridedSlice_apply _ _ _ _ (ix2 0 d) fun a => by match a with | ⟨0, _⟩ => rfl | ⟨1, _⟩ => show d.val = 0 + d.val; omega

theorem mixer (c : Dev nD) (g : Fin 4) (k e : Fin 256) : V m c main_v8 (ix3 g k e) = m ((c : Thread nD τ).loc main_arg3) (ix4 0 g k e) := by
  entry_read
  exact shapeCast_1abc_abc_apply (m := 4) (a := 256) (b := 256) _ _ g k e

theorem scale3 (c : Dev nD) (d : Fin 1024) : V m c main_v10 (ix2 0 d) = m ((c : Thread nD τ).loc main_arg4) (ix2 0 d) := by
  entry_read
  exact (shapeCast_a_1a_apply (a := 1024) _ _ 0 d).trans (shapeCast_1a_a_apply (a := 1024) _ _ d)

theorem gate (c : Dev nD) (k : Fin 1024) (f : Fin 2816) : V m c main_v12 (ix2 k f) = m ((c : Thread nD τ).loc main_arg5) (ix3 0 k f) := by
  entry_read
  exact shapeCast_1ab_ab_apply (a := 1024) (b := 2816) _ _ k f

theorem up (c : Dev nD) (k : Fin 1024) (f : Fin 2816) : V m c main_v14 (ix2 k f) = m ((c : Thread nD τ).loc main_arg6) (ix3 0 k f) := by
  entry_read
  exact shapeCast_1ab_ab_apply (a := 1024) (b := 2816) _ _ k f

theorem down (c : Dev nD) (f : Fin 2816) (k : Fin 1024) : V m c main_v16 (ix2 f k) = m ((c : Thread nD τ).loc main_arg7) (ix3 0 f k) := by
  entry_read
  exact shapeCast_1ab_ab_apply (a := 2816) (b := 1024) _ _ f k

/-! ## The blocks a grid point reads -/

theorem coord (t : Fin cfg0.N) : (grid0.coords t 0).val = t.val := (by decide +kernel : ∀ t : Fin grid0.N, (grid0.coords t 0).val = t.val) t

theorem index0 : ∀ t : Fin cfg0.N, (cfg0.win (0 : Fin 10)).index t = ![t.val, 0] := (by decide +kernel : ∀ t : Fin grid0.N, _)
theorem index1 : ∀ t : Fin cfg0.N, (cfg0.win (1 : Fin 10)).index t = ![t.val * 32 - 1, 0] := (by decide +kernel : ∀ t : Fin grid0.N, _)
theorem index2 : ∀ t : Fin cfg0.N, (cfg0.win (2 : Fin 10)).index t = ![0, 0] := (by decide +kernel : ∀ t : Fin grid0.N, _)
theorem index3 : ∀ t : Fin cfg0.N, (cfg0.win (3 : Fin 10)).index t = ![0, 0] := (by decide +kernel : ∀ t : Fin grid0.N, _)
theorem index4 : ∀ t : Fin cfg0.N, (cfg0.win (4 : Fin 10)).index t = ![0, 0, 0] := (by decide +kernel : ∀ t : Fin grid0.N, _)
theorem index5 : ∀ t : Fin cfg0.N, (cfg0.win (5 : Fin 10)).index t = ![0, 0] := (by decide +kernel : ∀ t : Fin grid0.N, _)
theorem index6 : ∀ t : Fin cfg0.N, (cfg0.win (6 : Fin 10)).index t = ![0, 0] := (by decide +kernel : ∀ t : Fin grid0.N, _)
theorem index7 : ∀ t : Fin cfg0.N, (cfg0.win (7 : Fin 10)).index t = ![0, 0] := (by decide +kernel : ∀ t : Fin grid0.N, _)
theorem index8 : ∀ t : Fin cfg0.N, (cfg0.win (8 : Fin 10)).index t = ![0, 0] := (by decide +kernel : ∀ t : Fin grid0.N, _)
theorem index9 : ∀ t : Fin cfg0.N, (cfg0.win (9 : Fin 10)).index t = ![t.val, 0] := (by decide +kernel : ∀ t : Fin grid0.N, _)

theorem skip (n k : ℕ) : 0 * n + k = k := by rw [Nat.zero_mul, Nat.zero_add]

theorem blk0 (c : Dev nD) (t : Fin cfg0.N) (r : Fin 512) (d : Fin 1024) (b : Fin 2) (s : Fin 16384) (h : t.val * 512 + r.val = b.val * 16384 + s.val) :
    iblk m c 0 t (ix2 r d) = m ((c : Thread nD τ).loc main_arg0) (ix3 b s d) := by
  have ht : t.val < 64 := t.isLt
  unfold iblk
  rw [View.read_apply]
  refine Eq.trans ?_ (tokens m c ⟨t.val * 512 + r.val, by omega⟩ d b s h)
  show V m c main_v0 _ = V m c main_v0 _
  refine congrArg (V m c main_v0) (funext fun a => Fin.ext ?_)
  refine (Pipeline.Window.rect_emb_val (cfg0.win (0 : Fin 10)) t _ a).trans ?_
  rw [index0]
  match a with
  | ⟨0, _⟩ => rfl
  | ⟨1, _⟩ => exact skip 1024 d.val

theorem blk1 (c : Dev nD) (t : Fin cfg0.N) (p : Fin 16) (d : Fin 1024) (b : Fin 2) (s : Fin 16384)
    (h : t.val * 512 + p.val = b.val * 16384 + s.val + 16) (h0 : t.val ≠ 0) :
    iblk m c 1 t (ix2 p d) = m ((c : Thread nD τ).loc main_arg0) (ix3 b s d) := by
  have ht : t.val < 64 := t.isLt
  unfold iblk
  rw [View.read_apply]
  refine Eq.trans ?_ (tokens m c ⟨t.val * 512 + p.val - 16, by omega⟩ d b s (by show t.val * 512 + p.val - 16 = _; omega))
  show V m c main_v0 _ = V m c main_v0 _
  refine congrArg (V m c main_v0) (funext fun a => Fin.ext ?_)
  refine (Pipeline.Window.rect_emb_val (cfg0.win (1 : Fin 10)) t _ a).trans ?_
  rw [index1]
  match a with
  | ⟨0, _⟩ => show (t.val * 32 - 1) * 16 + p.val = t.val * 512 + p.val - 16; omega
  | ⟨1, _⟩ => exact skip 1024 d.val

theorem blk2 (c : Dev nD) (t : Fin cfg0.N) (d : Fin 1024) : iblk m c 2 t (ix2 0 d) = m ((c : Thread nD τ).loc main_arg1) (ix2 0 d) := by
  unfold iblk
  rw [View.read_apply]
  refine Eq.trans ?_ (scale1 m c d)
  refine congrArg (V m c main_v3) (funext fun a => Fin.ext ?_)
  refine (Pipeline.Window.rect_emb_val (cfg0.win (2 : Fin 10)) t _ a).trans ?_
  rw [index2]
  match a with
  | ⟨0, _⟩ => rfl
  | ⟨1, _⟩ => exact skip 1024 d.val

theorem blk3 (c : Dev nD) (t : Fin cfg0.N) (d : Fin 1024) : iblk m c 3 t (ix2 0 d) = m ((c : Thread nD τ).loc main_arg2) (ix2 0 d) := by
  unfold iblk
  rw [View.read_apply]
  refine Eq.trans ?_ (scale2 m c d)
  refine congrArg (V m c main_v6) (funext fun a => Fin.ext ?_)
  refine (Pipeline.Window.rect_emb_val (cfg0.win (3 : Fin 10)) t _ a).trans ?_
  rw [index3]
  match a with
  | ⟨0, _⟩ => rfl
  | ⟨1, _⟩ => exact skip 1024 d.val

theorem blk4 (c : Dev nD) (t : Fin cfg0.N) (g : Fin 4) (k e : Fin 256) :
    iblk m c 4 t (ix3 g k e) = m ((c : Thread nD τ).loc main_arg3) (ix4 0 g k e) := by
  unfold iblk
  rw [View.read_apply]
  refine Eq.trans ?_ (mixer m c g k e)
  refine congrArg (V m c main_v8) (funext fun a => Fin.ext ?_)
  refine (Pipeline.Window.rect_emb_val (cfg0.win (4 : Fin 10)) t _ a).trans ?_
  rw [index4]
  match a with
  | ⟨0, _⟩ => exact skip 4 g.val
  | ⟨1, _⟩ => exact skip 256 k.val
  | ⟨2, _⟩ => exact skip 256 e.val

theorem blk5 (c : Dev nD) (t : Fin cfg0.N) (d : Fin 1024) : iblk m c 5 t (ix2 0 d) = m ((c : Thread nD τ).loc main_arg4) (ix2 0 d) := by
  unfold iblk
  rw [View.read_apply]
  refine Eq.trans ?_ (scale3 m c d)
  refine congrArg (V m c main_v10) (funext fun a => Fin.ext ?_)
  refine (Pipeline.Window.rect_emb_val (cfg0.win (5 : Fin 10)) t _ a).trans ?_
  rw [index5]
  match a with
  | ⟨0, _⟩ => rfl
  | ⟨1, _⟩ => exact skip 1024 d.val

theorem blk6 (c : Dev nD) (t : Fin cfg0.N) (k : Fin 1024) (f : Fin 2816) :
    iblk m c 6 t (ix2 k f) = m ((c : Thread nD τ).loc main_arg5) (ix3 0 k f) := by
  unfold iblk
  rw [View.read_apply]
  refine Eq.trans ?_ (gate m c k f)
  refine congrArg (V m c main_v12) (funext fun a => Fin.ext ?_)
  refine (Pipeline.Window.rect_emb_val (cfg0.win (6 : Fin 10)) t _ a).trans ?_
  rw [index6]
  match a with
  | ⟨0, _⟩ => exact skip 1024 k.val
  | ⟨1, _⟩ => exact skip 2816 f.val

theorem blk7 (c : Dev nD) (t : Fin cfg0.N) (k : Fin 1024) (f : Fin 2816) :
    iblk m c 7 t (ix2 k f) = m ((c : Thread nD τ).loc main_arg6) (ix3 0 k f) := by
  unfold iblk
  rw [View.read_apply]
  refine Eq.trans ?_ (up m c k f)
  refine congrArg (V m c main_v14) (funext fun a => Fin.ext ?_)
  refine (Pipeline.Window.rect_emb_val (cfg0.win (7 : Fin 10)) t _ a).trans ?_
  rw [index7]
  match a with
  | ⟨0, _⟩ => exact skip 1024 k.val
  | ⟨1, _⟩ => exact skip 2816 f.val

theorem blk8 (c : Dev nD) (t : Fin cfg0.N) (f : Fin 2816) (k : Fin 1024) :
    iblk m c 8 t (ix2 f k) = m ((c : Thread nD τ).loc main_arg7) (ix3 0 f k) := by
  unfold iblk
  rw [View.read_apply]
  refine Eq.trans ?_ (down m c f k)
  refine congrArg (V m c main_v16) (funext fun a => Fin.ext ?_)
  refine (Pipeline.Window.rect_emb_val (cfg0.win (8 : Fin 10)) t _ a).trans ?_
  rw [index8]
  match a with
  | ⟨0, _⟩ => exact skip 2816 f.val
  | ⟨1, _⟩ => exact skip 1024 k.val

/-! ## The result array -/

/-- The rows a tile pools over hold the sequence's normalized tokens up to its own, zero before the sequence's first. -/
theorem follows (c : Dev nD) (t : Fin cfg0.N) (r : Fin 512) (b : Fin 2) (hb : b.val = t.val / 32) :
    Follows (rows (t.val % 32 = 0) (iblk m c 0 t) (iblk m c 1 t) (iblk m c 2 t))
      (hrow (m ((c : Thread nD τ).loc main_arg0)) (fun k => m ((c : Thread nD τ).loc main_arg1) (ix2 0 k)) b) r.val (t.val % 32 * 512 + r.val) := by
  have ht : t.val < 64 := t.isLt
  intro k d hk
  have hr := r.isLt
  unfold rows
  by_cases h16 : 16 + r.val - k < 16
  · rw [dif_pos h16]
    by_cases h0 : t.val % 32 = 0
    · rw [if_pos h0, if_neg (by omega)]
    · rw [if_neg h0, if_pos (by omega)]
      unfold hrow
      rw [dif_pos (show t.val % 32 * 512 + r.val - k < 16384 by omega)]
      refine congrArg₂ (fun u v : EReal => u * v) (congrArg (fun w => norm w d) (funext fun e => ?_)) (blk2 m c t d)
      exact blk1 m c t ⟨16 + r.val - k, h16⟩ e b ⟨t.val % 32 * 512 + r.val - k, by omega⟩
        (by show t.val * 512 + (16 + r.val - k) = b.val * 16384 + (t.val % 32 * 512 + r.val - k) + 16; omega) (by omega)
  · rw [dif_neg h16, dif_pos (show 16 + r.val - k - 16 < 512 by omega), if_pos (by omega)]
    unfold hrow
    rw [dif_pos (show t.val % 32 * 512 + r.val - k < 16384 by omega)]
    refine congrArg₂ (fun u v : EReal => u * v) (congrArg (fun w => norm w d) (funext fun e => ?_)) (blk2 m c t d)
    exact blk0 m c t ⟨16 + r.val - k - 16, by omega⟩ e b ⟨t.val % 32 * 512 + r.val - k, by omega⟩
      (by show t.val * 512 + (16 + r.val - k - 16) = b.val * 16384 + (t.val % 32 * 512 + r.val - k); omega)

/-- The table of results over the arguments of core `c`. -/
def result (c : Dev nD) : Buf (Elt Ideal) ((c : Thread nD τ).loc main_v17) :=
  table (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- What a grid point leaves in the output block. -/
theorem point (c : Dev nD) (t : Fin cfg0.N) (r : Fin 512) (d : Fin 1024) (q : Fin 32768) (hq : q.val = t.val * 512 + r.val) :
    out0_9 (grid0.coords t) (iblk m c 0 t) (iblk m c 1 t) (iblk m c 2 t) (iblk m c 3 t) (iblk m c 4 t) (iblk m c 5 t)
      (iblk m c 6 t) (iblk m c 7 t) (iblk m c 8 t) (ix2 r d) = result m c (ix2 q d) := by
  have ht : t.val < 64 := t.isLt
  refine (out_apply (grid0.coords t) ⟨t.val, ht⟩ (coord t) _ _ _ _ _ _ _ _ _ _ r d (follows m c t r ⟨t.val / 32, by omega⟩ rfl)).trans ?_
  have hs : t.val % 32 * 512 + r.val = q.val % 16384 := by omega
  unfold result table layer
  have e0 : (fun k => iblk m c 0 t (ix2 r k)) = fun k => m ((c : Thread nD τ).loc main_arg0) (ix3 ⟨q.val / 16384, by omega⟩ ⟨q.val % 16384, by omega⟩ k) :=
    funext fun k => blk0 m c t r k _ _ (by show t.val * 512 + r.val = q.val / 16384 * 16384 + q.val % 16384; omega)
  have e3 : (fun k => iblk m c 3 t (ix2 0 k)) = fun k => m ((c : Thread nD τ).loc main_arg2) (ix2 0 k) := funext fun k => blk3 m c t k
  have e4 : (fun g k e => iblk m c 4 t (ix3 g k e)) = fun g k e => m ((c : Thread nD τ).loc main_arg3) (ix4 0 g k e) :=
    funext fun g => funext fun k => funext fun e => blk4 m c t g k e
  have e5 : (fun k => iblk m c 5 t (ix2 0 k)) = fun k => m ((c : Thread nD τ).loc main_arg4) (ix2 0 k) := funext fun k => blk5 m c t k
  have e6 : (fun k f => iblk m c 6 t (ix2 k f)) = fun k f => m ((c : Thread nD τ).loc main_arg5) (ix3 0 k f) :=
    funext fun k => funext fun f => blk6 m c t k f
  have e7 : (fun k f => iblk m c 7 t (ix2 k f)) = fun k f => m ((c : Thread nD τ).loc main_arg6) (ix3 0 k f) :=
    funext fun k => funext fun f => blk7 m c t k f
  have e8 : (fun f k => iblk m c 8 t (ix2 f k)) = fun f k => m ((c : Thread nD τ).loc main_arg7) (ix3 0 f k) :=
    funext fun f => funext fun k => blk8 m c t f k
  have hb : (⟨t.val / 32, by omega⟩ : Fin 2) = ⟨q.val / 16384, by omega⟩ := Fin.ext (by show t.val / 32 = q.val / 16384; omega)
  rw [e0, e3, e4, e5, e6, e7, e8, hb]
  show feed (resid _ (mixed _ _ (t.val % 32 * 512 + r.val)) _) _ _ _ _ d = feed (resid _ (mixed _ _ (q.val % 16384)) _) _ _ _ _ d
  rw [hs]

/-- The output array after the grid. -/
theorem final (c : Dev nD) : (dats m 0 c).arrAt (9 : Fin 10) cfg0.N = result m c := by
  refine (dats m 0 c).arrAt_eq_of_covers (9 : Fin 10) _ (by decide +kernel) fun t hf y => ?_
  have ht : t.val < 64 := t.isLt
  blk_simp
  rw [after0_9]
  obtain ⟨r, d, rfl⟩ : ∃ (r : Fin 512) (d : Fin 1024), y = ix2 r d := ⟨y 0, y 1, eq_ix2 y⟩
  have hr : r.val < 512 := r.isLt
  have hq : t.val * 512 + r.val < 32768 := by omega
  refine (point m c t r d ⟨t.val * 512 + r.val, hq⟩ rfl).trans (congrArg (result m c) (funext fun a => Fin.ext ?_))
  refine Eq.trans ?_ (Pipeline.Window.rect_emb_val (cfg0.win (9 : Fin 10)) t _ a).symm
  rw [index9]
  match a with
  | ⟨0, _⟩ => rfl
  | ⟨1, _⟩ => exact (skip 1024 d.val).symm

/-- The run, read: the result array at the table of results, the arguments unchanged. -/
theorem value : θ_run (defs (F := Ideal)) (onTc (τ := τ) (main (F := Ideal))) ⟨m, fun _ => 0, ρ⟩ (fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (final m c), (h c).2⟩) (Cert.PoolIdeal.Value.run_blocks (F := Ideal) m ρ)

end Cert.PoolIdeal.Body

end

end
-- ==== Proof.PoolRefValue.lean ====
/- The first layer's reference: its window sums, its counts and its projections, read at an index, are the table of results. -/
module

public import proofs.«01_k».proof.Proof.PoolSpec
public import proofs.«01_k».proof.Proof.Gen.PoolRefIdeal.Read
public import Idealize.ShloMosaic.Lib.Pipeline.Value
public import Idealize.ShloMosaic.Lib.Routing.BitFacts

@[expose] public section

noncomputable section

namespace Cert.PoolRefIdeal.Read

open Cert.PoolRefIdeal Cert.PoolRefIdeal.Gen
open Idealize.ShloMosaic Idealize.ShloMosaic.TcCoe Idealize.SL.Sem
open Idealize.ShloMosaic.ValueIdx
open Cert.Spec Cert.PoolSpec

/-! ## Window sums and counts -/

theorem foldl_add {n : ℕ} (f : Fin n → EReal) : ∀ (l : List (Fin n)) (v : EReal), l.foldl (fun r k => r + f k) v = v + (l.map f).sum
  | [], v => by simp
  | k :: l, v => by rw [List.foldl_cons, foldl_add f l, List.map_cons, List.sum_cons, add_assoc]

/-- A sum over the window of `w` tokens that ends at each token, zeros standing before the sequence, read at a token. -/
theorem window_apply (w u : ℕ) (hw : u + 1 = w) (x : FVec Ideal S2x16384x256 .f32) (init : FVec Ideal S_ .f32) (hinit : ∀ j, init j = 0)
    (h : S2x16384x256.ReduceWindows ![1, w, 1] ![1, 1, 1] ![0, u, 0] ![0, 0, 0] S2x16384x256) (hu : 0 < S_.numel)
    (H : ℕ → EReal) (b : Fin 2) (s : Fin 16384) (c : Fin 256) (hx : ∀ t : Fin 16384, x (ix3 b t c) = H t.val) :
    Host.reduceWindowAdd (F := Ideal) ![1, w, 1] ![1, 1, 1] ![0, u, 0] ![0, 0, 0] x init h hu (ix3 b s c)
      = ∑ k ∈ Finset.range w, if k ≤ s.val then H (s.val - k) else 0 := by
  have hs := s.isLt
  have hn : (⟨3, ![1, w, 1]⟩ : Shape).numel = w := by simp [Shape.numel, Fin.prod_univ_three]
  have hsym : ∀ n : Fin (⟨3, ![1, w, 1]⟩ : Shape).numel,
      (⟨3, ![1, w, 1]⟩ : Shape).rowMajor.symm n = ix3 0 ⟨n.val, lt_of_lt_of_eq n.isLt hn⟩ 0 := fun n =>
    Equiv.symm_apply_eq _ |>.2 (Fin.ext (by
      rw [Shape.rowMajor_val_three]
      show n.val = (0 * w + n.val) * 1 + 0
      omega))
  show Host.reduceWindow (· + ·) ![1, w, 1] ![1, 1, 1] ![0, u, 0] ![0, 0, 0] x (fun _ => init (Shape.Idx.first hu)) h hu (ix3 b s c) = _
  unfold Host.reduceWindow
  refine (foldl_add _ _ _).trans ?_
  rw [hinit, zero_add, ← Fin.sum_univ_def]
  refine Eq.trans (Finset.sum_congr rfl fun n _ => ?_)
    ((Finset.sum_range (f := fun k => if u - k ≤ s.val then H (s.val - (u - k)) else 0)).symm.trans
      ((congrArg (fun N => ∑ k ∈ Finset.range N, if u - k ≤ s.val then H (s.val - (u - k)) else 0) hn).trans ?_))
  · have hnlt : n.val < w := lt_of_lt_of_eq n.isLt hn
    dsimp only
    split
    · next hin =>
      have h1 := hin 1
      change u ≤ s.val * 1 + ((⟨3, ![1, w, 1]⟩ : Shape).rowMajor.symm n 1).val
        ∧ s.val * 1 + ((⟨3, ![1, w, 1]⟩ : Shape).rowMajor.symm n 1).val - u < 16384 at h1
      rw [hsym] at h1
      change u ≤ s.val * 1 + n.val ∧ s.val * 1 + n.val - u < 16384 at h1
      rw [if_pos (by omega)]
      refine (congrArg x (funext fun a => Fin.ext ?_)).trans ((hx ⟨s.val + n.val - u, by omega⟩).trans
        (congrArg H (by show s.val + n.val - u = s.val - (u - n.val); omega)))
      match a with
      | ⟨0, _⟩ =>
        show b.val * 1 + ((⟨3, ![1, w, 1]⟩ : Shape).rowMajor.symm n 0).val - 0 = b.val
        rw [hsym]
        show b.val * 1 + 0 - 0 = b.val
        omega
      | ⟨1, _⟩ =>
        show s.val * 1 + ((⟨3, ![1, w, 1]⟩ : Shape).rowMajor.symm n 1).val - u = s.val + n.val - u
        rw [hsym]
        show s.val * 1 + n.val - u = s.val + n.val - u
        omega
      | ⟨2, _⟩ =>
        show c.val * 1 + ((⟨3, ![1, w, 1]⟩ : Shape).rowMajor.symm n 2).val - 0 = c.val
        rw [hsym]
        show c.val * 1 + 0 - 0 = c.val
        omega
    · next hin =>
      rw [if_neg fun hle => hin fun a => by
        match a with
        | ⟨0, _⟩ =>
          show 0 ≤ b.val * 1 + ((⟨3, ![1, w, 1]⟩ : Shape).rowMajor.symm n 0).val
            ∧ b.val * 1 + ((⟨3, ![1, w, 1]⟩ : Shape).rowMajor.symm n 0).val - 0 < 2
          rw [hsym]
          show 0 ≤ b.val * 1 + 0 ∧ b.val * 1 + 0 - 0 < 2
          omega
        | ⟨1, _⟩ =>
          show u ≤ s.val * 1 + ((⟨3, ![1, w, 1]⟩ : Shape).rowMajor.symm n 1).val
            ∧ s.val * 1 + ((⟨3, ![1, w, 1]⟩ : Shape).rowMajor.symm n 1).val - u < 16384
          rw [hsym]
          show u ≤ s.val * 1 + n.val ∧ s.val * 1 + n.val - u < 16384
          omega
        | ⟨2, _⟩ =>
          show 0 ≤ c.val * 1 + ((⟨3, ![1, w, 1]⟩ : Shape).rowMajor.symm n 2).val
            ∧ c.val * 1 + ((⟨3, ![1, w, 1]⟩ : Shape).rowMajor.symm n 2).val - 0 < 256
          rw [hsym]
          show 0 ≤ c.val * 1 + 0 ∧ c.val * 1 + 0 - 0 < 256
          omega]
  · rw [← Finset.sum_range_reflect]
    refine Finset.sum_congr rfl fun k hk => ?_
    have := Finset.mem_range.1 hk
    rw [show w - 1 - k = u - k by omega, show u - (u - k) = k by omega]

/-- A window that starts before the sequence starts, moved to the sequence's first token; decided over the short range where it does. -/
theorem negative_word : ∀ (w : Fin 17) (s : Fin 16), s.val + 1 < w.val →
    IntOp.maxsi (IntOp.subi (BitVec.ofNat 32 (s.val + 1)) (BitVec.ofNat 32 w.val)) 0#32 = BitVec.ofNat 32 0 := by decide +kernel

/-- The count of a window's tokens, as its word. -/
theorem count_word (w : ℕ) (hw0 : 0 < w) (hw : w ≤ 16) (s : ℕ) (hs : s < 16384) :
    (IntOp.subi (IntOp.addi (BitVec.ofNat 32 s) 1#32)
      (IntOp.maxsi (IntOp.subi (IntOp.addi (BitVec.ofNat 32 s) 1#32) (BitVec.ofNat 32 w)) 0#32)).toInt = ((min (s + 1) w : ℕ) : ℤ) := by
  have h1 : IntOp.addi (BitVec.ofNat 32 s) 1#32 = BitVec.ofNat 32 (s + 1) := (BitVec.ofNat_add ..).symm
  have hi : ∀ n : ℕ, n < 2 ^ 31 → (BitVec.ofNat 32 n).toInt = (n : ℤ) := fun n hn => by
    rw [BitVec.toInt_eq_toNat_of_msb (Routing.msb_ofNat32 hn), BitVec.toNat_ofNat, Nat.mod_eq_of_lt (by omega)]
  have hsub : ∀ a b : ℕ, b ≤ a → IntOp.subi (BitVec.ofNat 32 a) (BitVec.ofNat 32 b) = BitVec.ofNat 32 (a - b) := fun a b hab => by
    show BitVec.ofNat 32 a - BitVec.ofNat 32 b = _
    rw [BitVec.sub_eq_iff_eq_add, ← BitVec.ofNat_add, Nat.sub_add_cancel hab]
  rw [h1]
  by_cases hle : w ≤ s + 1
  · rw [hsub _ _ hle]
    have hm : IntOp.maxsi (BitVec.ofNat 32 (s + 1 - w)) 0#32 = BitVec.ofNat 32 (s + 1 - w) := by
      unfold IntOp.maxsi
      rw [show (0#32 : BitVec 32) = BitVec.ofNat 32 0 from rfl]
      rw [Routing.slt_ofNat32 (by omega) (by omega)]
      by_cases h0 : s + 1 - w = 0
      · rw [h0]; rfl
      · exact if_pos (decide_eq_true (by omega))
    rw [hm, hsub _ _ (by omega), hi _ (by omega)]
    congr 1
    omega
  · have hm : IntOp.maxsi (IntOp.subi (BitVec.ofNat 32 (s + 1)) (BitVec.ofNat 32 w)) 0#32 = BitVec.ofNat 32 0 := by
      exact negative_word ⟨w, by omega⟩ ⟨s, by omega⟩ (by show s + 1 < w; omega)
    rw [hm, hsub _ _ (by omega), hi _ (by omega)]
    congr 1
    omega

variable (x0 : (⟨S2x16384x1024, .f32⟩ : BufTy).Contents (Elt Ideal)) (x1 x2 : (⟨S2x1024, .f32⟩ : BufTy).Contents (Elt Ideal))
  (x3 : (⟨S1x4x256x256, .f32⟩ : BufTy).Contents (Elt Ideal)) (x4 : (⟨S1x1024, .f32⟩ : BufTy).Contents (Elt Ideal))
  (x5 x6 : (⟨S1x1024x2816, .f32⟩ : BufTy).Contents (Elt Ideal)) (x7 : (⟨S1x2816x1024, .f32⟩ : BufTy).Contents (Elt Ideal))

/-! ## The normalized tokens -/

theorem gain1 (j : S1x1x1024.Idx) (d : Fin 1024) (hj : (j 2).val = d.val) : val_main_v12 (F := Ideal) x1 j = x1 (ix2 0 d) := by
  rw [val_main_v12_apply, val_main_v1_apply, val_main_v0_apply]
  refine congrArg x1 (funext fun a => Fin.ext ?_)
  match a with
  | ⟨0, _⟩ => rfl
  | ⟨1, _⟩ => show (j 2).val % 1024 = d.val; omega

theorem norm_apply (b : Fin 2) (s : Fin 16384) (d : Fin 1024) : val_main_v11 (F := Ideal) x0 (ix3 b s d) = norm (fun k => x0 (ix3 b s k)) d := by
  rw [val_main_v11_apply, val_main_v10_apply, val_main_v9_apply, val_main_v8_apply, val_main_v6_apply, val_main_v5_apply, val_main_v7_apply,
    val_main_v4_apply, val_main_v3_apply, val_main_cst_apply, val_main_cst_0_apply, val_main_cst_1_apply,
    show FloatOps.ofBits (F := Ideal) .f32 0x00000000#32 = 0 from Ideal.ofBits_zero_f32, zero_add]
  refine congrArg (fun u : EReal => x0 (ix3 b s d) * Ideal.rsqrt (Ideal.div u _ + _)) (Finset.sum_congr rfl fun k _ => ?_)
  rw [val_main_v2_apply]
  have e : idx_main_v3 (idx_main_v4 (idx_main_v10 (ix3 b s d))) k = ix3 b s k :=
    funext fun a => Fin.ext (by match a with | ⟨0, _⟩ => rfl | ⟨1, _⟩ => rfl | ⟨2, _⟩ => rfl)
  rw [e]
  rfl

theorem h_apply (b : Fin 2) (s : Fin 16384) (d : Fin 1024) :
    val_main_v14 (F := Ideal) x0 x1 (ix3 b s d) = hrow x0 (fun k => x1 (ix2 0 k)) b s.val d := by
  rw [val_main_v14_apply, norm_apply, val_main_v13_apply, gain1 x1 _ d rfl]
  unfold hrow
  rw [dif_pos s.isLt]
  rfl

/-- The tokens cut into groups of 256 features. -/
theorem groups_apply (b : Fin 2) (s : Fin 16384) (g : Fin 4) (c : Fin 256) :
    val_main_v17 (F := Ideal) x0 x1 (ix4 b s g c) = hrow x0 (fun k => x1 (ix2 0 k)) b s.val (feat g c) := by
  rw [val_main_v17_apply]
  refine Eq.trans (congrArg (val_main_v14 (F := Ideal) x0 x1) (funext fun a => Fin.ext ?_)) (h_apply x0 x1 b s (feat g c))
  have hs := s.isLt
  have hg := g.isLt
  have hc := c.isLt
  match a with
  | ⟨0, _⟩ => show (((b.val * 16384 + s.val) * 4 + g.val) * 256 + c.val) / 16777216 = b.val; omega
  | ⟨1, _⟩ => show (((b.val * 16384 + s.val) * 4 + g.val) * 256 + c.val) / 1024 % 16384 = s.val; omega
  | ⟨2, _⟩ => show (((b.val * 16384 + s.val) * 4 + g.val) * 256 + c.val) % 1024 = g.val * 256 + c.val; omega

/-- Index arithmetic of a group's array read in the array of groups. -/
theorem flat_idx (b : Fin 2) (s : Fin 16384) (c : Fin 256) : idx_main_v30 (ix3 b s c) = ix4 b s 0 c := by
  have hs := s.isLt
  have hc := c.isLt
  refine funext fun a => Fin.ext ?_
  match a with
  | ⟨0, _⟩ => show ((b.val * 16384 + s.val) * 256 + c.val) / 4194304 = b.val; omega
  | ⟨1, _⟩ => show ((b.val * 16384 + s.val) * 256 + c.val) / 256 % 16384 = s.val; omega
  | ⟨2, _⟩ => rfl
  | ⟨3, _⟩ => show ((b.val * 16384 + s.val) * 256 + c.val) % 256 = c.val; omega

theorem part0 (b : Fin 2) (s : Fin 16384) (c : Fin 256) :
    val_main_v30 (F := Ideal) x0 x1 (ix3 b s c) = hrow x0 (fun k => x1 (ix2 0 k)) b s.val (feat 0 c) := by
  rw [val_main_v30_apply, flat_idx, val_main_v29_apply]
  exact Eq.trans (congrArg (val_main_v17 (F := Ideal) x0 x1)
    (funext fun a => Fin.ext (by match a with | ⟨0, _⟩ => rfl | ⟨1, _⟩ => rfl | ⟨2, _⟩ => rfl | ⟨3, _⟩ => rfl))) (groups_apply x0 x1 b s 0 c)

theorem part1 (b : Fin 2) (s : Fin 16384) (c : Fin 256) :
    val_main_v47 (F := Ideal) x0 x1 (ix3 b s c) = hrow x0 (fun k => x1 (ix2 0 k)) b s.val (feat 1 c) := by
  rw [val_main_v47_apply, show idx_main_v47 (ix3 b s c) = ix4 b s 0 c from flat_idx b s c, val_main_v46_apply]
  exact Eq.trans (congrArg (val_main_v17 (F := Ideal) x0 x1)
    (funext fun a => Fin.ext (by match a with | ⟨0, _⟩ => rfl | ⟨1, _⟩ => rfl | ⟨2, _⟩ => rfl | ⟨3, _⟩ => rfl))) (groups_apply x0 x1 b s 1 c)

theorem part2 (b : Fin 2) (s : Fin 16384) (c : Fin 256) :
    val_main_v64 (F := Ideal) x0 x1 (ix3 b s c) = hrow x0 (fun k => x1 (ix2 0 k)) b s.val (feat 2 c) := by
  rw [val_main_v64_apply, show idx_main_v64 (ix3 b s c) = ix4 b s 0 c from flat_idx b s c, val_main_v63_apply]
  exact Eq.trans (congrArg (val_main_v17 (F := Ideal) x0 x1)
    (funext fun a => Fin.ext (by match a with | ⟨0, _⟩ => rfl | ⟨1, _⟩ => rfl | ⟨2, _⟩ => rfl | ⟨3, _⟩ => rfl))) (groups_apply x0 x1 b s 2 c)

theorem part3 (b : Fin 2) (s : Fin 16384) (c : Fin 256) :
    val_main_v81 (F := Ideal) x0 x1 (ix3 b s c) = hrow x0 (fun k => x1 (ix2 0 k)) b s.val (feat 3 c) := by
  rw [val_main_v81_apply, show idx_main_v81 (ix3 b s c) = ix4 b s 0 c from flat_idx b s c, val_main_v80_apply]
  exact Eq.trans (congrArg (val_main_v17 (F := Ideal) x0 x1)
    (funext fun a => Fin.ext (by match a with | ⟨0, _⟩ => rfl | ⟨1, _⟩ => rfl | ⟨2, _⟩ => rfl | ⟨3, _⟩ => rfl))) (groups_apply x0 x1 b s 3 c)

/-! ## The window means -/

/-- A word converted to a float, where the word is a count. -/
theorem count_float (v : BitVec 32) (n : ℕ) (h : v.toInt = (n : ℤ)) : FloatOps.sitofp (F := Ideal) .f32 v = ((n : ℝ) : EReal) := by
  show (((v.toInt : ℤ) : ℝ) : EReal) = _
  rw [h]
  norm_cast

theorem count0 (s : Fin 16384) (j : S16384.Idx) (hj : (j 0).val = s.val) : val_main_v28 (F := Ideal) j = (((min (s.val + 1) 2 : ℕ) : ℝ) : EReal) := by
  rw [val_main_v28_apply]
  refine count_float _ _ ?_
  rw [val_main_v27_apply, val_main_v26_apply, val_main_v25_apply, val_main_v24_apply, val_main_v23_apply, val_main_v22_apply, val_main_v21_apply,
    val_main_v20_apply, val_main_v19_apply, val_main_v18_apply, hj]
  exact count_word 2 (by omega) (by omega) s.val s.isLt

theorem count1 (s : Fin 16384) (j : S16384.Idx) (hj : (j 0).val = s.val) : val_main_v45 (F := Ideal) j = (((min (s.val + 1) 4 : ℕ) : ℝ) : EReal) := by
  rw [val_main_v45_apply]
  refine count_float _ _ ?_
  rw [val_main_v44_apply, val_main_v43_apply, val_main_v42_apply, val_main_v41_apply, val_main_v40_apply, val_main_v39_apply, val_main_v38_apply,
    val_main_v37_apply, val_main_v36_apply, val_main_v18_apply, hj]
  exact count_word 4 (by omega) (by omega) s.val s.isLt

theorem count2 (s : Fin 16384) (j : S16384.Idx) (hj : (j 0).val = s.val) : val_main_v62 (F := Ideal) j = (((min (s.val + 1) 8 : ℕ) : ℝ) : EReal) := by
  rw [val_main_v62_apply]
  refine count_float _ _ ?_
  rw [val_main_v61_apply, val_main_v60_apply, val_main_v59_apply, val_main_v58_apply, val_main_v57_apply, val_main_v56_apply, val_main_v55_apply,
    val_main_v54_apply, val_main_v53_apply, val_main_v18_apply, hj]
  exact count_word 8 (by omega) (by omega) s.val s.isLt

theorem count3 (s : Fin 16384) (j : S16384.Idx) (hj : (j 0).val = s.val) : val_main_v79 (F := Ideal) j = (((min (s.val + 1) 16 : ℕ) : ℝ) : EReal) := by
  rw [val_main_v79_apply]
  refine count_float _ _ ?_
  rw [val_main_v78_apply, val_main_v77_apply, val_main_v76_apply, val_main_v75_apply, val_main_v74_apply, val_main_v73_apply, val_main_v72_apply,
    val_main_v71_apply, val_main_v70_apply, val_main_v18_apply, hj]
  exact count_word 16 (by omega) (by omega) s.val s.isLt

/-- The window mean that a group's features take. -/
def mean (H : ℕ → Fin 1024 → EReal) (w s : ℕ) (d : Fin 1024) : EReal :=
  Ideal.div (∑ k ∈ Finset.range w, if k ≤ s then H (s - k) d else 0) (((min (s + 1) w : ℕ) : ℝ) : EReal)

theorem zero_word : FloatOps.ofBits (F := Ideal) .f32 0x00000000#32 = 0 := Ideal.ofBits_zero_f32

theorem mean0 (b : Fin 2) (s : Fin 16384) (c : Fin 256) :
    val_main_v35 (F := Ideal) x0 x1 (ix3 b s c) = mean (hrow x0 (fun k => x1 (ix2 0 k)) b) 2 s.val (feat 0 c) := by
  rw [val_main_v35_apply, val_main_v34_apply, val_main_v33_apply, count0 s _ rfl]
  exact congrArg (fun u => Ideal.div u _) (window_apply 2 1 rfl _ _ (fun j => zero_word) _ _ (fun t => hrow x0 (fun k => x1 (ix2 0 k)) b t (feat 0 c)) b s c
    fun t => part0 x0 x1 b t c)

theorem mean1 (b : Fin 2) (s : Fin 16384) (c : Fin 256) :
    val_main_v52 (F := Ideal) x0 x1 (ix3 b s c) = mean (hrow x0 (fun k => x1 (ix2 0 k)) b) 4 s.val (feat 1 c) := by
  rw [val_main_v52_apply, val_main_v51_apply, val_main_v50_apply, count1 s _ rfl]
  exact congrArg (fun u => Ideal.div u _) (window_apply 4 3 rfl _ _ (fun j => zero_word) _ _ (fun t => hrow x0 (fun k => x1 (ix2 0 k)) b t (feat 1 c)) b s c
    fun t => part1 x0 x1 b t c)

theorem mean2 (b : Fin 2) (s : Fin 16384) (c : Fin 256) :
    val_main_v69 (F := Ideal) x0 x1 (ix3 b s c) = mean (hrow x0 (fun k => x1 (ix2 0 k)) b) 8 s.val (feat 2 c) := by
  rw [val_main_v69_apply, val_main_v68_apply, val_main_v67_apply, count2 s _ rfl]
  exact congrArg (fun u => Ideal.div u _) (window_apply 8 7 rfl _ _ (fun j => zero_word) _ _ (fun t => hrow x0 (fun k => x1 (ix2 0 k)) b t (feat 2 c)) b s c
    fun t => part2 x0 x1 b t c)

theorem mean3 (b : Fin 2) (s : Fin 16384) (c : Fin 256) :
    val_main_v86 (F := Ideal) x0 x1 (ix3 b s c) = mean (hrow x0 (fun k => x1 (ix2 0 k)) b) 16 s.val (feat 3 c) := by
  rw [val_main_v86_apply, val_main_v85_apply, val_main_v84_apply, count3 s _ rfl]
  exact congrArg (fun u => Ideal.div u _) (window_apply 16 15 rfl _ _ (fun j => zero_word) _ _ (fun t => hrow x0 (fun k => x1 (ix2 0 k)) b t (feat 3 c)) b s c
    fun t => part3 x0 x1 b t c)

/-- Four arrays of one group each joined along the axis of groups, read at a group. -/
theorem join_apply (y : Fin 4 → S2x16384x1x256.Idx → EReal)
    (h : Shape.Concatenates [S2x16384x1x256, S2x16384x1x256, S2x16384x1x256, S2x16384x1x256] S2x16384x4x256 2)
    (b : Fin 2) (s : Fin 16384) (g : Fin 4) (c : Fin 256) :
    concatenate S2x16384x4x256 2 [⟨S2x16384x1x256, y 0⟩, ⟨S2x16384x1x256, y 1⟩, ⟨S2x16384x1x256, y 2⟩, ⟨S2x16384x1x256, y 3⟩] h (ix4 b s g c)
      = y g (ix4 b s 0 c) :=
  concatenate_ofFn_unit_apply (t := S2x16384x4x256) (s₁ := S2x16384x1x256) 2 y h rfl rfl (ix4 b s g c) g rfl (ix4 b s 0 c) fun a ha => by
    match a with
    | ⟨0, _⟩ => rfl
    | ⟨1, _⟩ => rfl
    | ⟨2, _⟩ => exact absurd rfl ha
    | ⟨3, _⟩ => rfl

/-- The four groups joined. -/
theorem joined_apply (b : Fin 2) (s : Fin 16384) (g : Fin 4) (c : Fin 256) :
    val_main_v91 (F := Ideal) x0 x1 (ix4 b s g c) = mean (hrow x0 (fun k => x1 (ix2 0 k)) b) (2 ^ (g.val + 1)) s.val (feat g c) := by
  have e : idx_main_v87 (ix4 b s 0 c) = ix3 b s c := funext fun a => Fin.ext (by match a with | ⟨0, _⟩ => rfl | ⟨1, _⟩ => rfl | ⟨2, _⟩ => rfl)
  unfold val_main_v91
  refine (join_apply ![val_main_v87 (F := Ideal) x0 x1, val_main_v88 (F := Ideal) x0 x1, val_main_v89 (F := Ideal) x0 x1,
    val_main_v90 (F := Ideal) x0 x1] _ b s g c).trans ?_
  match g with
  | ⟨0, _⟩ => exact (val_main_v87_apply (F := Ideal) x0 x1 _).trans ((congrArg (val_main_v35 (F := Ideal) x0 x1) e).trans (mean0 x0 x1 b s c))
  | ⟨1, _⟩ => exact (val_main_v88_apply (F := Ideal) x0 x1 _).trans ((congrArg (val_main_v52 (F := Ideal) x0 x1) e).trans (mean1 x0 x1 b s c))
  | ⟨2, _⟩ => exact (val_main_v89_apply (F := Ideal) x0 x1 _).trans ((congrArg (val_main_v69 (F := Ideal) x0 x1) e).trans (mean2 x0 x1 b s c))
  | ⟨3, _⟩ => exact (val_main_v90_apply (F := Ideal) x0 x1 _).trans ((congrArg (val_main_v86 (F := Ideal) x0 x1) e).trans (mean3 x0 x1 b s c))

/-! ## The mixture and the residual -/

theorem pooled_apply (b : Fin 2) (s : Fin 16384) (g : Fin 4) (c : Fin 256) :
    val_main_v92 (F := Ideal) x0 x1 (ix4 b s g c) = pooled (hrow x0 (fun k => x1 (ix2 0 k)) b) (2 ^ (g.val + 1)) s.val (feat g c) := by
  rw [val_main_v92_apply, joined_apply, groups_apply]
  rfl

theorem mixer_apply (g : Fin 4) (k e : Fin 256) : val_main_v15 (F := Ideal) x3 (ix3 g k e) = x3 (ix4 0 g k e) := by
  rw [val_main_v15_apply]
  refine congrArg x3 (funext fun a => Fin.ext ?_)
  have hg := g.isLt
  have hk := k.isLt
  have he := e.isLt
  match a with
  | ⟨0, _⟩ => rfl
  | ⟨1, _⟩ => show ((g.val * 256 + k.val) * 256 + e.val) / 65536 % 4 = g.val; omega
  | ⟨2, _⟩ => show ((g.val * 256 + k.val) * 256 + e.val) / 256 % 256 = k.val; omega
  | ⟨3, _⟩ => show ((g.val * 256 + k.val) * 256 + e.val) % 256 = e.val; omega

/-- The mixture over `H`, the normalized tokens of sequence `b`. -/
theorem mixed_apply (b : Fin 2) (s : Fin 16384) (d : Fin 1024) :
    val_main_v95 (F := Ideal) x0 x1 x3 (ix3 b s d)
      = mixed (hrow x0 (fun k => x1 (ix2 0 k)) b) (fun g c e => x3 (ix4 0 g c e)) s.val (grp d) (place d) := by
  have hs := s.isLt
  have hd := d.isLt
  have e95 : idx_main_v95 (ix3 b s d) = ix4 b s (grp d) (place d) := by
    refine funext fun a => Fin.ext ?_
    match a with
    | ⟨0, _⟩ => show ((b.val * 16384 + s.val) * 1024 + d.val) / 16777216 = b.val; omega
    | ⟨1, _⟩ => show ((b.val * 16384 + s.val) * 1024 + d.val) / 1024 % 16384 = s.val; omega
    | ⟨2, _⟩ => show ((b.val * 16384 + s.val) * 1024 + d.val) / 256 % 4 = d.val / 256; omega
    | ⟨3, _⟩ => show ((b.val * 16384 + s.val) * 1024 + d.val) % 256 = d.val % 256; omega
  rw [val_main_v95_apply, e95, val_main_v94_apply, val_main_v93_apply]
  unfold mixed
  refine Finset.sum_congr rfl fun k _ => ?_
  rw [mul_comm]
  refine congrArg₂ (fun u v : EReal => u * v) ?_ ?_
  · exact Eq.trans (congrArg (val_main_v92 (F := Ideal) x0 x1)
      (funext fun a => Fin.ext (by match a with | ⟨0, _⟩ => rfl | ⟨1, _⟩ => rfl | ⟨2, _⟩ => rfl | ⟨3, _⟩ => rfl))) (pooled_apply x0 x1 b s (grp d) k)
  · exact Eq.trans (congrArg (val_main_v15 (F := Ideal) x3)
      (funext fun a => Fin.ext (by match a with | ⟨0, _⟩ => rfl | ⟨1, _⟩ => rfl | ⟨2, _⟩ => rfl))) (mixer_apply x3 (grp d) k (place d))

/-- The residual after the mixture, over the arguments. -/
def res (b : Fin 2) (s : Fin 16384) : Fin 1024 → EReal :=
  resid (fun k => x0 (ix3 b s k)) (mixed (hrow x0 (fun k => x1 (ix2 0 k)) b) (fun g c e => x3 (ix4 0 g c e)) s.val) (fun k => x4 (ix2 0 k))

theorem resid_apply (b : Fin 2) (s : Fin 16384) (d : Fin 1024) : val_main_v99 (F := Ideal) x0 x1 x3 x4 (ix3 b s d) = res x0 x1 x3 x4 b s d := by
  rw [val_main_v99_apply, val_main_v98_apply, mixed_apply, val_main_v97_apply, val_main_v96_apply, val_main_v16_apply]
  refine congrArg (fun u : EReal => x0 (ix3 b s d) + mixed _ _ _ _ _ * u) (congrArg x4 (funext fun a => Fin.ext ?_))
  have hd := d.isLt
  match a with
  | ⟨0, _⟩ => rfl
  | ⟨1, _⟩ => show d.val % 1024 = d.val; omega

/-! ## The feed-forward -/

theorem gain2 (j : S1x1x1024.Idx) (d : Fin 1024) (hj : (j 2).val = d.val) : val_main_v112 (F := Ideal) x2 j = x2 (ix2 0 d) := by
  rw [val_main_v112_apply, val_main_v101_apply, val_main_v100_apply]
  refine congrArg x2 (funext fun a => Fin.ext ?_)
  match a with
  | ⟨0, _⟩ => rfl
  | ⟨1, _⟩ => show (j 2).val % 1024 = d.val; omega

theorem norm2_apply (b : Fin 2) (s : Fin 16384) (d : Fin 1024) :
    val_main_v114 (F := Ideal) x0 x1 x2 x3 x4 (ix3 b s d) = norm (res x0 x1 x3 x4 b s) d * x2 (ix2 0 d) := by
  rw [val_main_v114_apply, val_main_v113_apply, gain2 x2 _ d rfl]
  refine congrArg (fun u : EReal => u * x2 (ix2 0 d)) ?_
  rw [val_main_v111_apply, val_main_v110_apply, val_main_v109_apply, val_main_v108_apply, val_main_v106_apply, val_main_v105_apply, val_main_v107_apply,
    val_main_v104_apply, val_main_v103_apply, val_main_cst_21_apply, val_main_cst_22_apply, val_main_cst_23_apply, zero_word, zero_add, resid_apply]
  refine congrArg (fun u : EReal => res x0 x1 x3 x4 b s d * Ideal.rsqrt (Ideal.div u _ + _)) (Finset.sum_congr rfl fun k _ => ?_)
  rw [val_main_v102_apply]
  have e : idx_main_v103 (idx_main_v104 (idx_main_v110 (ix3 b s d))) k = ix3 b s k :=
    funext fun a => Fin.ext (by match a with | ⟨0, _⟩ => rfl | ⟨1, _⟩ => rfl | ⟨2, _⟩ => rfl)
  rw [e, resid_apply]
  rfl

theorem weight_apply (k : Fin 1024) (f : Fin 2816) : val_main_v115 (F := Ideal) x5 (ix2 k f) = x5 (ix3 0 k f) := by
  rw [val_main_v115_apply]
  refine congrArg x5 (funext fun a => Fin.ext ?_)
  have hk := k.isLt
  have hf := f.isLt
  match a with
  | ⟨0, _⟩ => rfl
  | ⟨1, _⟩ => show (k.val * 2816 + f.val) / 2816 % 1024 = k.val; omega
  | ⟨2, _⟩ => show (k.val * 2816 + f.val) % 2816 = f.val; omega

theorem down_apply (f : Fin 2816) (k : Fin 1024) : val_main_v117 (F := Ideal) x7 (ix2 f k) = x7 (ix3 0 f k) := by
  rw [val_main_v117_apply]
  refine congrArg x7 (funext fun a => Fin.ext ?_)
  have hk := k.isLt
  have hf := f.isLt
  match a with
  | ⟨0, _⟩ => rfl
  | ⟨1, _⟩ => show (f.val * 1024 + k.val) / 1024 % 2816 = f.val; omega
  | ⟨2, _⟩ => show (f.val * 1024 + k.val) % 1024 = k.val; omega

theorem gate_apply (b : Fin 2) (s : Fin 16384) (f : Fin 2816) :
    val_main_v118 (F := Ideal) x0 x1 x2 x3 x4 x5 (ix3 b s f) = ∑ k : Fin 1024, norm (res x0 x1 x3 x4 b s) k * x2 (ix2 0 k) * x5 (ix3 0 k f) := by
  rw [val_main_v118_apply]
  refine Finset.sum_congr rfl fun k _ => congrArg₂ (fun u v : EReal => u * v) ?_ ?_
  · exact Eq.trans (congrArg (val_main_v114 (F := Ideal) x0 x1 x2 x3 x4)
      (funext fun a => Fin.ext (by match a with | ⟨0, _⟩ => rfl | ⟨1, _⟩ => rfl | ⟨2, _⟩ => rfl))) (norm2_apply x0 x1 x2 x3 x4 b s k)
  · exact Eq.trans (congrArg (val_main_v115 (F := Ideal) x5)
      (funext fun a => Fin.ext (by match a with | ⟨0, _⟩ => rfl | ⟨1, _⟩ => rfl))) (weight_apply x5 k f)

theorem up_apply (b : Fin 2) (s : Fin 16384) (f : Fin 2816) :
    val_main_v120 (F := Ideal) x0 x1 x2 x3 x4 x6 (ix3 b s f) = ∑ k : Fin 1024, norm (res x0 x1 x3 x4 b s) k * x2 (ix2 0 k) * x6 (ix3 0 k f) :=
  gate_apply x0 x1 x2 x3 x4 x6 b s f

theorem one_word : Ideal.ofBits .f32 0x3F800000#32 = 1 := IdealRules.sign_bit.ideal_onePat .f32

theorem hidden_apply (b : Fin 2) (s : Fin 16384) (f : Fin 2816) :
    val_main_v121 (F := Ideal) x0 x1 x2 x3 x4 x5 x6 (ix3 b s f)
      = swi (∑ k : Fin 1024, norm (res x0 x1 x3 x4 b s) k * x2 (ix2 0 k) * x5 (ix3 0 k f))
          (∑ k : Fin 1024, norm (res x0 x1 x3 x4 b s) k * x2 (ix2 0 k) * x6 (ix3 0 k f)) := by
  rw [val_main_v121_apply, val_main_v119_apply, up_apply, val_main_call0_v5_apply, val_main_call0_v3_apply, val_main_call0_v1_apply,
    val_main_call0_v0_apply, val_main_call0_v4_apply, val_main_call0_v2_apply, val_main_call0_cst_apply, val_main_call0_cst_0_apply, gate_apply]
  show _ * Ideal.div (Ideal.ofBits .f32 0x3F800000#32) (Ideal.ofBits .f32 0x3F800000#32 + Ideal.exp (-_)) * _ = _
  rw [one_word]
  rfl

theorem layer_apply (b : Fin 2) (s : Fin 16384) (d : Fin 1024) :
    val_main_v123 (F := Ideal) x0 x1 x2 x3 x4 x5 x6 x7 (ix3 b s d) = layer x0 x1 x2 x3 x4 x5 x6 x7 b s d := by
  rw [val_main_v123_apply, resid_apply, val_main_v122_apply]
  unfold layer feed
  refine congrArg (fun u : EReal => res x0 x1 x3 x4 b s d + u) (Finset.sum_congr rfl fun f _ => congrArg₂ (fun u v : EReal => u * v) ?_ ?_)
  · exact Eq.trans (congrArg (val_main_v121 (F := Ideal) x0 x1 x2 x3 x4 x5 x6)
      (funext fun a => Fin.ext (by match a with | ⟨0, _⟩ => rfl | ⟨1, _⟩ => rfl | ⟨2, _⟩ => rfl))) (hidden_apply x0 x1 x2 x3 x4 x5 x6 b s f)
  · exact Eq.trans (congrArg (val_main_v117 (F := Ideal) x7)
      (funext fun a => Fin.ext (by match a with | ⟨0, _⟩ => rfl | ⟨1, _⟩ => rfl))) (down_apply x7 f d)

/-- The reference's result is the table of results. -/
theorem value : val_main_v124 (F := Ideal) x0 x1 x2 x3 x4 x5 x6 x7 = table x0 x1 x2 x3 x4 x5 x6 x7 := by
  funext i
  rw [val_main_v124_apply]
  unfold table
  refine Eq.trans (congrArg (val_main_v123 (F := Ideal) x0 x1 x2 x3 x4 x5 x6 x7) (funext fun a => Fin.ext ?_)) (layer_apply x0 x1 x2 x3 x4 x5 x6 x7 _ _ _)
  have h0 : (i 0).val < 32768 := (i 0).isLt
  have h1 : (i 1).val < 1024 := (i 1).isLt
  match a with
  | ⟨0, _⟩ => show ((i 0).val * 1024 + (i 1).val) / 16777216 = (i 0).val / 16384; omega
  | ⟨1, _⟩ => show ((i 0).val * 1024 + (i 1).val) / 1024 % 16384 = (i 0).val % 16384; omega
  | ⟨2, _⟩ => show ((i 0).val * 1024 + (i 1).val) % 1024 = (i 1).val; omega

end Cert.PoolRefIdeal.Read

end

end
-- ==== Proof.PoolClaims.lean ====
/- The claims about the reference of the first layer, and the value claim that joins it to the kernel. -/
module

public import proofs.«01_k».proof.Defs
public import proofs.«01_k».proof.Proof.PoolIdealValue
public import proofs.«01_k».proof.Proof.PoolRefValue
public import proofs.«01_k».proof.Proof.Gen.PoolRefIdeal.Run
public import Idealize.ShloMosaic.Lib.Quiescent

@[expose] public section

noncomputable section

namespace Cert.PoolRefIdeal.Read

open Cert.PoolRefIdeal Cert.PoolRefIdeal.Gen
open Idealize.ShloMosaic Idealize.ShloMosaic.TcCoe Idealize.SL.Sem

/-- The reference's frame: it holds no semaphore, so the counters stay at zero. -/
theorem quiescent : Cert.quiescent_PoolRefIdeal (hPoolRefIdeal := Cert.PoolRefIdeal.Gen.facts) := fun m ρ _ =>
  (θ_run defs _ _).mono (fun r h => ⟨fun c => (h c).2, sem_eq_zero_of_no_sems (by decide) r.2⟩) (Cert.PoolRefIdeal.Value.run (F := Ideal) m ρ)

/-- From equal arguments the kernel and the reference end at the same table of results. -/
theorem algebraic : Cert.algebraic_PoolIdeal_PoolRefIdeal (hPoolIdeal := Cert.PoolIdeal.Gen.facts) (hPoolRefIdeal := Cert.PoolRefIdeal.Gen.facts) :=
  fun m ρ m' ρ' _ hargs => by
  refine ⟨Cert.PoolIdeal.Body.result m, Cert.PoolIdeal.Body.value m ρ, ?_⟩
  refine (θ_run defs _ _).mono (fun r hr c => ⟨?_, (hr c).2⟩) (Cert.PoolRefIdeal.Value.run (F := Ideal) m' ρ')
  obtain ⟨a0, a1, a2, a3, a4, a5, a6, a7⟩ := hargs c
  have hv := value (m' ((c.tc : Thread nD τ).loc main_arg0)) (m' ((c.tc : Thread nD τ).loc main_arg1))
    (m' ((c.tc : Thread nD τ).loc main_arg2)) (m' ((c.tc : Thread nD τ).loc main_arg3))
    (m' ((c.tc : Thread nD τ).loc main_arg4)) (m' ((c.tc : Thread nD τ).loc main_arg5))
    (m' ((c.tc : Thread nD τ).loc main_arg6)) (m' ((c.tc : Thread nD τ).loc main_arg7))
  refine ((hr c).1.trans (val_main_v124_eq (F := Ideal) _ _)).trans (hv.trans ?_)
  rw [a0, a1, a2, a3, a4, a5, a6, a7]
  rfl

end Cert.PoolRefIdeal.Read

end

end
-- ==== Proof.AttnIdealBody.lean ====
/- The body of the attention at one grid point: what its loads, its loop over pairs of key chunks and its stores leave, as a
   function of the blocks that it reads. -/
module

public import proofs.«01_k».proof.Proof.Gen.AttnIdeal.Frame
public import proofs.«01_k».proof.Proof.Gen.AttnIdeal.Skeleton
public import Idealize.ShloMosaic.Lib.Exec
public import Idealize.ShloMosaic.Lib.VecWindow
public import Idealize.ShloMosaic.Lib.LoopRemainder
public import Idealize.ShloMosaic.Lib.Pipeline.ReadBack
public import Idealize.ShloMosaic.Lib.Tactic.Stretches

@[expose] public section

set_option maxRecDepth 8192
set_option maxHeartbeats 4000000

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

variable {F : FTy → Type} [FloatOps F] [Named F]

local notation "𝕄" => MT nD τ sig Unit (Elt F) ℕ (UR sig nD τ) ℕ

section Reads

variable {sig' : RefSig} {κ : Kind} {sp : Space} {s : Shape} {e : EltTy} {Val : EltTy → Type}

/-- A load through the last store's own rectangle reads what that store wrote. -/
theorem readAt_hit (v : View sig' κ sp s e) (f : v.ty.Contents Val) (r : Rect s) (w : r.shape.Idx → Val e) (L : List (View.Piece Val s e)) :
    v.readAt Val r.toLoadRect (v.writes Val f (⟨r, w⟩ :: L)) = w :=
  funext fun x => View.read_writes_cons_emb v f r w L x

/-- A load away from the last store's rectangle reads the earlier stores. -/
theorem readAt_skip (v : View sig' κ sp s e) (f : v.ty.Contents Val) (r : Rect s) (w : r.shape.Idx → Val e) (L : List (View.Piece Val s e)) (B : LoadRect s)
    (h : LoadRect.disj r B = true) : v.readAt Val B (v.writes Val f (⟨r, w⟩ :: L)) = v.readAt Val B (v.writes Val f L) :=
  funext fun j => by
    show v.read Val (v.writes Val f (⟨r, w⟩ :: L)) (B.idx j) = _
    rw [View.writes_cons, View.read_slice_write_of_not_mem r _ _ _ (by rw [Rect.map_emb_univ]; exact LoadRect.idx_not_mem_of_disj h j)]
    rfl

end Reads

/-- Four blocks side by side are equal when the blocks are. -/
theorem concat4_congr {w : FTy} {a b c d a' b' c' d' : FVec F S1024x128 w} (ha : a = a') (hb : b = b') (hc : c = c') (hd : d = d') (h h') :
    concatenate S1024x512 1 [⟨S1024x128, a⟩, ⟨S1024x128, b⟩, ⟨S1024x128, c⟩, ⟨S1024x128, d⟩] h
      = concatenate S1024x512 1 [⟨S1024x128, a'⟩, ⟨S1024x128, b'⟩, ⟨S1024x128, c'⟩, ⟨S1024x128, d'⟩] h' := by
  subst ha hb hc hd; rfl

/-- What one head carries from chunk to chunk: the next chunk's scores, the last chunk's weights and its
    correction, the running maximum, and the sum so far. -/
structure Hd (F : FTy → Type) where
  s : Vec F S1x1x1024x512 .f32
  p : Vec F S1x1x1024x512 .bf16
  c : Vec F S1x1x1024x128 .f32
  m : Vec F S1x1024x128 .f32
  a : Vec F S1x1024x128 .f32

theorem Hd.ext' {x y : Hd F} (hs : x.s = y.s) (hp : x.p = y.p) (hc : x.c = y.c) (hm : x.m = y.m) (ha : x.a = y.a) : x = y := by
  cases x; cases y; cases hs; cases hp; cases hc; cases hm; cases ha; rfl

/-- One chunk of one head: the queries against the next chunk's keys, the last weights against their values,
    and the present scores' maximum, weights and correction. -/
def Hd.step (q : Vec F S1x1x1024x128 .bf16) (kn vl : Vec F S1x1x512x128 .bf16) (x : Hd F) : Hd F where
  s := k0_pay2 kn q
  p := k0_pay15 x.s x.m
  c := k0_pay16 (k0_pay13 x.s x.m)
  m := k0_pay14 x.s x.m
  a := k0_pay5 (k0_pay3 x.a x.c) (k0_pay4 x.p) vl

/-- Head 0 of the pair as the five buffers hold it. -/
def hd0 (arg7 : Memref sig .tc .vmem S2x2x1024x512 .f32) (arg8 : Memref sig .tc .vmem S2x2x1024x512 .bf16) (arg9 : Memref sig .tc .vmem S2x2x1024x128 .f32) (arg10 : Memref sig .tc .vmem S2x1024x128 .f32) (arg11 : Memref sig .tc .vmem S2x1024x128 .f32) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) : Hd F where
  s := View.readAt (Elt F) arg7.view (Rect.unit (s := S2x2x1024x512) ![0, 0, 0, 0] S1x1x1024x512.size inb_S2x2x1024x512_S1x1x1024x512_0_0_0_0).toLoadRect f_arg7
  p := View.readAt (Elt F) arg8.view (Rect.unit (s := S2x2x1024x512) ![0, 1, 0, 0] S1x1x1024x512.size inb_S2x2x1024x512_S1x1x1024x512_0_1_0_0).toLoadRect f_arg8
  c := View.readAt (Elt F) arg9.view (Rect.unit (s := S2x2x1024x128) ![0, 1, 0, 0] S1x1x1024x128.size inb_S2x2x1024x128_S1x1x1024x128_0_1_0_0).toLoadRect f_arg9
  m := View.readAt (Elt F) arg10.view (Rect.unit (s := S2x1024x128) ![0, 0, 0] S1x1024x128.size inb_S2x1024x128_S1x1024x128_0_0_0).toLoadRect f_arg10
  a := View.readAt (Elt F) arg11.view (Rect.unit (s := S2x1024x128) ![0, 0, 0] S1x1024x128.size inb_S2x1024x128_S1x1024x128_0_0_0).toLoadRect f_arg11

/-- Head 1 of the pair as the five buffers hold it. -/
def hd1 (arg7 : Memref sig .tc .vmem S2x2x1024x512 .f32) (arg8 : Memref sig .tc .vmem S2x2x1024x512 .bf16) (arg9 : Memref sig .tc .vmem S2x2x1024x128 .f32) (arg10 : Memref sig .tc .vmem S2x1024x128 .f32) (arg11 : Memref sig .tc .vmem S2x1024x128 .f32) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) : Hd F where
  s := View.readAt (Elt F) arg7.view (Rect.unit (s := S2x2x1024x512) ![1, 0, 0, 0] S1x1x1024x512.size inb_S2x2x1024x512_S1x1x1024x512_1_0_0_0).toLoadRect f_arg7
  p := View.readAt (Elt F) arg8.view (Rect.unit (s := S2x2x1024x512) ![1, 1, 0, 0] S1x1x1024x512.size inb_S2x2x1024x512_S1x1x1024x512_1_1_0_0).toLoadRect f_arg8
  c := View.readAt (Elt F) arg9.view (Rect.unit (s := S2x2x1024x128) ![1, 1, 0, 0] S1x1x1024x128.size inb_S2x2x1024x128_S1x1x1024x128_1_1_0_0).toLoadRect f_arg9
  m := View.readAt (Elt F) arg10.view (Rect.unit (s := S2x1024x128) ![1, 0, 0] S1x1024x128.size inb_S2x1024x128_S1x1024x128_1_0_0).toLoadRect f_arg10
  a := View.readAt (Elt F) arg11.view (Rect.unit (s := S2x1024x128) ![1, 0, 0] S1x1024x128.size inb_S2x1024x128_S1x1024x128_1_0_0).toLoadRect f_arg11

/-- The rows of 512 keys (or values) of one head that a load at the given offsets reads. -/
abbrev ldKV (arg : Memref sig .tc .vmem S1x2x16384x128 .bf16) (X : BufTy.Contents (Elt F) arg.view.ty) (off : Fin 4 → ℕ)
    (inb : ∀ a, off a + S1x1x512x128.size a ≤ S1x2x16384x128.size a) : Vec F S1x1x512x128 .bf16 :=
  View.readAt (Elt F) arg.view (Rect.unit (s := S1x2x16384x128) off S1x1x512x128.size inb).toLoadRect X

abbrev Trip (c : Dev nD) (arg3 : Memref sig .tc .vmem S1x2x1024x128 .bf16) (arg4 : Memref sig .tc .vmem S1x2x16384x128 .bf16) (arg5 : Memref sig .tc .vmem S1x2x16384x128 .bf16) (arg7 : Memref sig .tc .vmem S2x2x1024x512 .f32) (arg8 : Memref sig .tc .vmem S2x2x1024x512 .bf16) (arg9 : Memref sig .tc .vmem S2x2x1024x128 .f32) (arg10 : Memref sig .tc .vmem S2x1024x128 .f32) (arg11 : Memref sig .tc .vmem S2x1024x128 .f32) (X_arg3 : BufTy.Contents (Elt F) arg3.view.ty) (X_arg4 : BufTy.Contents (Elt F) arg4.view.ty) (X_arg5 : BufTy.Contents (Elt F) arg5.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) : sProp 𝕄 :=
  iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg7.view.loc (c : Thread nD τ) ↦[arg7.view.set]{fullShare} f_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11))

/-- One trip of the loop: two chunks of each head. -/
theorem trip (𝒱 : Variants) (c : Dev nD) (bd : Option 𝒱.V) (i : grid0.Coords) (arg3 : Memref sig .tc .vmem S1x2x1024x128 .bf16) (harg3 : arg3.IsWhole) (arg4 : Memref sig .tc .vmem S1x2x16384x128 .bf16) (harg4 : arg4.IsWhole) (arg5 : Memref sig .tc .vmem S1x2x16384x128 .bf16) (harg5 : arg5.IsWhole) (arg6 : Memref sig .tc .vmem S1x1024x128 .bf16) (harg6 : arg6.IsWhole) (arg7 : Memref sig .tc .vmem S2x2x1024x512 .f32) (harg7 : arg7.IsWhole) (arg8 : Memref sig .tc .vmem S2x2x1024x512 .bf16) (harg8 : arg8.IsWhole) (arg9 : Memref sig .tc .vmem S2x2x1024x128 .f32) (harg9 : arg9.IsWhole) (arg10 : Memref sig .tc .vmem S2x1024x128 .f32) (harg10 : arg10.IsWhole) (arg11 : Memref sig .tc .vmem S2x1024x128 .f32) (harg11 : arg11.IsWhole) (v0 : BitVec 32) (X_arg3 : BufTy.Contents (Elt F) arg3.view.ty) (X_arg4 : BufTy.Contents (Elt F) arg4.view.ty) (X_arg5 : BufTy.Contents (Elt F) arg5.view.ty) (k : Fin (k0_t1_loop i).trips) (E : Set ℕ) (acc : BitVec 32) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) :
      Trip (F := F) c arg3 arg4 arg5 arg7 arg8 arg9 arg10 arg11 X_arg3 X_arg4 X_arg5 f_arg7 f_arg8 f_arg9 f_arg10 f_arg11
      ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 v0 k acc)
          (fun _ => iprop(∃ g7 g8 g9 g10 g11, Trip (F := F) c arg3 arg4 arg5 arg7 arg8 arg9 arg10 arg11 X_arg3 X_arg4 X_arg5 g7 g8 g9 g10 g11 ∗
            ⌜hd0 arg7 arg8 arg9 arg10 arg11  g7 g8 g9 g10 g11 = Hd.step (View.readAt (Elt F) arg3.view (Rect.unit (s := S1x2x1024x128) ![0, 0, 0, 0] S1x1x1024x128.size inb_S1x2x1024x128_S1x1x1024x128_0_0_0_0).toLoadRect X_arg3) (ldKV arg4 X_arg4 (k0_off5 i k) (k0_off5_inb i k)) (ldKV arg5 X_arg5 (k0_off6 i k) (k0_off6_inb i k)) (Hd.step (View.readAt (Elt F) arg3.view (Rect.unit (s := S1x2x1024x128) ![0, 0, 0, 0] S1x1x1024x128.size inb_S1x2x1024x128_S1x1x1024x128_0_0_0_0).toLoadRect X_arg3) (ldKV arg4 X_arg4 (k0_off1 i k) (k0_off1_inb i k)) (ldKV arg5 X_arg5 (k0_off2 i k) (k0_off2_inb i k)) (hd0 arg7 arg8 arg9 arg10 arg11  f_arg7 f_arg8 f_arg9 f_arg10 f_arg11))
              ∧ hd1 arg7 arg8 arg9 arg10 arg11  g7 g8 g9 g10 g11 = Hd.step (View.readAt (Elt F) arg3.view (Rect.unit (s := S1x2x1024x128) ![0, 1, 0, 0] S1x1x1024x128.size inb_S1x2x1024x128_S1x1x1024x128_0_1_0_0).toLoadRect X_arg3) (ldKV arg4 X_arg4 (k0_off7 i k) (k0_off7_inb i k)) (ldKV arg5 X_arg5 (k0_off8 i k) (k0_off8_inb i k)) (Hd.step (View.readAt (Elt F) arg3.view (Rect.unit (s := S1x2x1024x128) ![0, 1, 0, 0] S1x1x1024x128.size inb_S1x2x1024x128_S1x1x1024x128_0_1_0_0).toLoadRect X_arg3) (ldKV arg4 X_arg4 (k0_off3 i k) (k0_off3_inb i k)) (ldKV arg5 X_arg5 (k0_off4 i k) (k0_off4_inb i k)) (hd1 arg7 arg8 arg9 arg10 arg11  f_arg7 f_arg8 f_arg9 f_arg10 f_arg11))⌝)) := by
    unfold k0_t1_body
    iintro ⟨HR_arg3, HR_arg4, HR_arg5, HW_arg7, HW_arg8, HW_arg9, HW_arg10, HW_arg11⟩
    sl_exec
    sl_step
    iexists _, _, _, _, _
    isplitl [HR_arg3 HR_arg4 HR_arg5 HW_arg7 HW_arg8 HW_arg9 HW_arg10 HW_arg11]
    · isplitl [HR_arg3]; · iexact HR_arg3
      isplitl [HR_arg4]; · iexact HR_arg4
      isplitl [HR_arg5]; · iexact HR_arg5
      isplitl [HW_arg7]; · iexact HW_arg7
      isplitl [HW_arg8]; · iexact HW_arg8
      isplitl [HW_arg9]; · iexact HW_arg9
      isplitl [HW_arg10]; · iexact HW_arg10
      iexact HW_arg11
    ipureintro
    sl_open_run
    refine ⟨Hd.ext' ?_ ?_ ?_ ?_ ?_, Hd.ext' ?_ ?_ ?_ ?_ ?_⟩
    all_goals
      dsimp only [hd0, hd1, Hd.step]
      simp (disch := decide) only [↓ View.readCov_skip, ↓ View.readCov_cons_toLoadRect, ↓ readAt_skip, ↓ readAt_hit, View.writes_nil]
    rotate_left
    · refine congrArg (fun x => shapeCast S1x1x1024x512 (truncf .bf16 x _) _) (concat4_congr ?_ ?_ ?_ ?_ _ _)
      all_goals
        simp (disch := decide) only [↓ View.readCov_skip, ↓ View.readCov_cons_toLoadRect]
        rfl
    all_goals rfl

/-- A step for each trip, one after the other. -/
def iter {α : Type} {n : ℕ} (f : Fin n → α → α) (x : α) : ℕ → α
  | 0 => x
  | k + 1 => if h : k < n then f ⟨k, h⟩ (iter f x k) else iter f x k

theorem iter_succ {α : Type} {n : ℕ} (f : Fin n → α → α) (x : α) (k : Fin n) : iter f x (k.val + 1) = f k (iter f x k.val) := by
  show (if h : k.val < n then f ⟨k.val, h⟩ (iter f x k.val) else iter f x k.val) = _
  rw [dif_pos k.isLt]

section Run

variable (i : grid0.Coords) (arg3 : Memref sig .tc .vmem S1x2x1024x128 .bf16) (arg4 arg5 : Memref sig .tc .vmem S1x2x16384x128 .bf16)
  (X_arg3 : BufTy.Contents (Elt F) arg3.view.ty) (X_arg4 : BufTy.Contents (Elt F) arg4.view.ty) (X_arg5 : BufTy.Contents (Elt F) arg5.view.ty)

/-- Head 0's part of trip `k`. -/
def trip0 (k : Fin (k0_t1_loop i).trips) (x : Hd F) : Hd F :=
  Hd.step (View.readAt (Elt F) arg3.view (Rect.unit (s := S1x2x1024x128) ![0, 0, 0, 0] S1x1x1024x128.size inb_S1x2x1024x128_S1x1x1024x128_0_0_0_0).toLoadRect X_arg3) (ldKV arg4 X_arg4 (k0_off5 i k) (k0_off5_inb i k)) (ldKV arg5 X_arg5 (k0_off6 i k) (k0_off6_inb i k)) (Hd.step (View.readAt (Elt F) arg3.view (Rect.unit (s := S1x2x1024x128) ![0, 0, 0, 0] S1x1x1024x128.size inb_S1x2x1024x128_S1x1x1024x128_0_0_0_0).toLoadRect X_arg3) (ldKV arg4 X_arg4 (k0_off1 i k) (k0_off1_inb i k)) (ldKV arg5 X_arg5 (k0_off2 i k) (k0_off2_inb i k)) x)

/-- Head 1's part of trip `k`. -/
def trip1 (k : Fin (k0_t1_loop i).trips) (x : Hd F) : Hd F :=
  Hd.step (View.readAt (Elt F) arg3.view (Rect.unit (s := S1x2x1024x128) ![0, 1, 0, 0] S1x1x1024x128.size inb_S1x2x1024x128_S1x1x1024x128_0_1_0_0).toLoadRect X_arg3) (ldKV arg4 X_arg4 (k0_off7 i k) (k0_off7_inb i k)) (ldKV arg5 X_arg5 (k0_off8 i k) (k0_off8_inb i k)) (Hd.step (View.readAt (Elt F) arg3.view (Rect.unit (s := S1x2x1024x128) ![0, 1, 0, 0] S1x1x1024x128.size inb_S1x2x1024x128_S1x1x1024x128_0_1_0_0).toLoadRect X_arg3) (ldKV arg4 X_arg4 (k0_off3 i k) (k0_off3_inb i k)) (ldKV arg5 X_arg5 (k0_off4 i k) (k0_off4_inb i k)) x)

/-- What a head starts from: the first chunk's scores, nothing summed. -/
def Hd.start (q : Vec F S1x1x1024x128 .bf16) (k0 : Vec F S1x1x512x128 .bf16) : Hd F where
  s := k0_pay2 k0 q
  p := k0_pay117
  c := k0_pay118
  m := k0_pay119
  a := k0_pay121 k0_pay120

/-- A head's sum after the two chunks on the diagonal. -/
def Hd.fin (qlow vl v0 k1 v1 : Vec F S1x1x512x128 .bf16) (x : Hd F) : FVec F S1024x128 .f32 :=
  k0_pay156 (k0_pay144 (k0_pay135 (k0_pay134 x.a x.c) x.p vl) (k0_pay136 x.m) (k0_pay142 k0_pay133 x.m x.s) (k0_pay143 k0_pay133 x.m x.s) v0)
    (k0_pay146 (k0_pay142 k0_pay133 x.m x.s)) (k0_pay151 k0_pay133 (k0_pay142 k0_pay133 x.m x.s) k1 qlow)
    (k0_pay152 k0_pay133 (k0_pay142 k0_pay133 x.m x.s) k1 qlow) (k0_pay153 k0_pay133 (k0_pay142 k0_pay133 x.m x.s) k1 qlow)
    (k0_pay154 k0_pay133 (k0_pay142 k0_pay133 x.m x.s) k1 qlow) (k0_pay155 k0_pay133 (k0_pay142 k0_pay133 x.m x.s) k1 qlow) v1

/-- Head 0 after the loop, and its sum after the diagonal. -/
def end0 : Hd F := iter (trip0 i arg3 arg4 arg5 X_arg3 X_arg4 X_arg5) (Hd.start (View.readAt (Elt F) arg3.view (Rect.unit (s := S1x2x1024x128) ![0, 0, 0, 0] S1x1x1024x128.size inb_S1x2x1024x128_S1x1x1024x128_0_0_0_0).toLoadRect X_arg3) (ldKV arg4 X_arg4 ![0, 0, 0, 0] inb_S1x2x16384x128_S1x1x512x128_0_0_0_0)) (k0_t1_loop i).trips
def fin0 : FVec F S1024x128 .f32 :=
  Hd.fin (View.readAt (Elt F) arg3.view (Rect.unit (s := S1x2x1024x128) ![0, 0, 512, 0] S1x1x512x128.size inb_S1x2x1024x128_S1x1x512x128_0_0_512_0).toLoadRect X_arg3) (ldKV arg5 X_arg5 (k0_off17 i) (k0_off17_inb i)) (ldKV arg5 X_arg5 (k0_off18 i 0#32) (k0_off18_inb i 0))
    (ldKV arg4 X_arg4 (k0_off18 i 1#32) (k0_off18_inb i 1)) (ldKV arg5 X_arg5 (k0_off18 i 1#32) (k0_off18_inb i 1)) (end0 i arg3 arg4 arg5 X_arg3 X_arg4 X_arg5)

/-- Head 1 after the loop, and its sum after the diagonal. -/
def end1 : Hd F := iter (trip1 i arg3 arg4 arg5 X_arg3 X_arg4 X_arg5) (Hd.start (View.readAt (Elt F) arg3.view (Rect.unit (s := S1x2x1024x128) ![0, 1, 0, 0] S1x1x1024x128.size inb_S1x2x1024x128_S1x1x1024x128_0_1_0_0).toLoadRect X_arg3) (ldKV arg4 X_arg4 ![0, 1, 0, 0] inb_S1x2x16384x128_S1x1x512x128_0_1_0_0)) (k0_t1_loop i).trips
def fin1 : FVec F S1024x128 .f32 :=
  Hd.fin (View.readAt (Elt F) arg3.view (Rect.unit (s := S1x2x1024x128) ![0, 1, 512, 0] S1x1x512x128.size inb_S1x2x1024x128_S1x1x512x128_0_1_512_0).toLoadRect X_arg3) (ldKV arg5 X_arg5 (k0_off19 i) (k0_off19_inb i)) (ldKV arg5 X_arg5 (k0_off20 i 0#32) (k0_off20_inb i 0))
    (ldKV arg4 X_arg4 (k0_off20 i 1#32) (k0_off20_inb i 1)) (ldKV arg5 X_arg5 (k0_off20 i 1#32) (k0_off20_inb i 1)) (end1 i arg3 arg4 arg5 X_arg3 X_arg4 X_arg5)

/-- The block the kernel stores. -/
def outF : FVec F S1x1024x128 .bf16 :=
  k0_pay1 (fin0 i arg3 arg4 arg5 X_arg3 X_arg4 X_arg5) (fin1 i arg3 arg4 arg5 X_arg3 X_arg4 X_arg5) (k0_pay167 (fin0 i arg3 arg4 arg5 X_arg3 X_arg4 X_arg5))

end Run

/-- The loop's invariant: each head is its trips so far from what it was at the start. -/
abbrev LoopI (c : Dev nD) (i : grid0.Coords) (arg3 : Memref sig .tc .vmem S1x2x1024x128 .bf16) (arg4 arg5 : Memref sig .tc .vmem S1x2x16384x128 .bf16) (arg7 : Memref sig .tc .vmem S2x2x1024x512 .f32) (arg8 : Memref sig .tc .vmem S2x2x1024x512 .bf16) (arg9 : Memref sig .tc .vmem S2x2x1024x128 .f32) (arg10 : Memref sig .tc .vmem S2x1024x128 .f32) (arg11 : Memref sig .tc .vmem S2x1024x128 .f32)
    (X_arg3 : BufTy.Contents (Elt F) arg3.view.ty) (X_arg4 : BufTy.Contents (Elt F) arg4.view.ty) (X_arg5 : BufTy.Contents (Elt F) arg5.view.ty) (A0 A1 : Hd F) (k : ℕ) (_ : BitVec 32) : sProp 𝕄 :=
  iprop(∃ f_arg7 f_arg8 f_arg9 f_arg10 f_arg11, Trip (F := F) c arg3 arg4 arg5 arg7 arg8 arg9 arg10 arg11 X_arg3 X_arg4 X_arg5 f_arg7 f_arg8 f_arg9 f_arg10 f_arg11 ∗
    ⌜hd0 arg7 arg8 arg9 arg10 arg11 f_arg7 f_arg8 f_arg9 f_arg10 f_arg11 = iter (trip0 i arg3 arg4 arg5 X_arg3 X_arg4 X_arg5) A0 k ∧ hd1 arg7 arg8 arg9 arg10 arg11 f_arg7 f_arg8 f_arg9 f_arg10 f_arg11 = iter (trip1 i arg3 arg4 arg5 X_arg3 X_arg4 X_arg5) A1 k⌝)

theorem loopStep (𝒱 : Variants) (c : Dev nD) (bd : Option 𝒱.V) (i : grid0.Coords) (arg3 : Memref sig .tc .vmem S1x2x1024x128 .bf16) (harg3 : arg3.IsWhole) (arg4 : Memref sig .tc .vmem S1x2x16384x128 .bf16) (harg4 : arg4.IsWhole) (arg5 : Memref sig .tc .vmem S1x2x16384x128 .bf16) (harg5 : arg5.IsWhole) (arg6 : Memref sig .tc .vmem S1x1024x128 .bf16) (harg6 : arg6.IsWhole) (arg7 : Memref sig .tc .vmem S2x2x1024x512 .f32) (harg7 : arg7.IsWhole) (arg8 : Memref sig .tc .vmem S2x2x1024x512 .bf16) (harg8 : arg8.IsWhole) (arg9 : Memref sig .tc .vmem S2x2x1024x128 .f32) (harg9 : arg9.IsWhole) (arg10 : Memref sig .tc .vmem S2x1024x128 .f32) (harg10 : arg10.IsWhole) (arg11 : Memref sig .tc .vmem S2x1024x128 .f32) (harg11 : arg11.IsWhole) (v0 : BitVec 32) (X_arg3 : BufTy.Contents (Elt F) arg3.view.ty) (X_arg4 : BufTy.Contents (Elt F) arg4.view.ty) (X_arg5 : BufTy.Contents (Elt F) arg5.view.ty) (E : Set ℕ) (A0 A1 : Hd F) (k : Fin (k0_t1_loop i).trips) (acc : BitVec 32) :
    LoopI c i arg3 arg4 arg5 arg7 arg8 arg9 arg10 arg11 X_arg3 X_arg4 X_arg5 A0 A1 k.val acc
      ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 v0 k acc)
          (LoopI c i arg3 arg4 arg5 arg7 arg8 arg9 arg10 arg11 X_arg3 X_arg4 X_arg5 A0 A1 (k.val + 1)) := by
    iintro ⟨%f_arg7, %f_arg8, %f_arg9, %f_arg10, %f_arg11, HT, %h⟩
    iapply (wp_wand_r Idealize.ShloMosaic.frame (wpE (defs₀ (F := F)) 𝒱 (c : Thread nD τ) bd) E)
    isplitl [HT]
    · iapply (trip (F := F) 𝒱 c bd i arg3 harg3 arg4 harg4 arg5 harg5 arg6 harg6 arg7 harg7 arg8 harg8 arg9 harg9 arg10 harg10 arg11 harg11 v0 X_arg3 X_arg4 X_arg5 k E acc f_arg7 f_arg8 f_arg9 f_arg10 f_arg11)
      iexact HT
    iintro %_ ⟨%g7, %g8, %g9, %g10, %g11, HT, %e⟩
    iexists g7, g8, g9, g10, g11
    isplitl [HT]; · iexact HT
    ipureintro
    rw [iter_succ, iter_succ, ← h.1, ← h.2]
    exact e

/-- One grid point: the block stored is the two heads' sums over their normalisers. -/
theorem run (𝒱 : Variants) (c : Dev nD) (bd : Option 𝒱.V) (i : grid0.Coords) (arg3 : Memref sig .tc .vmem S1x2x1024x128 .bf16) (harg3 : arg3.IsWhole) (arg4 : Memref sig .tc .vmem S1x2x16384x128 .bf16) (harg4 : arg4.IsWhole) (arg5 : Memref sig .tc .vmem S1x2x16384x128 .bf16) (harg5 : arg5.IsWhole) (arg6 : Memref sig .tc .vmem S1x1024x128 .bf16) (harg6 : arg6.IsWhole) (arg7 : Memref sig .tc .vmem S2x2x1024x512 .f32) (harg7 : arg7.IsWhole) (arg8 : Memref sig .tc .vmem S2x2x1024x512 .bf16) (harg8 : arg8.IsWhole) (arg9 : Memref sig .tc .vmem S2x2x1024x128 .f32) (harg9 : arg9.IsWhole) (arg10 : Memref sig .tc .vmem S2x1024x128 .f32) (harg10 : arg10.IsWhole) (arg11 : Memref sig .tc .vmem S2x1024x128 .f32) (harg11 : arg11.IsWhole)  (X_arg3 : BufTy.Contents (Elt F) arg3.view.ty) (X_arg4 : BufTy.Contents (Elt F) arg4.view.ty) (X_arg5 : BufTy.Contents (Elt F) arg5.view.ty) (E : Set ℕ) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) :
    iprop(Trip (F := F) c arg3 arg4 arg5 arg7 arg8 arg9 arg10 arg11 X_arg3 X_arg4 X_arg5 f_arg7 f_arg8 f_arg9 f_arg10 f_arg11 ∗ (arg6.view.loc (c : Thread nD τ) ↦[arg6.view.set]{fullShare} f_arg6))
      ⊢ wp frame (wpE (defs₀ (F := F)) 𝒱 (c : Thread nD τ) bd) E (cc0_attn (F := F) i arg3 harg3 arg4 harg4 arg5 harg5 arg6 harg6 arg7 harg7 arg8 harg8 arg9 harg9 arg10 harg10 arg11 harg11)
          (fun _ => iprop(∃ g7 g8 g9 g10 g11 g6, Trip (F := F) c arg3 arg4 arg5 arg7 arg8 arg9 arg10 arg11 X_arg3 X_arg4 X_arg5 g7 g8 g9 g10 g11
            ∗ (arg6.view.loc (c : Thread nD τ) ↦[arg6.view.set]{fullShare} g6)
            ∗ ⌜arg6.view.read (Elt F) g6 = outF i arg3 arg4 arg5 X_arg3 X_arg4 X_arg5⌝)) := by
    unfold cc0_attn
    iintro ⟨⟨HR_arg3, HR_arg4, HR_arg5, HW_arg7, HW_arg8, HW_arg9, HW_arg10, HW_arg11⟩, HW_arg6⟩
    sl_exec
    sl_for (LoopI c i arg3 arg4 arg5 arg7 arg8 arg9 arg10 arg11 X_arg3 X_arg4 X_arg5
        (Hd.start (View.readAt (Elt F) arg3.view (Rect.unit (s := S1x2x1024x128) ![0, 0, 0, 0] S1x1x1024x128.size inb_S1x2x1024x128_S1x1x1024x128_0_0_0_0).toLoadRect X_arg3) (ldKV arg4 X_arg4 ![0, 0, 0, 0] inb_S1x2x16384x128_S1x1x512x128_0_0_0_0)) (Hd.start (View.readAt (Elt F) arg3.view (Rect.unit (s := S1x2x1024x128) ![0, 1, 0, 0] S1x1x1024x128.size inb_S1x2x1024x128_S1x1x1024x128_0_1_0_0).toLoadRect X_arg3) (ldKV arg4 X_arg4 ![0, 1, 0, 0] inb_S1x2x16384x128_S1x1x512x128_0_1_0_0)))
      $$ [HR_arg3 HR_arg4 HR_arg5 HW_arg7 HW_arg8 HW_arg9 HW_arg10 HW_arg11]
    · intro k acc
      exact loopStep (F := F) 𝒱 c bd i arg3 harg3 arg4 harg4 arg5 harg5 arg6 harg6 arg7 harg7 arg8 harg8 arg9 harg9 arg10 harg10 arg11 harg11 0#32 X_arg3 X_arg4 X_arg5 E _ _ k acc
    · iexists _, _, _, _, _
      isplitl [HR_arg3 HR_arg4 HR_arg5 HW_arg7 HW_arg8 HW_arg9 HW_arg10 HW_arg11]
      · isplitl [HR_arg3]; · iexact HR_arg3
        isplitl [HR_arg4]; · iexact HR_arg4
        isplitl [HR_arg5]; · iexact HR_arg5
        isplitl [HW_arg7]; · iexact HW_arg7
        isplitl [HW_arg8]; · iexact HW_arg8
        isplitl [HW_arg9]; · iexact HW_arg9
        isplitl [HW_arg10]; · iexact HW_arg10
        iexact HW_arg11
      ipureintro
      sl_open_run
      refine ⟨Hd.ext' ?_ ?_ ?_ ?_ ?_, Hd.ext' ?_ ?_ ?_ ?_ ?_⟩
      all_goals
        dsimp only [hd0, hd1, Hd.start, iter]
        simp (disch := decide) only [↓ readAt_skip, ↓ readAt_hit, View.writes_nil]
      all_goals rfl
    iintro %acc ⟨%g7, %g8, %g9, %g10, %g11, ⟨HR_arg3, HR_arg4, HR_arg5, HW_arg7, HW_arg8, HW_arg9, HW_arg10, HW_arg11⟩, %h⟩
    sl_exec
    sl_step
    iexists _, _, _, _, _, _
    isplitl [HR_arg3 HR_arg4 HR_arg5 HW_arg7 HW_arg8 HW_arg9 HW_arg10 HW_arg11]
    · isplitl [HR_arg3]; · iexact HR_arg3
      isplitl [HR_arg4]; · iexact HR_arg4
      isplitl [HR_arg5]; · iexact HR_arg5
      isplitl [HW_arg7]; · iexact HW_arg7
      isplitl [HW_arg8]; · iexact HW_arg8
      isplitl [HW_arg9]; · iexact HW_arg9
      isplitl [HW_arg10]; · iexact HW_arg10
      iexact HW_arg11
    isplitl [HW_arg6]; · iexact HW_arg6
    ipureintro
    unfold outF fin0 fin1 end0 end1
    rw [← h.1, ← h.2, View.read_writes_full]
    sl_open_run
    rfl

end Cert.AttnIdeal.Body

end
-- ==== Proof.AttnSpec.lean ====
/- The mathematics of the attention: a row's scores, their maximum, the sum of the values weighted by the exponentials of the
   scores less the maximum, and how that sum grows chunk by chunk of keys. -/
module

public import proofs.«01_k».proof.Proof.Spec

@[expose] public section

noncomputable section

namespace Cert.AttnSpec

open Idealize.ShloMosaic
open Idealize.ShloMosaic.ValueIdx

/-- The word of −∞ reads as `⊥`. -/
theorem neg_inf : (FloatOps.ofBits .f32 0xFF800000#32 : Ideal .f32) = (⊥ : EReal) := by
  show Ideal.ofBits .f32 0xFF800000#32 = ⊥
  simp [Ideal.ofBits, Ideal.ieee]

/-- The largest of the first `n` scores (`⊥` of none). -/
def mx (f : ℕ → EReal) (n : ℕ) : EReal := (Finset.range n).sup f

/-- The first `n` values, each times the exponential of its score less `M`, summed. -/
def num (f v : ℕ → EReal) (n : ℕ) (M : EReal) : EReal := ∑ j ∈ Finset.range n, Ideal.exp (f j - M) * v j

/-- The weighted sum over the first `n` keys, the scores taken less their maximum. -/
def attend (f v : ℕ → EReal) (n : ℕ) : EReal := num f v n (mx f n)

theorem exp_nonneg (x : EReal) : 0 ≤ Ideal.exp x := by
  induction x with
  | bot => exact le_rfl
  | top => exact le_top
  | coe r => exact EReal.coe_nonneg.mpr (Real.exp_pos r).le

theorem exp_ne_top {x : EReal} (h : x ≠ ⊤) : Ideal.exp x ≠ ⊤ := by
  induction x with
  | bot => exact EReal.zero_ne_top
  | top => exact absurd rfl h
  | coe r => exact EReal.coe_ne_top _

theorem bot_sub' (M : EReal) : (⊥ : EReal) - M = ⊥ := by rw [sub_eq_add_neg, EReal.bot_add]

theorem sub_ne_top {a b : EReal} (h : a ≤ b) : a - b ≠ ⊤ := by
  induction a with
  | bot => rw [bot_sub']; exact bot_ne_top
  | top => rw [top_le_iff.mp h]; rw [sub_eq_add_neg, EReal.neg_top, EReal.add_bot]; exact bot_ne_top
  | coe r =>
    induction b with
    | bot => exact absurd (le_bot_iff.mp h) (EReal.coe_ne_bot r)
    | top => rw [sub_eq_add_neg, EReal.neg_top, EReal.add_bot]; exact bot_ne_top
    | coe s => rw [← EReal.coe_sub]; exact EReal.coe_ne_top _

/-- Changing the maximum a weight is taken from is one multiplication. -/
theorem exp_rescale {s a b : EReal} (hs : s ≤ a) (hab : a ≤ b) :
    Ideal.exp (s - a) * Ideal.exp (a - b) = Ideal.exp (s - b) := by
  induction s with
  | bot => rw [bot_sub', bot_sub', Ideal.exp_bot, zero_mul]
  | top =>
    have ha := top_le_iff.mp hs
    subst ha
    have hb := top_le_iff.mp hab
    subst hb
    rw [show (⊤ : EReal) - ⊤ = ⊥ by rw [sub_eq_add_neg, EReal.neg_top, EReal.add_bot], Ideal.exp_bot, zero_mul]
  | coe r =>
    induction a with
    | bot => exact absurd (le_bot_iff.mp hs) (EReal.coe_ne_bot r)
    | top =>
      have hb := top_le_iff.mp hab
      subst hb
      rw [show (r : EReal) - ⊤ = ⊥ by rw [sub_eq_add_neg, EReal.neg_top, EReal.add_bot], Ideal.exp_bot, zero_mul]
    | coe a =>
      induction b with
      | bot => exact absurd (le_bot_iff.mp hab) (EReal.coe_ne_bot a)
      | top =>
        rw [show (a : EReal) - ⊤ = ⊥ by rw [sub_eq_add_neg, EReal.neg_top, EReal.add_bot],
          show (r : EReal) - ⊤ = ⊥ by rw [sub_eq_add_neg, EReal.neg_top, EReal.add_bot], Ideal.exp_bot, mul_zero]
      | coe b =>
        rw [← EReal.coe_sub, ← EReal.coe_sub, ← EReal.coe_sub, Ideal.exp_coe, Ideal.exp_coe, Ideal.exp_coe, ← EReal.coe_mul, ← Real.exp_add]
        congr 2
        ring

/-- A factor that is neither negative nor infinite goes through a sum. -/
theorem sum_mul_fin {ι : Type} (s : Finset ι) (g : ι → EReal) {c : EReal} (h0 : 0 ≤ c) (ht : c ≠ ⊤) :
    (∑ j ∈ s, g j) * c = ∑ j ∈ s, g j * c := by
  classical
  induction s using Finset.induction_on with
  | empty => rw [Finset.sum_empty, Finset.sum_empty, zero_mul]
  | insert a s ha ih =>
    rw [Finset.sum_insert ha, Finset.sum_insert ha, ← ih, mul_comm (g a + _) c, EReal.left_distrib_of_nonneg_of_ne_top h0 ht, mul_comm c, mul_comm c]

theorem num_rescale (f v : ℕ → EReal) (n : ℕ) {a b : EReal} (hf : ∀ j < n, f j ≤ a) (hab : a ≤ b) :
    num f v n a * Ideal.exp (a - b) = num f v n b := by
  unfold num
  rw [sum_mul_fin _ _ (exp_nonneg _) (exp_ne_top (sub_ne_top hab))]
  refine Finset.sum_congr rfl fun j hj => ?_
  rw [mul_right_comm, exp_rescale (hf j (Finset.mem_range.mp hj)) hab]

theorem le_mx (f : ℕ → EReal) {n j : ℕ} (h : j < n) : f j ≤ mx f n := Finset.le_sup (f := f) (Finset.mem_range.mpr h)

theorem mx_mono (f : ℕ → EReal) {n n' : ℕ} (h : n ≤ n') : mx f n ≤ mx f n' := Finset.sup_mono (Finset.range_subset_range.mpr h)

/-- The maximum over one more chunk of 512 keys. -/
theorem mx_chunk (f : ℕ → EReal) (n : ℕ) : mx f (n + 512) = max (mx f n) ((Finset.range 512).sup fun j => f (n + j)) := by
  refine eq_of_forall_ge_iff fun c => ?_
  unfold mx
  rw [max_le_iff, Finset.sup_le_iff, Finset.sup_le_iff, Finset.sup_le_iff]
  constructor
  · exact fun h => ⟨fun j hj => h j (Finset.mem_range.mpr (by have := Finset.mem_range.mp hj; omega)),
      fun j hj => h _ (Finset.mem_range.mpr (by have := Finset.mem_range.mp hj; omega))⟩
  · rintro ⟨h1, h2⟩ j hj
    have hj' := Finset.mem_range.mp hj
    by_cases hn : j < n
    · exact h1 j (Finset.mem_range.mpr hn)
    · have := h2 (j - n) (Finset.mem_range.mpr (by omega))
      rwa [show n + (j - n) = j by omega] at this

/-- The sum over one more chunk of 512 keys, from the sum before it. -/
theorem attend_chunk (f v : ℕ → EReal) (n : ℕ) :
    attend f v n * Ideal.exp (mx f n - mx f (n + 512)) + ∑ j : Fin 512, Ideal.exp (f (n + j.val) - mx f (n + 512)) * v (n + j.val)
      = attend f v (n + 512) := by
  unfold attend
  rw [num_rescale f v n (fun j hj => le_mx f hj) (mx_mono f (Nat.le_add_right n 512))]
  unfold num
  rw [Finset.sum_range_add, Finset.sum_range (n := 512)]

/-- Keys with the score `⊥` add nothing. -/
theorem attend_extend (f v : ℕ → EReal) {n n' : ℕ} (h : n ≤ n') (hf : ∀ j, n ≤ j → f j = ⊥) : attend f v n' = attend f v n := by
  have hm : mx f n' = mx f n := by
    refine le_antisymm (Finset.sup_le fun j hj => ?_) (mx_mono f h)
    by_cases hn : j < n
    · exact le_mx f hn
    · rw [hf j (Nat.le_of_not_lt hn)]; exact bot_le
  unfold attend num
  rw [hm]
  refine (Finset.sum_subset (Finset.range_subset_range.mpr h) fun j _ hj => ?_).symm
  rw [hf j (Nat.le_of_not_lt fun hn => hj (Finset.mem_range.mpr hn)), bot_sub', Ideal.exp_bot, zero_mul]

/-- The weighted sum depends on the scores and values of its own keys only. -/
theorem mx_congr {f g : ℕ → EReal} {n : ℕ} (h : ∀ j < n, f j = g j) : mx f n = mx g n :=
  Finset.sup_congr rfl fun j hj => h j (Finset.mem_range.mp hj)

theorem attend_congr {f g v w : ℕ → EReal} {n : ℕ} (h : ∀ j < n, f j = g j) (hv : ∀ j < n, v j = w j) : attend f v n = attend g w n := by
  unfold attend num
  rw [mx_congr h]
  exact Finset.sum_congr rfl fun j hj => by rw [h j (Finset.mem_range.mp hj), hv j (Finset.mem_range.mp hj)]

/-- The maximum of 512 numbers, taken lane by lane over four blocks of 128 and then over the lanes. -/
theorem lanes_max (g : ℕ → EReal) :
    (Finset.univ : Finset (Fin 128)).fold max ⊥ (fun l => max (max (max (g l.val) (g (128 + l.val))) (g (256 + l.val))) (g (384 + l.val)))
      = (Finset.range 512).sup g := by
  refine eq_of_forall_ge_iff fun c => ?_
  rw [Finset.fold_max_le, Finset.sup_le_iff]
  constructor
  · rintro ⟨-, h⟩ j hj
    have hj' := Finset.mem_range.mp hj
    have hl := h ⟨j % 128, Nat.mod_lt _ (by decide)⟩ (Finset.mem_univ _)
    rw [max_le_iff, max_le_iff, max_le_iff] at hl
    obtain ⟨⟨⟨h0, h1⟩, h2⟩, h3⟩ := hl
    have : j = j % 128 ∨ j = 128 + j % 128 ∨ j = 256 + j % 128 ∨ j = 384 + j % 128 := by omega
    rcases this with e | e | e | e <;> rw [e] <;> assumption
  · refine fun h => ⟨bot_le, fun l _ => ?_⟩
    have hl := l.isLt
    rw [max_le_iff, max_le_iff, max_le_iff]
    exact ⟨⟨⟨h _ (Finset.mem_range.mpr (by omega)), h _ (Finset.mem_range.mpr (by omega))⟩, h _ (Finset.mem_range.mpr (by omega))⟩,
      h _ (Finset.mem_range.mpr (by omega))⟩

/-- The maximum over a finite range of keys as a fold. -/
theorem fold_max (g : ℕ → EReal) (n : ℕ) : (Finset.univ : Finset (Fin n)).fold max ⊥ (fun k => g k.val) = mx g n := by
  refine eq_of_forall_ge_iff fun c => ?_
  unfold mx
  rw [Finset.fold_max_le, Finset.sup_le_iff]
  exact ⟨fun h j hj => h.2 ⟨j, Finset.mem_range.mp hj⟩ (Finset.mem_univ _), fun h => ⟨bot_le, fun k _ => h _ (Finset.mem_range.mpr k.isLt)⟩⟩

/-- The score of key `j` against a query: their inner product. -/
def score (q : Fin 128 → EReal) (K : ℕ → Fin 128 → EReal) (j : ℕ) : EReal := ∑ d : Fin 128, q d * K j d

/-- The causal score of key `j` against the query at position `p`: `⊥` of a key after it. -/
def causal (p : ℕ) (q : Fin 128 → EReal) (K : ℕ → Fin 128 → EReal) (j : ℕ) : EReal := if j ≤ p then score q K j else ⊥

/-- Row `j` of one head of a table of keys or values. -/
def rowsOf (x : (⟨4, ![2, 16, 16384, 128]⟩ : Shape).Idx → EReal) (b : Fin 2) (h : Fin 16) (j : ℕ) (d : Fin 128) : EReal :=
  if hj : j < 16384 then x (ix4 b h ⟨j, hj⟩ d) else 0

/-- Lane `d` of head `h`'s causal sum at position `p` of sequence `b`. -/
def head (q k v : (⟨4, ![2, 16, 16384, 128]⟩ : Shape).Idx → EReal) (b : Fin 2) (h : Fin 16) (p : Fin 16384) (d : Fin 128) : EReal :=
  attend (causal p.val (fun e => q (ix4 b h p e)) (rowsOf k b h)) (fun j => rowsOf v b h j d) 16384

/-- The layer's attention: heads `2g` and `2g + 1` share 128 output lanes, the even one's in the lower half over its lane 64, the odd
    one's in the upper half over its lane 0. -/
def table (q k v : (⟨4, ![2, 16, 16384, 128]⟩ : Shape).Idx → EReal) (i : (⟨3, ![2, 16384, 1024]⟩ : Shape).Idx) : EReal :=
  if (i 2).val % 128 < 64 then
    Ideal.div (head q k v (i 0) ⟨2 * ((i 2).val / 128), by have : (i 2).val < 1024 := (i 2).isLt; omega⟩ (i 1) ⟨(i 2).val % 128, by omega⟩)
      (head q k v (i 0) ⟨2 * ((i 2).val / 128), by have : (i 2).val < 1024 := (i 2).isLt; omega⟩ (i 1) 64)
  else
    Ideal.div (head q k v (i 0) ⟨2 * ((i 2).val / 128) + 1, by have : (i 2).val < 1024 := (i 2).isLt; omega⟩ (i 1) ⟨(i 2).val % 128, by omega⟩)
      (head q k v (i 0) ⟨2 * ((i 2).val / 128) + 1, by have : (i 2).val < 1024 := (i 2).isLt; omega⟩ (i 1) 0)

theorem table_apply (q k v : (⟨4, ![2, 16, 16384, 128]⟩ : Shape).Idx → EReal) (b : Fin 2) (p : Fin 16384) (x : Fin 1024) :
    table q k v (ix3 b p x) = if x.val % 128 < 64 then
        Ideal.div (head q k v b ⟨2 * (x.val / 128), by omega⟩ p ⟨x.val % 128, by omega⟩) (head q k v b ⟨2 * (x.val / 128), by omega⟩ p 64)
      else Ideal.div (head q k v b ⟨2 * (x.val / 128) + 1, by omega⟩ p ⟨x.val % 128, by omega⟩) (head q k v b ⟨2 * (x.val / 128) + 1, by omega⟩ p 0) := rfl

end Cert.AttnSpec

end

end
-- ==== Proof.AttnIdealStep.lean ====
/- One chunk of one head, element by element: scores, running maximum, weights, correction and sum. -/
module

public import proofs.«01_k».proof.Proof.AttnIdealBody
public import proofs.«01_k».proof.Proof.AttnSpec
public import Idealize.ShloMosaic.Lib.Pipeline.ValueKit
public import Idealize.ShloMosaic.Lib.MatmulPlain
public import Idealize.ShloMosaic.Lib.ValueLayout
public import Idealize.ShloMosaic.Lib.ValueLayoutCasts
public import Idealize.ShloMosaic.Lib.IdealHost

@[expose] public section

noncomputable section

namespace Cert.AttnIdeal.Body

open Idealize.ShloMosaic hiding ix1 ix2 ix3 ix4 eq_ix1 eq_ix2 eq_ix3 eq_ix4
open Idealize.ShloMosaic.TcCoe Idealize.SL.Sem
open Idealize.ShloMosaic.ValueIdx
open Cert.Spec Cert.AttnSpec
open Cert.AttnIdeal Cert.AttnIdeal.Gen

theorem cast_drop {α : Type} {a b : ℕ} (x : (⟨4, ![1, 1, a, b]⟩ : Shape).Idx → α) (h : (⟨4, ![1, 1, a, b]⟩ : Shape).ShapeCasts ⟨2, ![a, b]⟩)
    (r : Fin a) (j : Fin b) : shapeCast ⟨2, ![a, b]⟩ x h (ix2 r j) = x (ix4 0 0 r j) := by
  refine shapeCast_apply x h (ix2 r j) (ix4 0 0 r j) ?_
  rw [Shape.rowMajor_val_four, Shape.rowMajor_val_two]
  show ((0 * 1 + 0) * a + r.val) * b + j.val = r.val * b + j.val
  rw [Nat.zero_mul, Nat.zero_add]

theorem cast_add {α : Type} {a b : ℕ} (x : (⟨2, ![a, b]⟩ : Shape).Idx → α) (h : (⟨2, ![a, b]⟩ : Shape).ShapeCasts ⟨4, ![1, 1, a, b]⟩)
    (r : Fin a) (j : Fin b) : shapeCast ⟨4, ![1, 1, a, b]⟩ x h (ix4 0 0 r j) = x (ix2 r j) := by
  refine shapeCast_apply x h (ix4 0 0 r j) (ix2 r j) ?_
  rw [Shape.rowMajor_val_four, Shape.rowMajor_val_two]
  show r.val * b + j.val = ((0 * 1 + 0) * a + r.val) * b + j.val
  rw [Nat.zero_mul, Nat.zero_add]

/-- A rectangle of a matrix. -/
theorem cut {α : Type} {a b a' b' : ℕ} (x : (⟨2, ![a, b]⟩ : Shape).Idx → α) (o p : ℕ) (h : (⟨2, ![a, b]⟩ : Shape).Slices ![o, p] ⟨2, ![a', b']⟩)
    (r : Fin a') (j : Fin b') (r' : Fin a) (j' : Fin b) (hr : r'.val = o + r.val) (hj : j'.val = p + j.val) :
    extractStridedSlice ⟨2, ![a', b']⟩ ![o, p] x h (ix2 r j) = x (ix2 r' j') := by
  refine extractStridedSlice_apply _ x h (ix2 r j) (ix2 r' j') fun c => ?_
  match c with
  | ⟨0, _⟩ => exact hr
  | ⟨1, _⟩ => exact hj

/-- A row's maximum, spread over the lanes. -/
theorem laneMax {M : ℕ} (z : FVec Ideal ⟨2, ![M, 128]⟩ .f32) (hr : (⟨2, ![M, 128]⟩ : Shape).Reduces [1] ⟨1, ![M]⟩) (hφ hacc)
    (hc : (⟨1, ![M]⟩ : Shape).ShapeCasts ⟨2, ![M, 1]⟩) (hb : (⟨2, ![M, 1]⟩ : Shape).Broadcasts ⟨2, ![M, 128]⟩) (g : ℕ → EReal) (r : Fin M)
    (hz : ∀ l : Fin 128, z (ix2 r l) = max (max (max (g l.val) (g (128 + l.val))) (g (256 + l.val))) (g (384 + l.val))) (l : Fin 128) :
    broadcastTo ⟨2, ![M, 128]⟩ (shapeCast ⟨2, ![M, 1]⟩ (multiReduction .maximumf [1] ⟨1, ![M]⟩ z 0xFF800000#32 hr hφ hacc) hc) hb (ix2 r l)
      = (Finset.range 512).sup g := by
  rw [broadcastTo_apply _ hb (ix2 r l) (ix2 r 0) (fun a => match a with
    | ⟨0, _⟩ => by
        show r.val = if M = 1 then 0 else r.val
        have := r.isLt
        split <;> omega
    | ⟨1, _⟩ => rfl), shapeCast_a_a1_apply, Ideal.multiReduction_maximumf_single, neg_inf, ← lanes_max]
  refine congrArg (Finset.fold max ⊥ · (Finset.univ : Finset (Fin 128))) (funext fun k => ?_)
  rw [← hz k]
  refine congrArg z (funext fun a => Fin.ext ?_)
  match a with
  | ⟨0, _⟩ => rfl
  | ⟨1, _⟩ => rfl

/-- Four blocks of 128 lanes side by side. -/
theorem side {M : ℕ} (p0 p1 p2 p3 : (⟨2, ![M, 128]⟩ : Shape).Idx → EReal) (h) (G : ℕ → EReal) (r : Fin M)
    (h0 : ∀ l : Fin 128, p0 (ix2 r l) = G l.val) (h1 : ∀ l : Fin 128, p1 (ix2 r l) = G (128 + l.val))
    (h2 : ∀ l : Fin 128, p2 (ix2 r l) = G (256 + l.val)) (h3 : ∀ l : Fin 128, p3 (ix2 r l) = G (384 + l.val)) (j : Fin 512) :
    concatenate (⟨2, ![M, 512]⟩ : Shape) (1 : Fin 2) [⟨⟨2, ![M, 128]⟩, p0⟩, ⟨⟨2, ![M, 128]⟩, p1⟩, ⟨⟨2, ![M, 128]⟩, p2⟩, ⟨⟨2, ![M, 128]⟩, p3⟩] h (ix2 r j) = G j.val := by
  have hj := j.isLt
  have off : ∀ (l : Fin 128) (b : Fin 2), b.cast rfl ≠ (1 : Fin 2) → ((ix2 r l : (⟨2, ![M, 128]⟩ : Shape).Idx) b).val = ((ix2 r j : (⟨2, ![M, 512]⟩ : Shape).Idx) (b.cast rfl)).val := fun l b hb => by
    match b with
    | ⟨0, _⟩ => rfl
    | ⟨1, _⟩ => exact absurd rfl hb
  by_cases c0 : j.val < 128
  · exact (concatenate_apply_piece (t := (⟨2, ![M, 512]⟩ : Shape)) (1 : Fin 2) _ h (ix2 r j) 0 (by show 0 < 4; decide) ⟨2, ![M, 128]⟩ p0 rfl rfl 0 rfl (ix2 r ⟨j.val, c0⟩)
      (off _) (by show 0 + j.val = j.val; omega)).trans (h0 _)
  by_cases c1 : j.val < 256
  · exact (concatenate_apply_piece (t := (⟨2, ![M, 512]⟩ : Shape)) (1 : Fin 2) _ h (ix2 r j) 1 (by show 1 < 4; decide) ⟨2, ![M, 128]⟩ p1 rfl rfl 128 rfl (ix2 r ⟨j.val - 128, by omega⟩)
      (off _) (by show 128 + (j.val - 128) = j.val; omega)).trans ((h1 _).trans (congrArg G (by show 128 + (j.val - 128) = j.val; omega)))
  by_cases c2 : j.val < 384
  · exact (concatenate_apply_piece (t := (⟨2, ![M, 512]⟩ : Shape)) (1 : Fin 2) _ h (ix2 r j) 2 (by show 2 < 4; decide) ⟨2, ![M, 128]⟩ p2 rfl rfl 256 rfl (ix2 r ⟨j.val - 256, by omega⟩)
      (off _) (by show 256 + (j.val - 256) = j.val; omega)).trans ((h2 _).trans (congrArg G (by show 256 + (j.val - 256) = j.val; omega)))
  · exact (concatenate_apply_piece (t := (⟨2, ![M, 512]⟩ : Shape)) (1 : Fin 2) _ h (ix2 r j) 3 (by show 3 < 4; decide) ⟨2, ![M, 128]⟩ p3 rfl rfl 384 rfl (ix2 r ⟨j.val - 384, by omega⟩)
      (off _) (by show 384 + (j.val - 384) = j.val; omega)).trans ((h3 _).trans (congrArg G (by show 384 + (j.val - 384) = j.val; omega)))

/-- Two matrices one above the other. -/
theorem stack {A B C : ℕ} (p q : (⟨2, ![A, C]⟩ : Shape).Idx → EReal) (h) (r : Fin B) (j : Fin C) (hB : B = A + A) :
    concatenate (⟨2, ![B, C]⟩ : Shape) (0 : Fin 2) [⟨⟨2, ![A, C]⟩, p⟩, ⟨⟨2, ![A, C]⟩, q⟩] h (ix2 r j)
      = if hr : r.val < A then p (ix2 ⟨r.val, hr⟩ j) else q (ix2 ⟨r.val - A, by have := r.isLt; omega⟩ j) := by
  have hr' := r.isLt
  have off : ∀ (l : Fin A) (b : Fin 2), b.cast rfl ≠ (0 : Fin 2) → ((ix2 l j : (⟨2, ![A, C]⟩ : Shape).Idx) b).val = ((ix2 r j : (⟨2, ![B, C]⟩ : Shape).Idx) (b.cast rfl)).val := fun l b hb => by
    match b with
    | ⟨0, _⟩ => exact absurd rfl hb
    | ⟨1, _⟩ => rfl
  split
  · exact concatenate_apply_piece (t := (⟨2, ![B, C]⟩ : Shape)) (0 : Fin 2) _ h (ix2 r j) 0 (by show 0 < 2; decide) ⟨2, ![A, C]⟩ p rfl rfl 0 rfl _
      (off _) (by show 0 + r.val = r.val; omega)
  · exact concatenate_apply_piece (t := (⟨2, ![B, C]⟩ : Shape)) (0 : Fin 2) _ h (ix2 r j) 1 (by show 1 < 2; decide) ⟨2, ![A, C]⟩ q rfl rfl A (by show A + 0 = A; omega) _
      (off _) (by show A + (r.val - A) = r.val; omega)

/-- The scores of a chunk of keys. -/
theorem scores_apply (kn : Vec Ideal S1x1x512x128 .bf16) (q : Vec Ideal S1x1x1024x128 .bf16) (r : Fin 1024) (j : Fin 512) :
    k0_pay2 kn q (ix4 0 0 r j) = ∑ d : Fin 128, q (ix4 0 0 r d) * kn (ix4 0 0 j d) := by
  unfold k0_pay2
  refine (cast_add (a := 1024) (b := 512) _ _ r j).trans ?_
  refine (Ideal.matmul_transposedRhs_apply (M := 1024) (K := 128) (N := 512) none _ _ _ r j).trans ?_
  rw [show (constant (F := Ideal) S1024x512 .f32 0x00000000#32) (ix2 r j) = 0 from Ideal.ofBits_zero_f32, zero_add]
  exact Finset.sum_congr rfl fun d _ => congrArg₂ (· * ·) (cast_drop (a := 1024) (b := 128) q _ r d) (cast_drop (a := 512) (b := 128) kn _ j d)

/-- The running maximum after a chunk. -/
theorem newMax_apply (s : Vec Ideal S1x1x1024x512 .f32) (mm : Vec Ideal S1x1024x128 .f32) (r : Fin 1024) (g : ℕ → EReal)
    (hg : ∀ j : Fin 512, s (ix4 0 0 r j) = g j.val) (l : Fin 128) :
    k0_pay12 s mm (ix2 r l) = max (mm (ix3 0 r l)) ((Finset.range 512).sup g) := by
  have hl := l.isLt
  unfold k0_pay12
  refine congrArg₂ (max : EReal → EReal → EReal) (shapeCast_1ab_ab_apply (a := 1024) (b := 128) mm _ r l) ?_
  refine laneMax (M := 1024) _ _ _ _ _ _ g r (fun l => ?_) l
  have hl := l.isLt
  have e : ∀ (o : ℕ) (h) (ho : o + 128 ≤ 512), extractStridedSlice S1024x128 ![0, o] (k0_pay6 s) h (ix2 r l) = g (o + l.val) := fun o h ho =>
    (cut (a := 1024) (b := 512) (a' := 1024) (b' := 128) (k0_pay6 s) 0 o h r l r ⟨o + l.val, by omega⟩ (by omega) rfl).trans
      ((cast_drop (a := 1024) (b := 512) s _ r _).trans (hg _))
  exact congrArg₂ (max : EReal → EReal → EReal) (congrArg₂ (max : EReal → EReal → EReal) (congrArg₂ (max : EReal → EReal → EReal)
    ((e 0 slices_S1024x512_o0_0_S1024x128 (by decide)).trans (congrArg g (by omega))) (e 128 slices_S1024x512_o0_128_S1024x128 (by decide))) (e 256 slices_S1024x512_o0_256_S1024x128 (by decide))) (e 384 slices_S1024x512_o0_384_S1024x128 (by decide))

/-- The weights of a chunk. -/
theorem weights_apply (s : Vec Ideal S1x1x1024x512 .f32) (mm : Vec Ideal S1x1024x128 .f32) (r : Fin 1024) (g : ℕ → EReal) (M : EReal)
    (hg : ∀ j : Fin 512, s (ix4 0 0 r j) = g j.val) (hM : ∀ l : Fin 128, k0_pay12 s mm (ix2 r l) = M) (j : Fin 512) :
    k0_pay15 s mm (ix4 0 0 r j) = Ideal.exp (g j.val - M) := by
  unfold k0_pay15
  refine (cast_add (a := 1024) (b := 512) _ _ r j).trans ?_
  have e : ∀ (o : ℕ) (h) (ho : o + 128 ≤ 512) (l : Fin 128), extractStridedSlice S1024x128 ![0, o] (k0_pay6 s) h (ix2 r l) = g (o + l.val) := fun o h ho l =>
    (cut (a := 1024) (b := 512) (a' := 1024) (b' := 128) (k0_pay6 s) 0 o h r l r ⟨o + l.val, by have := l.isLt; omega⟩ (by omega) rfl).trans
      ((cast_drop (a := 1024) (b := 512) s _ r _).trans (hg _))
  have f : ∀ {a b : EReal}, a = b → ∀ l : Fin 128, Ideal.exp (a - k0_pay12 s mm (ix2 r l)) = Ideal.exp (b - M) := fun h l => by rw [h, hM]
  exact side (M := 1024) _ _ _ _ concatenates_S1024x128_S1024x128_S1024x128_S1024x128_S1024x512_d1 (fun j => Ideal.exp (g j - M)) r (fun l => f ((e 0 slices_S1024x512_o0_0_S1024x128 (by decide) l).trans (congrArg g (by omega))) l)
    (fun l => f (e 128 slices_S1024x512_o0_128_S1024x128 (by decide) l) l) (fun l => f (e 256 slices_S1024x512_o0_256_S1024x128 (by decide) l) l) (fun l => f (e 384 slices_S1024x512_o0_384_S1024x128 (by decide) l) l) j

/-- The sum after a chunk's values are added. -/
theorem sum_apply (a : FVec Ideal S1024x128 .f32) (p : FVec Ideal S1024x512 .bf16) (v : Vec Ideal S1x1x512x128 .bf16) (r : Fin 1024) (d : Fin 128) :
    addf a (matmul (F := Ideal) dot_S1024x512_S512x128_S1024x128_1_0_0_1_n_n none p (shapeCast S512x128 v shapeCasts_S1x1x512x128_S512x128 : FVec Ideal S512x128 .bf16)
      (constant S1024x128 .f32 0x00000000#32)) (ix2 r d) = a (ix2 r d) + ∑ j : Fin 512, p (ix2 r j) * v (ix4 0 0 j d) := by
  refine congrArg (a (ix2 r d) + ·) ((Ideal.matmul_plain_apply (M := 1024) (K := 512) (N := 128) none _ _ _ r d).trans ?_)
  rw [show (constant (F := Ideal) S1024x128 .f32 0x00000000#32) (ix2 r d) = 0 from Ideal.ofBits_zero_f32, zero_add]
  exact Finset.sum_congr rfl fun j _ => congrArg (p (ix2 r j) * ·) (cast_drop (a := 512) (b := 128) v _ j d)

/-- Where one head of one tile of 1024 queries stands before chunk `k`: the chunk's scores, the maximum of the scores before it, and the
    weighted sum of the values before it. -/
structure At (Q : Fin 1024 → Fin 128 → EReal) (K V : ℕ → Fin 128 → EReal) (k : ℕ) (x : Hd Ideal) : Prop where
  s : ∀ (r : Fin 1024) (j : Fin 512), x.s (ix4 0 0 r j) = score (Q r) K (512 * k + j.val)
  m : ∀ (r : Fin 1024) (l : Fin 128), x.m (ix3 0 r l) = mx (score (Q r) K) (512 * k)
  a : ∀ (r : Fin 1024) (d : Fin 128), x.a (ix3 0 r d) * x.c (ix4 0 0 r d) + ∑ j : Fin 512, x.p (ix4 0 0 r j) * V (512 * (k - 1) + j.val) d
    = attend (score (Q r) K) (fun j => V j d) (512 * k)

theorem at_start (Q : Fin 1024 → Fin 128 → EReal) (K V : ℕ → Fin 128 → EReal) (q : Vec Ideal S1x1x1024x128 .bf16) (k0 : Vec Ideal S1x1x512x128 .bf16)
    (hq : ∀ r d, q (ix4 0 0 r d) = Q r d) (hk : ∀ (j : Fin 512) d, k0 (ix4 0 0 j d) = K j.val d) : At Q K V 0 (Hd.start q k0) where
  s := fun r j => (scores_apply k0 q r j).trans (Finset.sum_congr rfl fun d _ => by rw [hq, hk, Nat.mul_zero, Nat.zero_add])
  m := fun r l => rfl
  a := fun r d => by
    have hp : ∀ j : Fin 512, (Hd.start q k0).p (ix4 0 0 r j) = (0 : EReal) := fun j => Ideal.ofBits_zero_bf16
    have ha : (Hd.start q k0).a (ix3 0 r d) = (0 : EReal) := Ideal.ofBits_zero_f32
    rw [ha, zero_mul, zero_add]
    exact Finset.sum_eq_zero fun j _ => by rw [hp, zero_mul]

theorem at_step (Q : Fin 1024 → Fin 128 → EReal) (K V : ℕ → Fin 128 → EReal) (k : ℕ) (x : Hd Ideal) (h : At Q K V k x)
    (q : Vec Ideal S1x1x1024x128 .bf16) (kn vl : Vec Ideal S1x1x512x128 .bf16)
    (hq : ∀ r d, q (ix4 0 0 r d) = Q r d) (hk : ∀ (j : Fin 512) d, kn (ix4 0 0 j d) = K (512 * (k + 1) + j.val) d)
    (hv : ∀ (j : Fin 512) d, vl (ix4 0 0 j d) = V (512 * (k - 1) + j.val) d) : At Q K V (k + 1) (Hd.step q kn vl x) := by
  have hM : ∀ (r : Fin 1024) (l : Fin 128), k0_pay12 x.s x.m (ix2 r l) = mx (score (Q r) K) (512 * (k + 1)) := fun r l => by
    rw [newMax_apply x.s x.m r (fun j => score (Q r) K (512 * k + j)) (h.s r) l, h.m, Nat.mul_succ, mx_chunk]
  refine ⟨fun r j => ?_, fun r l => ?_, fun r d => ?_⟩
  · exact (scores_apply kn q r j).trans (Finset.sum_congr rfl fun d _ => by rw [hq, hk])
  · exact (shapeCast_ab_1ab_apply (a := 1024) (b := 128) _ _ 0 r l).trans (hM r l)
  · have ea : (Hd.step q kn vl x).a (ix3 0 r d) = attend (score (Q r) K) (fun j => V j d) (512 * k) := by
      refine ((shapeCast_ab_1ab_apply (a := 1024) (b := 128) _ _ 0 r d).trans (sum_apply _ _ vl r d)).trans ((congrArg₂ (· + ·) ?_ ?_).trans (h.a r d))
      · exact congrArg₂ (· * ·) (shapeCast_1ab_ab_apply (a := 1024) (b := 128) x.a _ r d) (cast_drop (a := 1024) (b := 128) x.c _ r d)
      · exact Finset.sum_congr rfl fun j _ => congrArg₂ (· * ·) (cast_drop (a := 1024) (b := 512) x.p _ r j) (hv j d)
    have ec : (Hd.step q kn vl x).c (ix4 0 0 r d) = Ideal.exp (mx (score (Q r) K) (512 * k) - mx (score (Q r) K) (512 * (k + 1))) := by
      refine (cast_add (a := 1024) (b := 128) (k0_pay13 x.s x.m) _ r d).trans ?_
      refine congrArg Ideal.exp (congrArg₂ (fun a b : EReal => a - b) (x := k0_pay7 x.m (ix2 r d)) ?_ (hM r d))
      exact (shapeCast_1ab_ab_apply (a := 1024) (b := 128) x.m _ r d).trans (h.m r d)
    have ep : ∀ j : Fin 512, (Hd.step q kn vl x).p (ix4 0 0 r j) = Ideal.exp (score (Q r) K (512 * k + j.val) - mx (score (Q r) K) (512 * (k + 1))) := fun j =>
      weights_apply x.s x.m r (fun j => score (Q r) K (512 * k + j)) _ (h.s r) (hM r) j
    rw [ea, ec, Finset.sum_congr rfl fun j _ => by rw [ep j, Nat.add_sub_cancel], Nat.mul_succ]
    exact attend_chunk (score (Q r) K) (fun j => V j d) (512 * k)

end Cert.AttnIdeal.Body

end

end
-- ==== Proof.AttnIdealDiag.lean ====
/- The two chunks on the diagonal: a tile's last 1024 keys, of which each query sees those not after it. -/
module

public import proofs.«01_k».proof.Proof.AttnIdealStep
public import Idealize.ShloMosaic.Lib.WordCmp

@[expose] public section

noncomputable section

namespace Cert.AttnIdeal.Body

open Idealize.ShloMosaic hiding ix1 ix2 ix3 ix4 eq_ix1 eq_ix2 eq_ix3 eq_ix4
open Idealize.ShloMosaic.TcCoe Idealize.SL.Sem
open Idealize.ShloMosaic.ValueIdx
open Cert.Spec Cert.AttnSpec
open Cert.AttnIdeal Cert.AttnIdeal.Gen

/-- 128 of a chunk's 512 columns. -/
theorem lanes {M : ℕ} (z : (⟨2, ![M, 512]⟩ : Shape).Idx → EReal) (g : ℕ → EReal) (r : Fin M) (hg : ∀ j : Fin 512, z (ix2 r j) = g j.val) (o : ℕ)
    (h : (⟨2, ![M, 512]⟩ : Shape).Slices ![0, o] ⟨2, ![M, 128]⟩) (ho : o + 128 ≤ 512) (l : Fin 128) :
    extractStridedSlice ⟨2, ![M, 128]⟩ ![0, o] z h (ix2 r l) = g (o + l.val) :=
  (cut z 0 o h r l r ⟨o + l.val, by have := l.isLt; omega⟩ (by omega) rfl).trans (hg _)

theorem lanes_zero {M : ℕ} (z : (⟨2, ![M, 512]⟩ : Shape).Idx → EReal) (g : ℕ → EReal) (r : Fin M) (hg : ∀ j : Fin 512, z (ix2 r j) = g j.val)
    (h : (⟨2, ![M, 512]⟩ : Shape).Slices ![0, 0] ⟨2, ![M, 128]⟩) (l : Fin 128) :
    extractStridedSlice ⟨2, ![M, 128]⟩ ![0, 0] z h (ix2 r l) = g l.val :=
  (lanes z g r hg 0 h (by decide) l).trans (congrArg g (Nat.zero_add _))

theorem tri_apply (r j : Fin 512) : k0_pay133 (ix2 r j) = if j.val ≤ r.val then 1#1 else 0#1 := by
  have hr := r.isLt
  have hj := j.isLt
  refine (show k0_pay133 (ix2 r j) = IntOp.cmpi .sge (BitVec.ofNat 32 r.val) (BitVec.ofNat 32 j.val) by unfold k0_pay133; pointwise).trans ?_
  have e : ∀ a : ℕ, a < 512 → (BitVec.ofNat 32 a).toNat = a := fun a h => by rw [BitVec.toNat_ofNat]; omega
  rw [WordCmp.cmpi_sge_of_lt (by rw [e _ hr]; omega) (by rw [e _ hj]; omega), e _ hr, e _ hj]
  by_cases h : j.val ≤ r.val
  · rw [if_pos h, decide_eq_true h]; rfl
  · rw [if_neg h, decide_eq_false h]; rfl

/-- A choice by the triangle. -/
theorem tri_select (r j : Fin 512) (a b : EReal) : Scalar.select (k0_pay133 (ix2 r j)) a b = if j.val ≤ r.val then a else b := by
  rw [tri_apply]
  by_cases h : j.val ≤ r.val
  · rw [if_pos h, if_pos h]; rfl
  · rw [if_neg h, if_neg h]; rfl

/-- The first chunk's scores, masked: rows below 512 on the triangle, the others whole. -/
theorem masked1 (s : Vec Ideal S1x1x1024x512 .f32) (r : Fin 1024) (j : Fin 512) :
    k0_pay137 k0_pay133 s (ix2 r j) = if j.val ≤ r.val then s (ix4 0 0 r j) else (⊥ : EReal) := by
  have hj := j.isLt
  have hr' := r.isLt
  unfold k0_pay137
  refine (stack (A := 512) (B := 1024) (C := 512) _ _ concatenates_S512x512_S512x512_S1024x512_d0 r j rfl).trans ?_
  split
  · next hr =>
    refine (tri_select ⟨r.val, hr⟩ j _ _).trans ?_
    split
    · exact (cut (a := 1024) (b := 512) (a' := 512) (b' := 512) _ 0 0 slices_S1024x512_o0_0_S512x512 ⟨r.val, hr⟩ j r j (by show r.val = 0 + r.val; omega) (by omega)).trans
        (cast_drop (a := 1024) (b := 512) s _ r j)
    · rfl
  · next hr =>
    rw [if_pos (by omega)]
    exact (cut (a := 1024) (b := 512) (a' := 512) (b' := 512) _ 512 0 slices_S1024x512_o512_0_S512x512 ⟨r.val - 512, by omega⟩ j r j (by show r.val = 512 + (r.val - 512); omega) (by omega)).trans
        (cast_drop (a := 1024) (b := 512) s _ r j)

/-- The second chunk's scores, masked, for the lower 512 rows. -/
theorem masked2 (k1 ql : Vec Ideal S1x1x512x128 .bf16) (r j : Fin 512) :
    k0_pay145 k0_pay133 k1 ql (ix2 r j) = if j.val ≤ r.val then ∑ d : Fin 128, ql (ix4 0 0 r d) * k1 (ix4 0 0 j d) else (⊥ : EReal) := by
  unfold k0_pay145
  refine (tri_select r j _ _).trans ?_
  split
  · refine (Ideal.matmul_transposedRhs_apply (M := 512) (K := 128) (N := 512) none _ _ _ r j).trans ?_
    rw [show (constant (F := Ideal) S512x512 .f32 0x00000000#32) (ix2 r j) = 0 from Ideal.ofBits_zero_f32, zero_add]
    exact Finset.sum_congr rfl fun d _ => congrArg₂ (· * ·) (cast_drop (a := 512) (b := 128) ql _ r d) (cast_drop (a := 512) (b := 128) k1 _ j d)
  · rfl

theorem max1_apply (mm : Vec Ideal S1x1024x128 .f32) (s : Vec Ideal S1x1x1024x512 .f32) (r : Fin 1024) (g : ℕ → EReal)
    (hg : ∀ j : Fin 512, k0_pay137 k0_pay133 s (ix2 r j) = g j.val) (l : Fin 128) :
    k0_pay142 k0_pay133 mm s (ix2 r l) = max (mm (ix3 0 r l)) ((Finset.range 512).sup g) := by
  unfold k0_pay142
  refine congrArg₂ (max : EReal → EReal → EReal) (shapeCast_1ab_ab_apply (a := 1024) (b := 128) mm _ r l) ?_
  refine laneMax (M := 1024) _ _ _ _ _ _ g r (fun l => ?_) l
  exact congrArg₂ (max : EReal → EReal → EReal) (congrArg₂ (max : EReal → EReal → EReal) (congrArg₂ (max : EReal → EReal → EReal)
    (lanes_zero (M := 1024) _ g r hg slices_S1024x512_o0_0_S1024x128 l) (lanes (M := 1024) _ g r hg 128 slices_S1024x512_o0_128_S1024x128 (by decide) l))
    (lanes (M := 1024) _ g r hg 256 slices_S1024x512_o0_256_S1024x128 (by decide) l)) (lanes (M := 1024) _ g r hg 384 slices_S1024x512_o0_384_S1024x128 (by decide) l)

theorem weights1_apply (mm : Vec Ideal S1x1024x128 .f32) (s : Vec Ideal S1x1x1024x512 .f32) (r : Fin 1024) (g : ℕ → EReal) (M : EReal)
    (hg : ∀ j : Fin 512, k0_pay137 k0_pay133 s (ix2 r j) = g j.val) (hM : ∀ l : Fin 128, k0_pay142 k0_pay133 mm s (ix2 r l) = M) (j : Fin 512) :
    k0_pay143 k0_pay133 mm s (ix2 r j) = Ideal.exp (g j.val - M) := by
  unfold k0_pay143
  have f : ∀ {a b : EReal}, a = b → ∀ l : Fin 128, Ideal.exp (a - k0_pay142 k0_pay133 mm s (ix2 r l)) = Ideal.exp (b - M) := fun h l => by rw [h, hM]
  exact side (M := 1024) _ _ _ _ concatenates_S1024x128_S1024x128_S1024x128_S1024x128_S1024x512_d1 (fun j => Ideal.exp (g j - M)) r
    (fun l => f (lanes_zero (M := 1024) _ g r hg slices_S1024x512_o0_0_S1024x128 l) l)
    (fun l => f (lanes (M := 1024) _ g r hg 128 slices_S1024x512_o0_128_S1024x128 (by decide) l) l)
    (fun l => f (lanes (M := 1024) _ g r hg 256 slices_S1024x512_o0_256_S1024x128 (by decide) l) l)
    (fun l => f (lanes (M := 1024) _ g r hg 384 slices_S1024x512_o0_384_S1024x128 (by decide) l) l) j

/-- The sum after the first chunk. -/
theorem acc1_apply (a mo mn : FVec Ideal S1024x128 .f32) (p : FVec Ideal S1024x512 .f32) (v : Vec Ideal S1x1x512x128 .bf16) (r : Fin 1024) (d : Fin 128) :
    k0_pay144 a mo mn p v (ix2 r d) = a (ix2 r d) * Ideal.exp (mo (ix2 r d) - mn (ix2 r d)) + ∑ j : Fin 512, p (ix2 r j) * v (ix4 0 0 j d) := by
  unfold k0_pay144
  exact sum_apply _ _ v r d

theorem max2_apply (m1 : FVec Ideal S1024x128 .f32) (k1 ql : Vec Ideal S1x1x512x128 .bf16) (r : Fin 512) (r' : Fin 1024) (hr : r'.val = 512 + r.val) (g : ℕ → EReal)
    (hg : ∀ j : Fin 512, k0_pay145 k0_pay133 k1 ql (ix2 r j) = g j.val) (l : Fin 128) :
    k0_pay151 k0_pay133 m1 k1 ql (ix2 r l) = max (m1 (ix2 r' l)) ((Finset.range 512).sup g) := by
  unfold k0_pay151
  refine congrArg₂ (max : EReal → EReal → EReal) (cut (a := 1024) (b := 128) (a' := 512) (b' := 128) m1 512 0 slices_S1024x128_o512_0_S512x128 r l r' l hr (by omega)) ?_
  refine laneMax (M := 512) _ _ _ _ _ _ g r (fun l => ?_) l
  exact congrArg₂ (max : EReal → EReal → EReal) (congrArg₂ (max : EReal → EReal → EReal) (congrArg₂ (max : EReal → EReal → EReal)
    (lanes_zero (M := 512) _ g r hg slices_S512x512_o0_0_S512x128 l) (lanes (M := 512) _ g r hg 128 slices_S512x512_o0_128_S512x128 (by decide) l))
    (lanes (M := 512) _ g r hg 256 slices_S512x512_o0_256_S512x128 (by decide) l)) (lanes (M := 512) _ g r hg 384 slices_S512x512_o0_384_S512x128 (by decide) l)

/-- The rows below 512 keep the first chunk's sum; the others add the second chunk's. -/
theorem acc2_low (a1 m1 : FVec Ideal S1024x128 .f32) (k1 ql v1 : Vec Ideal S1x1x512x128 .bf16) (r : Fin 1024) (hr : r.val < 512) (d : Fin 128) :
    k0_pay156 a1 (k0_pay146 m1) (k0_pay151 k0_pay133 m1 k1 ql) (k0_pay152 k0_pay133 m1 k1 ql) (k0_pay153 k0_pay133 m1 k1 ql) (k0_pay154 k0_pay133 m1 k1 ql)
      (k0_pay155 k0_pay133 m1 k1 ql) v1 (ix2 r d) = a1 (ix2 r d) := by
  unfold k0_pay156
  refine (stack (A := 512) (B := 1024) (C := 128) _ _ concatenates_S512x128_S512x128_S1024x128_d0 r d rfl).trans ?_
  rw [dif_pos hr]
  exact cut (a := 1024) (b := 128) (a' := 512) (b' := 128) a1 0 0 slices_S1024x128_o0_0_S512x128 ⟨r.val, hr⟩ d r d (by show r.val = 0 + r.val; omega) (by omega)

theorem acc2_high (a1 m1 : FVec Ideal S1024x128 .f32) (k1 ql v1 : Vec Ideal S1x1x512x128 .bf16) (r : Fin 1024) (r2 : Fin 512) (hr : r.val = 512 + r2.val) (g : ℕ → EReal) (M : EReal)
    (hg : ∀ j : Fin 512, k0_pay145 k0_pay133 k1 ql (ix2 r2 j) = g j.val) (hM : ∀ l : Fin 128, k0_pay151 k0_pay133 m1 k1 ql (ix2 r2 l) = M) (d : Fin 128) :
    k0_pay156 a1 (k0_pay146 m1) (k0_pay151 k0_pay133 m1 k1 ql) (k0_pay152 k0_pay133 m1 k1 ql) (k0_pay153 k0_pay133 m1 k1 ql) (k0_pay154 k0_pay133 m1 k1 ql)
      (k0_pay155 k0_pay133 m1 k1 ql) v1 (ix2 r d)
      = a1 (ix2 r d) * Ideal.exp (m1 (ix2 r d) - M) + ∑ j : Fin 512, Ideal.exp (g j.val - M) * v1 (ix4 0 0 j d) := by
  unfold k0_pay156
  refine (stack (A := 512) (B := 1024) (C := 128) _ _ concatenates_S512x128_S512x128_S1024x128_d0 r d rfl).trans ?_
  rw [dif_neg (by omega)]
  have er : (⟨r.val - 512, by have := r.isLt; omega⟩ : Fin 512) = r2 := Fin.ext (by show r.val - 512 = r2.val; omega)
  rw [er]
  have c : ∀ z : FVec Ideal S1024x128 .f32, extractStridedSlice S512x128 ![512, 0] z slices_S1024x128_o512_0_S512x128 (ix2 r2 d) = z (ix2 r d) := fun z =>
    cut (a := 1024) (b := 128) (a' := 512) (b' := 128) z 512 0 slices_S1024x128_o512_0_S512x128 r2 d r d hr (by omega)
  refine congrArg₂ (fun a b : EReal => a + b) (congrArg₂ (fun a b : EReal => a * b) (c a1) (congrArg Ideal.exp (congrArg₂ (fun a b : EReal => a - b) (c m1) (hM d)))) ?_
  refine (Ideal.matmul_plain_apply (M := 512) (K := 512) (N := 128) none _ _ _ r2 d).trans ?_
  rw [show (constant (F := Ideal) S512x128 .f32 0x00000000#32) (ix2 r2 d) = 0 from Ideal.ofBits_zero_f32, zero_add]
  refine Finset.sum_congr rfl fun j _ => congrArg₂ (fun a b : EReal => a * b) ?_ (cast_drop (a := 512) (b := 128) v1 _ j d)
  have f : ∀ {a b : EReal}, a = b → ∀ l : Fin 128, Ideal.exp (a - k0_pay151 k0_pay133 m1 k1 ql (ix2 r2 l)) = Ideal.exp (b - M) := fun h l => by rw [h, hM]
  exact side (M := 512) _ _ _ _ concatenates_S512x128_S512x128_S512x128_S512x128_S512x512_d1 (fun j => Ideal.exp (g j - M)) r2
    (fun l => f (lanes_zero (M := 512) _ g r2 hg slices_S512x512_o0_0_S512x128 l) l)
    (fun l => f (lanes (M := 512) _ g r2 hg 128 slices_S512x512_o0_128_S512x128 (by decide) l) l)
    (fun l => f (lanes (M := 512) _ g r2 hg 256 slices_S512x512_o0_256_S512x128 (by decide) l) l)
    (fun l => f (lanes (M := 512) _ g r2 hg 384 slices_S512x512_o0_384_S512x128 (by decide) l) l) j

/-- After the diagonal each row holds its causal weighted sum over the keys up to the tile's end. -/
theorem at_fin (Q : Fin 1024 → Fin 128 → EReal) (K V : ℕ → Fin 128 → EReal) (k : ℕ) (x : Hd Ideal) (h : At Q K V k x)
    (ql vl v0 k1 v1 : Vec Ideal S1x1x512x128 .bf16)
    (hq : ∀ (r : Fin 512) (r' : Fin 1024), r'.val = 512 + r.val → ∀ d, ql (ix4 0 0 r d) = Q r' d)
    (hvl : ∀ (j : Fin 512) d, vl (ix4 0 0 j d) = V (512 * (k - 1) + j.val) d) (hv0 : ∀ (j : Fin 512) d, v0 (ix4 0 0 j d) = V (512 * k + j.val) d)
    (hk1 : ∀ (j : Fin 512) d, k1 (ix4 0 0 j d) = K (512 * (k + 1) + j.val) d) (hv1 : ∀ (j : Fin 512) d, v1 (ix4 0 0 j d) = V (512 * (k + 1) + j.val) d)
    (r : Fin 1024) (d : Fin 128) :
    Hd.fin ql vl v0 k1 v1 x (ix2 r d) = attend (causal (512 * k + r.val) (Q r) K) (fun j => V j d) (512 * (k + 2)) := by
  have hr := r.isLt
  -- the row's causal scores
  have hlow : ∀ j < 512 * k, score (Q r) K j = causal (512 * k + r.val) (Q r) K j := fun j hj => (if_pos (by omega)).symm
  have hg1 : ∀ j : Fin 512, k0_pay137 k0_pay133 x.s (ix2 r j) = causal (512 * k + r.val) (Q r) K (512 * k + j.val) := fun j => by
    rw [masked1, h.s]
    unfold causal
    exact if_congr (by omega) rfl rfl
  have hM1 : ∀ l : Fin 128, k0_pay142 k0_pay133 x.m x.s (ix2 r l) = mx (causal (512 * k + r.val) (Q r) K) (512 * (k + 1)) := fun l => by
    rw [max1_apply x.m x.s r (fun j => causal (512 * k + r.val) (Q r) K (512 * k + j)) hg1 l, h.m, mx_congr hlow, Nat.mul_succ, mx_chunk]
  -- the sum after the first chunk
  have hA1 : k0_pay144 (k0_pay135 (k0_pay134 x.a x.c) x.p vl) (k0_pay136 x.m) (k0_pay142 k0_pay133 x.m x.s) (k0_pay143 k0_pay133 x.m x.s) v0 (ix2 r d)
      = attend (causal (512 * k + r.val) (Q r) K) (fun j => V j d) (512 * (k + 1)) := by
    rw [acc1_apply, hM1]
    have e0 : k0_pay135 (k0_pay134 x.a x.c) x.p vl (ix2 r d) = attend (causal (512 * k + r.val) (Q r) K) (fun j => V j d) (512 * k) := by
      refine (sum_apply _ _ vl r d).trans ((congrArg₂ (· + ·) ?_ ?_).trans ((h.a r d).trans (attend_congr hlow fun _ _ => rfl)))
      · exact congrArg₂ (· * ·) (shapeCast_1ab_ab_apply (a := 1024) (b := 128) x.a _ r d) (cast_drop (a := 1024) (b := 128) x.c _ r d)
      · exact Finset.sum_congr rfl fun j _ => congrArg₂ (· * ·) (cast_drop (a := 1024) (b := 512) x.p _ r j) (hvl j d)
    have e1 : k0_pay136 x.m (ix2 r d) = mx (causal (512 * k + r.val) (Q r) K) (512 * k) :=
      (shapeCast_1ab_ab_apply (a := 1024) (b := 128) x.m _ r d).trans ((h.m r d).trans (mx_congr hlow))
    rw [e0, e1, Finset.sum_congr rfl fun j _ => by
      rw [weights1_apply x.m x.s r (fun j => causal (512 * k + r.val) (Q r) K (512 * k + j)) _ hg1 hM1 j, hv0], Nat.mul_succ]
    exact attend_chunk _ (fun j => V j d) (512 * k)
  unfold Hd.fin
  by_cases hlt : r.val < 512
  · rw [acc2_low _ _ _ _ _ r hlt d, hA1]
    refine (attend_extend _ _ (by omega) fun j hj => ?_).symm
    exact if_neg (by omega)
  · have hg2 : ∀ j : Fin 512, k0_pay145 k0_pay133 k1 ql (ix2 ⟨r.val - 512, by omega⟩ j) = causal (512 * k + r.val) (Q r) K (512 * (k + 1) + j.val) := fun j => by
      rw [masked2]
      unfold causal score
      refine if_congr (by show j.val ≤ r.val - 512 ↔ _; omega) (Finset.sum_congr rfl fun e _ => ?_) rfl
      rw [hq ⟨r.val - 512, by omega⟩ r (by show r.val = 512 + (r.val - 512); omega), hk1]
    have hM2 : ∀ l : Fin 128, k0_pay151 k0_pay133 (k0_pay142 k0_pay133 x.m x.s) k1 ql (ix2 ⟨r.val - 512, by omega⟩ l)
        = mx (causal (512 * k + r.val) (Q r) K) (512 * (k + 2)) := fun l => by
      rw [max2_apply _ k1 ql ⟨r.val - 512, by omega⟩ r (by show r.val = 512 + (r.val - 512); omega) (fun j => causal (512 * k + r.val) (Q r) K (512 * (k + 1) + j)) hg2 l,
        hM1, show 512 * (k + 2) = 512 * (k + 1) + 512 by omega, mx_chunk]
    rw [acc2_high _ _ k1 ql v1 r ⟨r.val - 512, by omega⟩ (by show r.val = 512 + (r.val - 512); omega) (fun j => causal (512 * k + r.val) (Q r) K (512 * (k + 1) + j)) _ hg2 hM2 d,
      hA1, hM1, Finset.sum_congr rfl fun j _ => by rw [hv1], show 512 * (k + 2) = 512 * (k + 1) + 512 by omega]
    exact attend_chunk _ (fun j => V j d) (512 * (k + 1))

end Cert.AttnIdeal.Body

end

end
-- ==== Proof.AttnIdealRun.lean ====
/- The launch of the attention: what each grid point leaves, the run of @main, and the frame. -/
module

public import proofs.«01_k».proof.Proof.AttnIdealBody
public import Idealize.ShloMosaic.Lib.Pipeline.TableIdle
public import Idealize.ShloMosaic.Lib.Claim

@[expose] public section

set_option maxRecDepth 16384

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The block grid point `t` leaves in the output's buffer. -/
def left (c : Dev nD) (t : Fin cfg0.N) : FVec F S1x1024x128 .bf16 :=
  outF (grid0.coords t) (st0_0 t) (st0_1 t) (st0_2 t) ((st0_0 t).view.rep (iblk m c 0 t)) ((st0_1 t).view.rep (iblk m c 1 t)) ((st0_2 t).view.rep (iblk m c 2 t))

/-- The proof data: the inputs keep their blocks, the output holds what the point leaves, and the scratch buffers are
    anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => left m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = left m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- A whole buffer held is its memref held. -/
theorem held_whole (c : Dev nD) (b : Ref sig .tc) (f : Buf (Elt F) ((c : Thread nD τ).loc b)) :
    (((c : Thread nD τ).loc b ↦{fullShare} f) : sProp 𝕄)
      = ((Memref.whole b).view.loc (c : Thread nD τ) ↦[(Memref.whole b).view.set]{fullShare} f) := by
  have h : (Memref.whole b).view.set = Finset.univ := View.set_whole b
  rw [h]

set_option maxHeartbeats 1000000 in
/-- The body at any point. -/
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d)))
      ⊢ wp frame (wpE (defs₀ (F := F)) Variants.none c none) Set.univ (bodyAt0 t) (fun _ =>
        iprop((dats m 0 c).Φ t.succ ∗ (dats m 0 c).owesAt () t.succ
          ∗ owns (c : Thread nD τ) (st0_0 t) fullShare ((dats m 0 c).after 0 t)
          ∗ owns (c : Thread nD τ) (st0_1 t) fullShare ((dats m 0 c).after 1 t)
          ∗ owns (c : Thread nD τ) (st0_2 t) fullShare ((dats m 0 c).after 2 t)
          ∗ owns (c : Thread nD τ) (st0_3 t) fullShare ((dats m 0 c).after 3 t))) := by
  unfold bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3]
  unfold Pipeline.ΦA
  rw [scopedRest0_eq]
  simp only [held_whole]
  iintro ⟨⟨⟨⟨%f7, H7⟩, ⟨%f8, H8⟩, ⟨%f9, H9⟩, ⟨%f10, H10⟩, ⟨%f11, H11⟩⟩, Hr⟩, Ho, ⟨%d0, H0⟩, ⟨%d1, H1⟩, ⟨%d2, H2⟩, ⟨%d3, H3⟩⟩
  iapply (wp_wand_r Idealize.ShloMosaic.frame (wpE (defs₀ (F := F)) Variants.none (c : Thread nD τ) none) Set.univ)
  isplitl [H0 H1 H2 H3 H7 H8 H9 H10 H11]
  · iapply (run (F := F) Variants.none c none (grid0.coords t) (st0_0 t) _ (st0_1 t) _ (st0_2 t) _ (st0_3 t) _ (Memref.whole cc0_scratch0) _ (Memref.whole cc0_scratch1) _
      (Memref.whole cc0_scratch2) _ (Memref.whole cc0_scratch3) _ (Memref.whole cc0_scratch4) _)
    isplitl [H0 H1 H2 H7 H8 H9 H10 H11]
    · isplitl [H0]; · iapply rep_of_owns; iexact H0
      isplitl [H1]; · iapply rep_of_owns; iexact H1
      isplitl [H2]; · iapply rep_of_owns; iexact H2
      isplitl [H7]; · iexact H7
      isplitl [H8]; · iexact H8
      isplitl [H9]; · iexact H9
      isplitl [H10]; · iexact H10
      iexact H11
    · iapply rep_of_owns; iexact H3
  iintro %_ ⟨%g7, %g8, %g9, %g10, %g11, %g6, ⟨H0, H1, H2, H7, H8, H9, H10, H11⟩, H3, %h⟩
  isplitl [H7 H8 H9 H10 H11 Hr]
  · isplitl [H7 H8 H9 H10 H11]
    · isplitl [H7]; · iexists _; iexact H7
      isplitl [H8]; · iexists _; iexact H8
      isplitl [H9]; · iexists _; iexact H9
      isplitl [H10]; · iexists _; iexact H10
      iexists _; iexact H11
    · iexact Hr
  isplitl [Ho]; · iexact Ho
  isplitl [H0]; · iapply owns_of_rep; iexact H0
  isplitl [H1]; · iapply owns_of_rep; iexact H1
  isplitl [H2]; · iapply owns_of_rep; iexact H2
  unfold owns; iexists _; isplitr; swap
  · iexact H3
  · ipureintro; exact h

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- From any memory with zero counters @main ends, each array at what the grid points leave and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c w => by fin_cases w <;> rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end as launched and every counter ends at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.AttnIdeal.Body

end
-- ==== Proof.AttnIdealValue.lean ====
/- The attention's result array: each grid point's block is its two heads' causal weighted sums over their normalisers. -/
module

public import proofs.«01_k».proof.Proof.AttnIdealDiag
public import proofs.«01_k».proof.Proof.AttnIdealRun

@[expose] public section

noncomputable section

namespace Cert.AttnIdeal.Body

open Idealize.ShloMosaic hiding ix1 ix2 ix3 ix4 eq_ix1 eq_ix2 eq_ix3 eq_ix4
open Idealize.ShloMosaic.TcCoe Idealize.SL.Sem
open Idealize.ShloMosaic.ValueIdx
open Cert.Spec Cert.AttnSpec
open Cert.AttnIdeal Cert.AttnIdeal.Gen
open Idealize.ShloMosaic.Pipeline (Dat)

/-- Row `n` of head `h` of a block of keys or values. -/
def blkRow (X : (⟨4, ![1, 2, 16384, 128]⟩ : Shape).Idx → EReal) (h : Fin 2) (n : ℕ) (d : Fin 128) : EReal :=
  if hn : n < 16384 then X (ix4 0 h ⟨n, hn⟩ d) else 0

theorem ld (arg : Memref sig .tc .vmem S1x2x16384x128 .bf16) (X : S1x2x16384x128.Idx → Elt Ideal .bf16) (off : Fin 4 → ℕ)
    (inb : ∀ a, off a + S1x1x512x128.size a ≤ S1x2x16384x128.size a) (h : Fin 2) (n : ℕ) (ho : off = ![0, h.val, n, 0]) (j : Fin 512) (d : Fin 128) :
    ldKV (F := Ideal) arg (arg.view.rep X) off inb (ix4 0 0 j d) = blkRow X h (n + j.val) d := by
  subst ho
  have hj := j.isLt
  have hn : n + 512 ≤ 16384 := inb 2
  unfold ldKV blkRow
  rw [View.readAt_rep_unit _ _ _ rfl inb, dif_pos (by omega)]
  refine congrArg X (funext fun a => Fin.ext ?_)
  match a with
  | ⟨0, _⟩ => rfl
  | ⟨1, _⟩ => rfl
  | ⟨2, _⟩ => show n + 1 * j.val = n + j.val; omega
  | ⟨3, _⟩ => show 0 + 1 * d.val = d.val; omega

theorem ldq (arg : Memref sig .tc .vmem S1x2x1024x128 .bf16) (X : S1x2x1024x128.Idx → Elt Ideal .bf16) (h : Fin 2)
    (inb : ∀ a, (![0, h.val, 0, 0] : Fin 4 → ℕ) a + S1x1x1024x128.size a ≤ S1x2x1024x128.size a) (r : Fin 1024) (d : Fin 128) :
    View.readAt (Elt Ideal) arg.view (Rect.unit (s := S1x2x1024x128) ![0, h.val, 0, 0] S1x1x1024x128.size inb).toLoadRect (arg.view.rep X) (ix4 0 0 r d)
      = X (ix4 0 h r d) := by
  rw [View.readAt_rep_unit _ _ _ rfl inb]
  refine congrArg X (funext fun a => Fin.ext ?_)
  match a with
  | ⟨0, _⟩ => rfl
  | ⟨1, _⟩ => rfl
  | ⟨2, _⟩ => show 0 + 1 * r.val = r.val; omega
  | ⟨3, _⟩ => show 0 + 1 * d.val = d.val; omega

theorem ldql (arg : Memref sig .tc .vmem S1x2x1024x128 .bf16) (X : S1x2x1024x128.Idx → Elt Ideal .bf16) (h : Fin 2)
    (inb : ∀ a, (![0, h.val, 512, 0] : Fin 4 → ℕ) a + S1x1x512x128.size a ≤ S1x2x1024x128.size a) (r : Fin 512) (r' : Fin 1024) (hr : r'.val = 512 + r.val) (d : Fin 128) :
    View.readAt (Elt Ideal) arg.view (Rect.unit (s := S1x2x1024x128) ![0, h.val, 512, 0] S1x1x512x128.size inb).toLoadRect (arg.view.rep X) (ix4 0 0 r d)
      = X (ix4 0 h r' d) := by
  rw [View.readAt_rep_unit _ _ _ rfl inb]
  refine congrArg X (funext fun a => Fin.ext ?_)
  match a with
  | ⟨0, _⟩ => rfl
  | ⟨1, _⟩ => rfl
  | ⟨2, _⟩ => show 512 + 1 * r.val = r'.val; omega
  | ⟨3, _⟩ => show 0 + 1 * d.val = d.val; omega

/-- The loop carries a head two chunks a trip. -/
theorem loop_at (Q : Fin 1024 → Fin 128 → EReal) (K V : ℕ → Fin 128 → EReal) {n : ℕ} (f : Fin n → Hd Ideal → Hd Ideal) (x : Hd Ideal) (h0 : At Q K V 0 x)
    (hs : ∀ (k : Fin n) (y : Hd Ideal), At Q K V (2 * k.val) y → At Q K V (2 * k.val + 1 + 1) (f k y)) :
    ∀ k : ℕ, k ≤ n → At Q K V (2 * k) (iter f x k)
  | 0, _ => h0
  | k + 1, hk => by
    have := hs ⟨k, hk⟩ _ (loop_at Q K V f x h0 hs k (by omega))
    rw [iter_succ f x ⟨k, hk⟩]
    exact this

theorem trips_eq : ∀ t : Fin grid0.N, (k0_t1_loop (grid0.coords t)).trips = (grid0.coords t 2).val := by decide +kernel

theorem coord0 : ∀ t : Fin grid0.N, (grid0.coords t 0).val = t.val / 128 := by decide +kernel
theorem coord1 : ∀ t : Fin grid0.N, (grid0.coords t 1).val = t.val / 16 % 8 := by decide +kernel
theorem coord2 : ∀ t : Fin grid0.N, (grid0.coords t 2).val = t.val % 16 := by decide +kernel

theorem word_next : ∀ k : Fin 16, (Scalar.muli (Scalar.addi (Scalar.muli 2#32 (Scf.iv 0#32 1#32 k.val)) 1#32) 512#32).toNat = 512 * (2 * k.val + 1) := by decide +kernel
theorem word_last : ∀ k : Fin 16, (Scalar.muli (Scalar.maxsi (Scalar.subi (Scalar.muli 2#32 (Scf.iv 0#32 1#32 k.val)) 1#32) 0#32) 512#32).toNat = 512 * (2 * k.val - 1) := by decide +kernel

theorem word_next' : ∀ k : Fin 16, (Scalar.muli (Scalar.addi (Scalar.addi (Scalar.muli 2#32 (Scf.iv 0#32 1#32 k.val)) 1#32) 1#32) 512#32).toNat = 512 * (2 * k.val + 1 + 1) := by
  decide +kernel
theorem word_last' : ∀ k : Fin 16, (Scalar.muli (Scalar.maxsi (Scalar.subi (Scalar.addi (Scalar.muli 2#32 (Scf.iv 0#32 1#32 k.val)) 1#32) 1#32) 0#32) 512#32).toNat
    = 512 * (2 * k.val + 1 - 1) := by
  decide +kernel

section Offsets

variable (t : Fin grid0.N) (k : Fin (k0_t1_loop (grid0.coords t)).trips)

theorem trip_lt : k.val < 16 := by
  have h := k.isLt
  have e := trips_eq t
  have e2 := coord2 t
  omega

theorem off1_eq : k0_off1 (grid0.coords t) k = ![0, 0, 512 * (2 * k.val + 1), 0] := congrArg (fun n => ![0, 0, n, 0]) (word_next ⟨k.val, trip_lt t k⟩)
theorem off3_eq : k0_off3 (grid0.coords t) k = ![0, 1, 512 * (2 * k.val + 1), 0] := congrArg (fun n => ![0, 1, n, 0]) (word_next ⟨k.val, trip_lt t k⟩)
theorem off2_eq : k0_off2 (grid0.coords t) k = ![0, 0, 512 * (2 * k.val - 1), 0] := congrArg (fun n => ![0, 0, n, 0]) (word_last ⟨k.val, trip_lt t k⟩)
theorem off4_eq : k0_off4 (grid0.coords t) k = ![0, 1, 512 * (2 * k.val - 1), 0] := congrArg (fun n => ![0, 1, n, 0]) (word_last ⟨k.val, trip_lt t k⟩)

theorem off5_eq : k0_off5 (grid0.coords t) k = ![0, 0, 512 * (2 * k.val + 1 + 1), 0] := congrArg (fun n => ![0, 0, n, 0]) (word_next' ⟨k.val, trip_lt t k⟩)
theorem off7_eq : k0_off7 (grid0.coords t) k = ![0, 1, 512 * (2 * k.val + 1 + 1), 0] := congrArg (fun n => ![0, 1, n, 0]) (word_next' ⟨k.val, trip_lt t k⟩)
theorem off6_eq : k0_off6 (grid0.coords t) k = ![0, 0, 512 * (2 * k.val + 1 - 1), 0] := congrArg (fun n => ![0, 0, n, 0]) (word_last' ⟨k.val, trip_lt t k⟩)
theorem off8_eq : k0_off8 (grid0.coords t) k = ![0, 1, 512 * (2 * k.val + 1 - 1), 0] := congrArg (fun n => ![0, 1, n, 0]) (word_last' ⟨k.val, trip_lt t k⟩)

end Offsets

theorem off17_eq : ∀ t : Fin grid0.N, k0_off17 (grid0.coords t) = ![0, 0, 512 * (2 * (grid0.coords t 2).val - 1), 0] := by decide +kernel
theorem off19_eq : ∀ t : Fin grid0.N, k0_off19 (grid0.coords t) = ![0, 1, 512 * (2 * (grid0.coords t 2).val - 1), 0] := by decide +kernel
theorem off18_eq0 : ∀ t : Fin grid0.N, k0_off18 (grid0.coords t) 0#32 = ![0, 0, 512 * (2 * (grid0.coords t 2).val), 0] := by decide +kernel
theorem off20_eq0 : ∀ t : Fin grid0.N, k0_off20 (grid0.coords t) 0#32 = ![0, 1, 512 * (2 * (grid0.coords t 2).val), 0] := by decide +kernel
theorem off18_eq1 : ∀ t : Fin grid0.N, k0_off18 (grid0.coords t) 1#32 = ![0, 0, 512 * (2 * (grid0.coords t 2).val + 1), 0] := by decide +kernel
theorem off20_eq1 : ∀ t : Fin grid0.N, k0_off20 (grid0.coords t) 1#32 = ![0, 1, 512 * (2 * (grid0.coords t 2).val + 1), 0] := by decide +kernel

section Point

variable (t : Fin grid0.N) (arg3 : Memref sig .tc .vmem S1x2x1024x128 .bf16) (arg4 arg5 : Memref sig .tc .vmem S1x2x16384x128 .bf16)
  (X3 : S1x2x1024x128.Idx → Elt Ideal .bf16) (X4 X5 : S1x2x16384x128.Idx → Elt Ideal .bf16)

/-- Head 0 of a grid point: row `r`'s causal weighted sum. -/
theorem fin0_apply (r : Fin 1024) (d : Fin 128) :
    fin0 (F := Ideal) (grid0.coords t) arg3 arg4 arg5 (arg3.view.rep X3) (arg4.view.rep X4) (arg5.view.rep X5) (ix2 r d)
      = attend (causal (512 * (2 * (grid0.coords t 2).val) + r.val) (fun e => X3 (ix4 0 0 r e)) (blkRow X4 0)) (fun j => blkRow X5 0 j d)
          (512 * (2 * (grid0.coords t 2).val + 2)) := by
  have hend : At (fun r e => X3 (ix4 0 0 r e)) (blkRow X4 0) (blkRow X5 0) (2 * (grid0.coords t 2).val)
      (end0 (F := Ideal) (grid0.coords t) arg3 arg4 arg5 (arg3.view.rep X3) (arg4.view.rep X4) (arg5.view.rep X5)) := by
    unfold end0
    have h := loop_at (fun r e => X3 (ix4 0 0 r e)) (blkRow X4 0) (blkRow X5 0)
      (trip0 (F := Ideal) (grid0.coords t) arg3 arg4 arg5 (arg3.view.rep X3) (arg4.view.rep X4) (arg5.view.rep X5)) _
      (at_start _ (blkRow X4 0) (blkRow X5 0) _ _ (fun r d => ldq arg3 X3 0 inb_S1x2x1024x128_S1x1x1024x128_0_0_0_0 r d)
        (fun j d => (ld arg4 X4 ![0, 0, 0, 0] inb_S1x2x16384x128_S1x1x512x128_0_0_0_0 0 0 rfl j d).trans (congrArg (blkRow X4 0 · d) (Nat.zero_add _))))
      (fun k y hy => at_step _ _ _ _ _
        (at_step _ _ _ _ y hy _ _ _ (fun r d => ldq arg3 X3 0 inb_S1x2x1024x128_S1x1x1024x128_0_0_0_0 r d)
          (fun j d => ld arg4 X4 _ _ 0 _ (off1_eq t k) j d) (fun j d => ld arg5 X5 _ _ 0 _ (off2_eq t k) j d))
        _ _ _ (fun r d => ldq arg3 X3 0 inb_S1x2x1024x128_S1x1x1024x128_0_0_0_0 r d)
        (fun j d => ld arg4 X4 _ _ 0 _ (off5_eq t k) j d) (fun j d => ld arg5 X5 _ _ 0 _ (off6_eq t k) j d))
      _ (le_refl _)
    rw [show 2 * (grid0.coords t 2).val = 2 * (k0_t1_loop (grid0.coords t)).trips by rw [trips_eq]]
    exact h
  unfold fin0
  exact at_fin _ _ _ _ _ hend _ _ _ _ _ (fun r r' hr d => ldql arg3 X3 0 inb_S1x2x1024x128_S1x1x512x128_0_0_512_0 r r' hr d)
    (fun j d => ld arg5 X5 _ _ 0 _ (off17_eq t) j d) (fun j d => ld arg5 X5 _ _ 0 _ (off18_eq0 t) j d)
    (fun j d => ld arg4 X4 _ _ 0 _ (off18_eq1 t) j d) (fun j d => ld arg5 X5 _ _ 0 _ (off18_eq1 t) j d) r d

/-- Head 1 of a grid point. -/
theorem fin1_apply (r : Fin 1024) (d : Fin 128) :
    fin1 (F := Ideal) (grid0.coords t) arg3 arg4 arg5 (arg3.view.rep X3) (arg4.view.rep X4) (arg5.view.rep X5) (ix2 r d)
      = attend (causal (512 * (2 * (grid0.coords t 2).val) + r.val) (fun e => X3 (ix4 0 1 r e)) (blkRow X4 1)) (fun j => blkRow X5 1 j d)
          (512 * (2 * (grid0.coords t 2).val + 2)) := by
  have hend : At (fun r e => X3 (ix4 0 1 r e)) (blkRow X4 1) (blkRow X5 1) (2 * (grid0.coords t 2).val)
      (end1 (F := Ideal) (grid0.coords t) arg3 arg4 arg5 (arg3.view.rep X3) (arg4.view.rep X4) (arg5.view.rep X5)) := by
    unfold end1
    have h := loop_at (fun r e => X3 (ix4 0 1 r e)) (blkRow X4 1) (blkRow X5 1)
      (trip1 (F := Ideal) (grid0.coords t) arg3 arg4 arg5 (arg3.view.rep X3) (arg4.view.rep X4) (arg5.view.rep X5)) _
      (at_start _ (blkRow X4 1) (blkRow X5 1) _ _ (fun r d => ldq arg3 X3 1 inb_S1x2x1024x128_S1x1x1024x128_0_1_0_0 r d)
        (fun j d => (ld arg4 X4 ![0, 1, 0, 0] inb_S1x2x16384x128_S1x1x512x128_0_1_0_0 1 0 rfl j d).trans (congrArg (blkRow X4 1 · d) (Nat.zero_add _))))
      (fun k y hy => at_step _ _ _ _ _
        (at_step _ _ _ _ y hy _ _ _ (fun r d => ldq arg3 X3 1 inb_S1x2x1024x128_S1x1x1024x128_0_1_0_0 r d)
          (fun j d => ld arg4 X4 _ _ 1 _ (off3_eq t k) j d) (fun j d => ld arg5 X5 _ _ 1 _ (off4_eq t k) j d))
        _ _ _ (fun r d => ldq arg3 X3 1 inb_S1x2x1024x128_S1x1x1024x128_0_1_0_0 r d)
        (fun j d => ld arg4 X4 _ _ 1 _ (off7_eq t k) j d) (fun j d => ld arg5 X5 _ _ 1 _ (off8_eq t k) j d))
      _ (le_refl _)
    rw [show 2 * (grid0.coords t 2).val = 2 * (k0_t1_loop (grid0.coords t)).trips by rw [trips_eq]]
    exact h
  unfold fin1
  exact at_fin _ _ _ _ _ hend _ _ _ _ _ (fun r r' hr d => ldql arg3 X3 1 inb_S1x2x1024x128_S1x1x512x128_0_1_512_0 r r' hr d)
    (fun j d => ld arg5 X5 _ _ 1 _ (off19_eq t) j d) (fun j d => ld arg5 X5 _ _ 1 _ (off20_eq0 t) j d)
    (fun j d => ld arg4 X4 _ _ 1 _ (off20_eq1 t) j d) (fun j d => ld arg5 X5 _ _ 1 _ (off20_eq1 t) j d) r d

end Point

/-- A column of a matrix, spread over the lanes. -/
theorem spread (z : FVec Ideal S1024x128 .f32) (o : Fin 128) (h : S1024x128.Slices ![0, o.val] S1024x1) (r : Fin 1024) (l : Fin 128) :
    broadcastTo S1024x128 (extractStridedSlice S1024x1 ![0, o.val] z h) broadcasts_S1024x1_S1024x128 (ix2 r l) = z (ix2 r o) :=
  (broadcastTo_apply _ broadcasts_S1024x1_S1024x128 (ix2 r l) (ix2 r 0) (fun a => match a with
    | ⟨0, _⟩ => rfl
    | ⟨1, _⟩ => rfl)).trans (cut (a := 1024) (b := 128) (a' := 1024) (b' := 1) z 0 o.val h r 0 r o (by omega) (by show o.val = o.val + 0; omega))

/-- The stored block: the lower half of the lanes from the first head over its lane 64, the upper from the second over its lane 0. -/
theorem out_apply (f0 f1 : FVec Ideal S1024x128 .f32) (r : Fin 1024) (l : Fin 128) :
    k0_pay1 f0 f1 (k0_pay167 f0) (ix3 0 r l)
      = if l.val < 64 then Ideal.div (f0 (ix2 r l)) (f0 (ix2 r 64)) else Ideal.div (f1 (ix2 r l)) (f1 (ix2 r 0)) := by
  unfold k0_pay1 k0_pay167
  refine (shapeCast_ab_1ab_apply (a := 1024) (b := 128) _ _ 0 r l).trans ?_
  have hl : IntOp.cmpi .slt (BitVec.ofNat 32 l.val) 64#32 = if l.val < 64 then 1#1 else 0#1 :=
    (by decide +kernel : ∀ l : Fin 128, IntOp.cmpi .slt (BitVec.ofNat 32 l.val) 64#32 = if l.val < 64 then 1#1 else 0#1) l
  have hi : cmpi .slt (iota .tc S1024x128 32 [1] iota_S1024x128_d1_w32) (broadcast S1024x128 64#32) (ix2 r l) = if l.val < 64 then 1#1 else 0#1 := by
    rw [← hl]; pointwise
  show Scalar.select (cmpi .slt (iota .tc S1024x128 32 [1] iota_S1024x128_d1_w32) (broadcast S1024x128 64#32) (ix2 r l))
    (Ideal.div (f0 (ix2 r l)) (broadcastTo S1024x128 (extractStridedSlice S1024x1 ![0, 64] f0 slices_S1024x128_o0_64_S1024x1) broadcasts_S1024x1_S1024x128 (ix2 r l)))
    (Ideal.div (f1 (ix2 r l)) (broadcastTo S1024x128 (extractStridedSlice S1024x1 ![0, 0] f1 slices_S1024x128_o0_0_S1024x1) broadcasts_S1024x1_S1024x128 (ix2 r l))) = _
  have s0 := spread f0 64 slices_S1024x128_o0_64_S1024x1 r l
  have s1 := spread f1 0 slices_S1024x128_o0_0_S1024x1 r l
  refine (congrArg₂ (fun a b : EReal => Scalar.select (cmpi .slt (iota .tc S1024x128 32 [1] iota_S1024x128_d1_w32) (broadcast S1024x128 64#32) (ix2 r l))
    (Ideal.div (f0 (ix2 r l)) a) (Ideal.div (f1 (ix2 r l)) b)) s0 s1).trans ?_
  rw [hi]
  split
  · rfl
  · rfl

variable (m : (ℓ : Loc nD τ sig) → Buf (Elt Ideal) ℓ) (ρ : Dev nD → PrngReg)

theorem index0 : ∀ t : Fin cfg0.N, (cfg0.win (0 : Fin 4)).index t = ![t.val / 128, t.val / 16 % 8, t.val % 16, 0] := (by decide +kernel : ∀ t : Fin grid0.N, _)
theorem index1 : ∀ t : Fin cfg0.N, (cfg0.win (1 : Fin 4)).index t = ![t.val / 128, t.val / 16 % 8, 0, 0] := (by decide +kernel : ∀ t : Fin grid0.N, _)
theorem index2 : ∀ t : Fin cfg0.N, (cfg0.win (2 : Fin 4)).index t = ![t.val / 128, t.val / 16 % 8, 0, 0] := (by decide +kernel : ∀ t : Fin grid0.N, _)
theorem index3 : ∀ t : Fin cfg0.N, (cfg0.win (3 : Fin 4)).index t = ![t.val / 128, t.val % 16, t.val / 16 % 8] := (by decide +kernel : ∀ t : Fin grid0.N, _)

theorem blk0 (c : Dev nD) (t : Fin cfg0.N) (h : Fin 2) (r : Fin 1024) (d : Fin 128) (b : Fin 2) (hh : Fin 16) (p : Fin 16384)
    (hb : b.val = t.val / 128) (hg : hh.val = t.val / 16 % 8 * 2 + h.val) (hp : p.val = t.val % 16 * 1024 + r.val) :
    iblk m c 0 t (ix4 0 h r d) = m ((c : Thread nD τ).loc main_arg0) (ix4 b hh p d) := by
  unfold iblk
  rw [View.read_apply]
  show V m c main_arg0 _ = V m c main_arg0 _
  refine congrArg (V m c main_arg0) (funext fun a => Fin.ext ?_)
  refine (Pipeline.Window.rect_emb_val (cfg0.win (0 : Fin 4)) t _ a).trans ?_
  rw [index0]
  match a with
  | ⟨0, _⟩ => show t.val / 128 * 1 + 0 = b.val; omega
  | ⟨1, _⟩ => show t.val / 16 % 8 * 2 + h.val = hh.val; omega
  | ⟨2, _⟩ => show t.val % 16 * 1024 + r.val = p.val; omega
  | ⟨3, _⟩ => show 0 * 128 + d.val = d.val; omega

theorem blk1 (c : Dev nD) (t : Fin cfg0.N) (h : Fin 2) (j : Fin 16384) (d : Fin 128) (b : Fin 2) (hh : Fin 16)
    (hb : b.val = t.val / 128) (hg : hh.val = t.val / 16 % 8 * 2 + h.val) :
    iblk m c 1 t (ix4 0 h j d) = m ((c : Thread nD τ).loc main_arg1) (ix4 b hh j d) := by
  unfold iblk
  rw [View.read_apply]
  show V m c main_arg1 _ = V m c main_arg1 _
  refine congrArg (V m c main_arg1) (funext fun a => Fin.ext ?_)
  refine (Pipeline.Window.rect_emb_val (cfg0.win (1 : Fin 4)) t _ a).trans ?_
  rw [index1]
  match a with
  | ⟨0, _⟩ => show t.val / 128 * 1 + 0 = b.val; omega
  | ⟨1, _⟩ => show t.val / 16 % 8 * 2 + h.val = hh.val; omega
  | ⟨2, _⟩ => show 0 * 16384 + j.val = j.val; omega
  | ⟨3, _⟩ => show 0 * 128 + d.val = d.val; omega

theorem blk2 (c : Dev nD) (t : Fin cfg0.N) (h : Fin 2) (j : Fin 16384) (d : Fin 128) (b : Fin 2) (hh : Fin 16)
    (hb : b.val = t.val / 128) (hg : hh.val = t.val / 16 % 8 * 2 + h.val) :
    iblk m c 2 t (ix4 0 h j d) = m ((c : Thread nD τ).loc main_arg2) (ix4 b hh j d) := by
  unfold iblk
  rw [View.read_apply]
  show V m c main_arg2 _ = V m c main_arg2 _
  refine congrArg (V m c main_arg2) (funext fun a => Fin.ext ?_)
  refine (Pipeline.Window.rect_emb_val (cfg0.win (2 : Fin 4)) t _ a).trans ?_
  rw [index2]
  match a with
  | ⟨0, _⟩ => show t.val / 128 * 1 + 0 = b.val; omega
  | ⟨1, _⟩ => show t.val / 16 % 8 * 2 + h.val = hh.val; omega
  | ⟨2, _⟩ => show 0 * 16384 + j.val = j.val; omega
  | ⟨3, _⟩ => show 0 * 128 + d.val = d.val; omega

/-- The table of results over the arguments of core `c`. -/
def result (c : Dev nD) : Buf (Elt Ideal) ((c : Thread nD τ).loc main_v0) :=
  table (m ((c : Thread nD τ).loc main_arg0)) (m ((c : Thread nD τ).loc main_arg1)) (m ((c : Thread nD τ).loc main_arg2))

/-- One head's sum at a grid point is the head's sum over the whole sequence. -/
theorem head_eq (c : Dev nD) (t : Fin cfg0.N) (h : Fin 2) (r : Fin 1024) (d : Fin 128) (b : Fin 2) (hh : Fin 16) (p : Fin 16384)
    (hb : b.val = t.val / 128) (hg : hh.val = t.val / 16 % 8 * 2 + h.val) (hp : p.val = t.val % 16 * 1024 + r.val) :
    attend (causal (512 * (2 * (grid0.coords t 2).val) + r.val) (fun e => iblk m c 0 t (ix4 0 h r e)) (blkRow (iblk m c 1 t) h)) (fun j => blkRow (iblk m c 2 t) h j d)
        (512 * (2 * (grid0.coords t 2).val + 2))
      = head (m ((c : Thread nD τ).loc main_arg0)) (m ((c : Thread nD τ).loc main_arg1)) (m ((c : Thread nD τ).loc main_arg2)) b hh p d := by
  have hr := r.isLt
  have e2 : (grid0.coords t 2).val = t.val % 16 := coord2 t
  have e0 : (fun e => iblk m c 0 t (ix4 0 h r e)) = fun e => m ((c : Thread nD τ).loc main_arg0) (ix4 b hh p e) :=
    funext fun e => blk0 m c t h r e b hh p hb hg hp
  have e1 : blkRow (iblk m c 1 t) h = rowsOf (m ((c : Thread nD τ).loc main_arg1)) b hh := funext fun j => funext fun e => by
    unfold blkRow rowsOf
    split
    · exact blk1 m c t h _ e b hh hb hg
    · rfl
  have e3 : blkRow (iblk m c 2 t) h = rowsOf (m ((c : Thread nD τ).loc main_arg2)) b hh := funext fun j => funext fun e => by
    unfold blkRow rowsOf
    split
    · exact blk2 m c t h _ e b hh hb hg
    · rfl
  rw [e0, e1, e3, show 512 * (2 * (grid0.coords t 2).val) + r.val = p.val by rw [e2]; omega]
  unfold head
  refine (attend_extend _ _ (by rw [e2]; omega) fun j hj => ?_).symm
  exact if_neg (by rw [e2] at hj; omega)

/-- What a grid point leaves in the output block. -/
theorem point (c : Dev nD) (t : Fin cfg0.N) (r : Fin 1024) (l : Fin 128) (b : Fin 2) (p : Fin 16384) (q : Fin 1024)
    (hb : b.val = t.val / 128) (hp : p.val = t.val % 16 * 1024 + r.val) (hq : q.val = t.val / 16 % 8 * 128 + l.val) :
    left m c t (ix3 0 r l) = result m c (ix3 b p q) := by
  have hl := l.isLt
  unfold left outF
  rw [out_apply]
  rw [fin0_apply t _ _ _ _ _ _ r l, fin0_apply t _ _ _ _ _ _ r 64, fin1_apply t _ _ _ _ _ _ r l, fin1_apply t _ _ _ _ _ _ r 0]
  refine Eq.trans ?_ (table_apply _ _ _ b p q).symm
  have eq1 : q.val % 128 = l.val := by omega
  have eq2 : q.val / 128 = t.val / 16 % 8 := by omega
  have el : (⟨q.val % 128, by omega⟩ : Fin 128) = l := Fin.ext eq1
  rw [el]
  refine if_congr (by rw [eq1]) ?_ ?_
  · rw [head_eq m c t 0 r l b ⟨2 * (q.val / 128), by omega⟩ p hb (by show 2 * (q.val / 128) = t.val / 16 % 8 * 2 + 0; omega) hp,
      head_eq m c t 0 r 64 b ⟨2 * (q.val / 128), by omega⟩ p hb (by show 2 * (q.val / 128) = t.val / 16 % 8 * 2 + 0; omega) hp]
  · rw [head_eq m c t 1 r l b ⟨2 * (q.val / 128) + 1, by omega⟩ p hb (by show 2 * (q.val / 128) + 1 = t.val / 16 % 8 * 2 + 1; omega) hp,
      head_eq m c t 1 r 0 b ⟨2 * (q.val / 128) + 1, by omega⟩ p hb (by show 2 * (q.val / 128) + 1 = t.val / 16 % 8 * 2 + 1; omega) hp]

/-- The output array after the grid. -/
theorem final (c : Dev nD) : (dats m 0 c).arrAt (3 : Fin 4) cfg0.N = result m c := by
  refine (dats m 0 c).arrAt_eq_of_covers (3 : Fin 4) _ (by decide +kernel) fun t hf y => ?_
  have ht : t.val < 256 := t.isLt
  blk_simp
  rw [after0_3]
  obtain ⟨z, r, l, rfl⟩ : ∃ (z : Fin 1) (r : Fin 1024) (l : Fin 128), y = ix3 z r l := ⟨y 0, y 1, y 2, eq_ix3 y⟩
  obtain rfl : z = 0 := Subsingleton.elim _ _
  have hr := r.isLt
  have hl := l.isLt
  refine (point m c t r l ⟨t.val / 128, by omega⟩ ⟨t.val % 16 * 1024 + r.val, by omega⟩ ⟨t.val / 16 % 8 * 128 + l.val, by omega⟩ rfl rfl rfl).trans
    (congrArg (result m c) (funext fun a => Fin.ext ?_))
  refine Eq.trans ?_ (Pipeline.Window.rect_emb_val (cfg0.win (3 : Fin 4)) t _ a).symm
  rw [index3]
  match a with
  | ⟨0, _⟩ => show t.val / 128 = t.val / 128 * 1 + 0; omega
  | ⟨1, _⟩ => rfl
  | ⟨2, _⟩ => rfl

/-- The idealized kernel ends with the table of results, its arguments as they were. -/
theorem value : θ_run (defs (F := Ideal)) (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(((h.2 c).1 (3 : Fin 4)).trans (final m c)), h.1 c⟩)
    (θ_run_and (frame_of m ρ (dats m) (A_eq m) (run_main m ρ)) (run_main m ρ))

end Cert.AttnIdeal.Body

end

end
-- ==== Proof.AttnRefValue.lean ====
/- The attention's reference: its scores, their maximum, the weighted sums and the division, read at an index. -/
module

public import proofs.«01_k».proof.Proof.AttnSpec
public import proofs.«01_k».proof.Proof.Gen.AttnRefIdeal.Read
public import Idealize.ShloMosaic.Lib.Pipeline.Value
public import Idealize.ShloMosaic.Lib.WordCmp
public import Idealize.ShloMosaic.Lib.Pointwise

@[expose] public section

noncomputable section

namespace Cert.AttnRefIdeal.Read

open Cert.AttnRefIdeal Cert.AttnRefIdeal.Gen
open Idealize.ShloMosaic hiding ix1 ix2 ix3 ix4 eq_ix1 eq_ix2 eq_ix3 eq_ix4
open Idealize.ShloMosaic.TcCoe Idealize.SL.Sem
open Idealize.ShloMosaic.ValueIdx
open Cert.Spec Cert.AttnSpec

variable (q k v : S2x16x16384x128.Idx → EReal)

theorem mask_apply (p j : Fin 16384) : val_main_v8 (F := Ideal) (ix2 p j) = if j.val ≤ p.val then 1#1 else 0#1 := by
  have hp := p.isLt
  have hj := j.isLt
  rw [val_main_v8_apply, val_main_v6_apply, val_main_v7_apply, val_main_v4_apply, val_main_v5_apply, val_main_v0_apply, val_main_v0_apply]
  show IntOp.cmpi .sge (BitVec.ofNat 32 p.val) (BitVec.ofNat 32 j.val) = _
  have e : ∀ a : ℕ, a < 16384 → (BitVec.ofNat 32 a).toNat = a := fun a h => by rw [BitVec.toNat_ofNat]; omega
  rw [WordCmp.cmpi_sge_of_lt (by rw [e _ hp]; omega) (by rw [e _ hj]; omega), e _ hp, e _ hj]
  by_cases h : j.val ≤ p.val
  · rw [if_pos h, decide_eq_true h]; rfl
  · rw [if_neg h, decide_eq_false h]; rfl

/-- The masked scores of a row. -/
theorem scores_apply (b : Fin 2) (h : Fin 16) (p j : Fin 16384) :
    val_main_v9 (F := Ideal) q k (ix4 b h p j) = causal p.val (fun e => q (ix4 b h p e)) (rowsOf k b h) j.val := by
  rw [val_main_v9_apply, val_main_call0_v1_apply, val_main_call0_v2_apply]
  have ei : idx_main_call0_v1 (ix4 b h p j) = ix2 p j := funext fun a => match a with
    | ⟨0, _⟩ => rfl
    | ⟨1, _⟩ => rfl
  rw [ei, mask_apply]
  have es : val_main_v3 (F := Ideal) q k (ix4 b h p j) = score (fun e => q (ix4 b h p e)) (rowsOf k b h) j.val := by
    rw [val_main_v3_apply]
    unfold score
    refine Finset.sum_congr rfl fun e _ => ?_
    have el : lidx_main_v3 (ix4 b h p j) e = ix4 b h p e := funext fun a => match a with
      | ⟨0, _⟩ => rfl
      | ⟨1, _⟩ => rfl
      | ⟨2, _⟩ => rfl
      | ⟨3, _⟩ => rfl
    have er : ridx_main_v3 (ix4 b h p j) e = ix4 b h j e := funext fun a => match a with
      | ⟨0, _⟩ => rfl
      | ⟨1, _⟩ => rfl
      | ⟨2, _⟩ => rfl
      | ⟨3, _⟩ => rfl
    have ek : rowsOf k b h j.val e = k (ix4 b h j e) := dif_pos j.isLt
    rw [el, er, ek]
    rfl
  have eb : val_main_call0_v0 (F := Ideal) (idx_main_call0_v2 (ix4 b h p j)) = (⊥ : EReal) := neg_inf
  unfold causal
  by_cases hj : j.val ≤ p.val
  · rw [if_pos hj, if_pos hj]; exact es
  · rw [if_neg hj, if_neg hj]; exact eb

/-- A row's maximum from −∞, its entries known. -/
theorem rowMax (y : FVec Ideal S2x16x16384x16384 .f32) (z : FVec Ideal S_ .f32) (hz : z (Shape.Idx.first h_S_) = (⊥ : EReal)) (g : ℕ → EReal)
    (b : Fin 2) (h : Fin 16) (p : Fin 16384) (hy : ∀ j : Fin 16384, y (ix4 b h p j) = g j.val) :
    Host.reduce FloatOps.maximumf y z reducesTo_S2x16x16384x16384_S2x16x16384_d3 h_S_ (ix3 b h p) = mx g 16384 := by
  have hred : S2x16x16384x16384.Reduces [3] S2x16x16384 := by decide
  refine (Host.reduce_eq_fold_single (α := Ideal .f32) (FloatOps.maximumf (F := Ideal)) y z reducesTo_S2x16x16384x16384_S2x16x16384_d3 hred h_S_ (ix3 b h p)).trans ?_
  have ef : (y ∘ hred.lift (ix3 b h p)) = fun j : Fin 16384 => g j.val := funext fun j => by
    refine (congrArg y ?_).trans (hy j)
    funext a
    apply Fin.ext
    match a with
    | ⟨0, _⟩ => rfl
    | ⟨1, _⟩ => rfl
    | ⟨2, _⟩ => rfl
    | ⟨3, _⟩ => rfl
  rw [hz]
  refine Eq.trans ?_ (fold_max g 16384)
  exact congrArg (fun f => Finset.fold (max : EReal → EReal → EReal) ⊥ f (Finset.univ : Finset (Fin 16384))) ef

/-- The maximum of a row's scores. -/
theorem max_apply (b : Fin 2) (h : Fin 16) (p : Fin 16384) :
    val_main_v10 (F := Ideal) q k (ix3 b h p) = mx (causal p.val (fun e => q (ix4 b h p e)) (rowsOf k b h)) 16384 := by
  unfold val_main_v10
  exact rowMax _ _ neg_inf _ b h p (fun j => scores_apply q k b h p j)

/-- One head's weighted sum. -/
theorem sums_apply (b : Fin 2) (h : Fin 16) (p : Fin 16384) (d : Fin 128) :
    val_main_v16 (F := Ideal) q k v (ix4 b h p d) = head q k v b h p d := by
  rw [val_main_v16_apply]
  unfold head attend num
  refine Eq.trans (Finset.sum_congr rfl fun j _ => ?_) (Finset.sum_range (n := 16384)
    (fun j => Ideal.exp (causal p.val (fun e => q (ix4 b h p e)) (rowsOf k b h) j - mx (causal p.val (fun e => q (ix4 b h p e)) (rowsOf k b h)) 16384)
      * rowsOf v b h j d)).symm
  have el : lidx_main_v16 (ix4 b h p d) j = ix4 b h p j := funext fun a => match a with
    | ⟨0, _⟩ => rfl
    | ⟨1, _⟩ => rfl
    | ⟨2, _⟩ => rfl
    | ⟨3, _⟩ => rfl
  have er : ridx_main_v16 (ix4 b h p d) j = ix4 b h j d := funext fun a => match a with
    | ⟨0, _⟩ => rfl
    | ⟨1, _⟩ => rfl
    | ⟨2, _⟩ => rfl
    | ⟨3, _⟩ => rfl
  have ev : rowsOf v b h j.val d = v (ix4 b h j d) := dif_pos j.isLt
  have em : idx_main_v11 (idx_main_v12 (ix4 b h p j)) = ix3 b h p := funext fun a => match a with
    | ⟨0, _⟩ => rfl
    | ⟨1, _⟩ => rfl
    | ⟨2, _⟩ => rfl
  rw [el, er, ev, val_main_v14_apply, val_main_v13_apply, val_main_v12_apply, val_main_v11_apply, em, max_apply, scores_apply]
  rfl

/-- The even heads' lower lanes over lane 64. -/
theorem even_apply (b : Fin 2) (g : Fin 8) (p : Fin 16384) (x : Fin 64) :
    val_main_v20 (F := Ideal) q k v (ix4 b g p x)
      = Ideal.div (head q k v b ⟨2 * g.val, by omega⟩ p ⟨x.val, by omega⟩) (head q k v b ⟨2 * g.val, by omega⟩ p 64) := by
  rw [val_main_v20_apply, val_main_v19_apply]
  have e1 : val_main_v17 (F := Ideal) q k v (ix4 b g p x) = head q k v b ⟨2 * g.val, by omega⟩ p ⟨x.val, by omega⟩ := by
    refine Eq.trans ?_ (sums_apply q k v b ⟨2 * g.val, by omega⟩ p ⟨x.val, by omega⟩)
    unfold val_main_v17
    rw [Host.slice_apply]
    refine congrArg (val_main_v16 (F := Ideal) q k v) (funext fun a => Fin.ext ?_)
    match a with
    | ⟨0, _⟩ => show 0 + 1 * b.val = b.val; omega
    | ⟨1, _⟩ => show 0 + 2 * g.val = 2 * g.val; omega
    | ⟨2, _⟩ => show 0 + 1 * p.val = p.val; omega
    | ⟨3, _⟩ => show 0 + 1 * x.val = x.val; omega
  have e2 : val_main_v18 (F := Ideal) q k v (idx_main_v19 (ix4 b g p x)) = head q k v b ⟨2 * g.val, by omega⟩ p 64 := by
    refine Eq.trans ?_ (sums_apply q k v b ⟨2 * g.val, by omega⟩ p 64)
    unfold val_main_v18
    rw [Host.slice_apply]
    refine congrArg (val_main_v16 (F := Ideal) q k v) (funext fun a => Fin.ext ?_)
    match a with
    | ⟨0, _⟩ => show 0 + 1 * b.val = b.val; omega
    | ⟨1, _⟩ => show 0 + 2 * g.val = 2 * g.val; omega
    | ⟨2, _⟩ => show 0 + 1 * p.val = p.val; omega
    | ⟨3, _⟩ => rfl
  rw [e1, e2]
  rfl

/-- The odd heads' upper lanes over lane 0. -/
theorem odd_apply (b : Fin 2) (g : Fin 8) (p : Fin 16384) (x : Fin 64) :
    val_main_v24 (F := Ideal) q k v (ix4 b g p x)
      = Ideal.div (head q k v b ⟨2 * g.val + 1, by omega⟩ p ⟨64 + x.val, by omega⟩) (head q k v b ⟨2 * g.val + 1, by omega⟩ p 0) := by
  rw [val_main_v24_apply, val_main_v23_apply]
  have e1 : val_main_v21 (F := Ideal) q k v (ix4 b g p x) = head q k v b ⟨2 * g.val + 1, by omega⟩ p ⟨64 + x.val, by omega⟩ := by
    refine Eq.trans ?_ (sums_apply q k v b ⟨2 * g.val + 1, by omega⟩ p ⟨64 + x.val, by omega⟩)
    unfold val_main_v21
    rw [Host.slice_apply]
    refine congrArg (val_main_v16 (F := Ideal) q k v) (funext fun a => Fin.ext ?_)
    match a with
    | ⟨0, _⟩ => show 0 + 1 * b.val = b.val; omega
    | ⟨1, _⟩ => show 1 + 2 * g.val = 2 * g.val + 1; omega
    | ⟨2, _⟩ => show 0 + 1 * p.val = p.val; omega
    | ⟨3, _⟩ => show 64 + 1 * x.val = 64 + x.val; omega
  have e2 : val_main_v22 (F := Ideal) q k v (idx_main_v23 (ix4 b g p x)) = head q k v b ⟨2 * g.val + 1, by omega⟩ p 0 := by
    refine Eq.trans ?_ (sums_apply q k v b ⟨2 * g.val + 1, by omega⟩ p 0)
    unfold val_main_v22
    rw [Host.slice_apply]
    refine congrArg (val_main_v16 (F := Ideal) q k v) (funext fun a => Fin.ext ?_)
    match a with
    | ⟨0, _⟩ => show 0 + 1 * b.val = b.val; omega
    | ⟨1, _⟩ => show 1 + 2 * g.val = 2 * g.val + 1; omega
    | ⟨2, _⟩ => show 0 + 1 * p.val = p.val; omega
    | ⟨3, _⟩ => rfl
  rw [e1, e2]
  rfl

abbrev at1 (b : Fin 2) (g : Fin 8) (p : Fin 16384) (x : Fin 64) : S2x8x1x16384x64.Idx := fun a => match a with
  | ⟨0, _⟩ => b
  | ⟨1, _⟩ => g
  | ⟨2, _⟩ => (0 : Fin 1)
  | ⟨3, _⟩ => p
  | ⟨4, _⟩ => x

abbrev at2 (b : Fin 2) (g : Fin 8) (s : Fin 2) (p : Fin 16384) (x : Fin 64) : S2x8x2x16384x64.Idx := fun a => match a with
  | ⟨0, _⟩ => b
  | ⟨1, _⟩ => g
  | ⟨2, _⟩ => s
  | ⟨3, _⟩ => p
  | ⟨4, _⟩ => x

/-- Two arrays joined along a new axis, the first. -/
theorem join_fst (y z : S2x8x1x16384x64.Idx → EReal) (b : Fin 2) (g : Fin 8) (p : Fin 16384) (x : Fin 64) :
    concatenate S2x8x2x16384x64 2 [⟨S2x8x1x16384x64, y⟩, ⟨S2x8x1x16384x64, z⟩] concatenates_S2x8x1x16384x64_S2x8x1x16384x64_S2x8x2x16384x64_d2 (at2 b g 0 p x)
      = y (at1 b g p x) :=
  concatenate_pair_apply_left (t := S2x8x2x16384x64) (s₁ := S2x8x1x16384x64) (s₂ := S2x8x1x16384x64) 2 y z
    concatenates_S2x8x1x16384x64_S2x8x1x16384x64_S2x8x2x16384x64_d2 (at2 b g 0 p x) rfl (at1 b g p x) (fun a => match a with
    | ⟨0, _⟩ => rfl
    | ⟨1, _⟩ => rfl
    | ⟨2, _⟩ => rfl
    | ⟨3, _⟩ => rfl
    | ⟨4, _⟩ => rfl)

/-- Two arrays joined along a new axis, the second. -/
theorem join_snd (y z : S2x8x1x16384x64.Idx → EReal) (b : Fin 2) (g : Fin 8) (p : Fin 16384) (x : Fin 64) :
    concatenate S2x8x2x16384x64 2 [⟨S2x8x1x16384x64, y⟩, ⟨S2x8x1x16384x64, z⟩] concatenates_S2x8x1x16384x64_S2x8x1x16384x64_S2x8x2x16384x64_d2 (at2 b g 1 p x)
      = z (at1 b g p x) :=
  concatenate_pair_apply_right (t := S2x8x2x16384x64) (s₁ := S2x8x1x16384x64) (s₂ := S2x8x1x16384x64) 2 y z
    concatenates_S2x8x1x16384x64_S2x8x1x16384x64_S2x8x2x16384x64_d2 (at2 b g 1 p x) rfl rfl (at1 b g p x) (fun a ha => match a, ha with
    | ⟨0, _⟩, _ => rfl
    | ⟨1, _⟩, _ => rfl
    | ⟨2, _⟩, ha => absurd rfl ha
    | ⟨3, _⟩, _ => rfl
    | ⟨4, _⟩, _ => rfl) rfl

/-- Where an output lane lies among the heads' lanes. -/
theorem place (b : Fin 2) (p : Fin 16384) (x : Fin 1024) (g : Fin 8) (s : Fin 2) (y : Fin 64) (h : x.val = (g.val * 2 + s.val) * 64 + y.val) :
    idx_main_v28 (idx_main_v29 (ix3 b p x)) = at2 b g s p y := by
  have hb := b.isLt
  have hp := p.isLt
  have hx := x.isLt
  have hg := g.isLt
  have hs := s.isLt
  have hy := y.isLt
  funext a
  apply Fin.ext
  match a with
  | ⟨0, _⟩ => show ((b.val * 16384 + p.val) * 1024 + x.val) / 16777216 = b.val; omega
  | ⟨1, _⟩ => show ((b.val * 16384 + p.val) * 1024 + x.val) / 128 % 8 = g.val; omega
  | ⟨2, _⟩ => show ((b.val * 16384 + p.val) * 1024 + x.val) / 64 % 2 = s.val; omega
  | ⟨3, _⟩ => show ((b.val * 16384 + p.val) * 1024 + x.val) / 1024 % 16384 = p.val; omega
  | ⟨4, _⟩ => show ((b.val * 16384 + p.val) * 1024 + x.val) % 64 = y.val; omega

theorem drop25 (b : Fin 2) (g : Fin 8) (p : Fin 16384) (x : Fin 64) : idx_main_v25 (at1 b g p x) = ix4 b g p x := funext fun a => match a with
  | ⟨0, _⟩ => rfl
  | ⟨1, _⟩ => rfl
  | ⟨2, _⟩ => rfl
  | ⟨3, _⟩ => rfl

theorem drop26 (b : Fin 2) (g : Fin 8) (p : Fin 16384) (x : Fin 64) : idx_main_v26 (at1 b g p x) = ix4 b g p x := funext fun a => match a with
  | ⟨0, _⟩ => rfl
  | ⟨1, _⟩ => rfl
  | ⟨2, _⟩ => rfl
  | ⟨3, _⟩ => rfl

end Cert.AttnRefIdeal.Read

end

end
-- ==== Proof.AttnRefTable.lean ====
/- The attention's reference ends at the table of results. -/
module

public import proofs.«01_k».proof.Proof.AttnRefValue
public import proofs.«01_k».proof.Proof.Gen.AttnRefIdeal.Read
public import Idealize.ShloMosaic.Lib.Pipeline.Value
public import Idealize.ShloMosaic.Lib.WordCmp
public import Idealize.ShloMosaic.Lib.Pointwise

@[expose] public section

noncomputable section

namespace Cert.AttnRefIdeal.Read

open Cert.AttnRefIdeal Cert.AttnRefIdeal.Gen
open Idealize.ShloMosaic hiding ix1 ix2 ix3 ix4 eq_ix1 eq_ix2 eq_ix3 eq_ix4
open Idealize.ShloMosaic.TcCoe Idealize.SL.Sem
open Idealize.ShloMosaic.ValueIdx
open Cert.Spec Cert.AttnSpec

variable (q k v : S2x16x16384x128.Idx → EReal)

theorem fst_apply (b : Fin 2) (p : Fin 16384) (x : Fin 1024) (g : Fin 8) (y : Fin 64) (h : x.val = (g.val * 2 + 0) * 64 + y.val) :
    val_main_v29 (F := Ideal) q k v (ix3 b p x) = val_main_v20 (F := Ideal) q k v (ix4 b g p y) := by
  rw [val_main_v29_apply, val_main_v28_apply, place b p x g 0 y h]
  unfold val_main_v27
  rw [join_fst, val_main_v25_apply, drop25]

theorem snd_apply (b : Fin 2) (p : Fin 16384) (x : Fin 1024) (g : Fin 8) (y : Fin 64) (h : x.val = (g.val * 2 + 1) * 64 + y.val) :
    val_main_v29 (F := Ideal) q k v (ix3 b p x) = val_main_v24 (F := Ideal) q k v (ix4 b g p y) := by
  rw [val_main_v29_apply, val_main_v28_apply, place b p x g 1 y h]
  unfold val_main_v27
  rw [join_snd, val_main_v26_apply, drop26]

theorem table_even (b : Fin 2) (p : Fin 16384) (x : Fin 1024) (g : Fin 8) (y : Fin 64) (h : x.val = (g.val * 2 + 0) * 64 + y.val) :
    table q k v (ix3 b p x)
      = Ideal.div (head q k v b ⟨2 * g.val, by omega⟩ p ⟨y.val, by omega⟩) (head q k v b ⟨2 * g.val, by omega⟩ p 64) := by
  have hy := y.isLt
  have e1 : (⟨2 * (x.val / 128), by omega⟩ : Fin 16) = ⟨2 * g.val, by omega⟩ := Fin.ext (by show 2 * (x.val / 128) = 2 * g.val; omega)
  have e2 : (⟨x.val % 128, by omega⟩ : Fin 128) = ⟨y.val, by omega⟩ := Fin.ext (by show x.val % 128 = y.val; omega)
  rw [table_apply, if_pos (by omega), e1, e2]

theorem table_odd (b : Fin 2) (p : Fin 16384) (x : Fin 1024) (g : Fin 8) (y : Fin 64) (h : x.val = (g.val * 2 + 1) * 64 + y.val) :
    table q k v (ix3 b p x)
      = Ideal.div (head q k v b ⟨2 * g.val + 1, by omega⟩ p ⟨64 + y.val, by omega⟩) (head q k v b ⟨2 * g.val + 1, by omega⟩ p 0) := by
  have hy := y.isLt
  have e1 : (⟨2 * (x.val / 128) + 1, by omega⟩ : Fin 16) = ⟨2 * g.val + 1, by omega⟩ := Fin.ext (by show 2 * (x.val / 128) + 1 = 2 * g.val + 1; omega)
  have e2 : (⟨x.val % 128, by omega⟩ : Fin 128) = ⟨64 + y.val, by omega⟩ := Fin.ext (by show x.val % 128 = 64 + y.val; omega)
  rw [table_apply, if_neg (by omega), e1, e2]

/-- Every lane lies in the lower or the upper half of a pair of heads. -/
theorem halves (x : Fin 1024) : (∃ (g : Fin 8) (y : Fin 64), x.val = (g.val * 2 + 0) * 64 + y.val) ∨ ∃ (g : Fin 8) (y : Fin 64), x.val = (g.val * 2 + 1) * 64 + y.val := by
  have hx := x.isLt
  by_cases h : x.val % 128 < 64
  · exact .inl ⟨⟨x.val / 128, by omega⟩, ⟨x.val % 128, h⟩, by show x.val = (x.val / 128 * 2 + 0) * 64 + x.val % 128; omega⟩
  · exact .inr ⟨⟨x.val / 128, by omega⟩, ⟨x.val % 128 - 64, by omega⟩, by show x.val = (x.val / 128 * 2 + 1) * 64 + (x.val % 128 - 64); omega⟩

/-- The reference's result is the table. -/
theorem value : val_main_v30 (F := Ideal) q k v = table q k v := by
  funext i
  obtain ⟨b, p, x, rfl⟩ : ∃ (b : Fin 2) (p : Fin 16384) (x : Fin 1024), i = ix3 b p x := ⟨i 0, i 1, i 2, eq_ix3 i⟩
  refine (val_main_v30_apply (F := Ideal) q k v (ix3 b p x)).trans ?_
  rcases halves x with ⟨g, y, h⟩ | ⟨g, y, h⟩
  · rw [table_even q k v b p x g y h, fst_apply q k v b p x g y h, even_apply]
    rfl
  · rw [table_odd q k v b p x g y h, snd_apply q k v b p x g y h, odd_apply]
    rfl

end Cert.AttnRefIdeal.Read

end

end
-- ==== Proof.AttnRun.lean ====
/- The frame of the attention kernel at bit patterns: it ends, it changes no argument, and every counter ends at zero.
   What the scratch buffers and the output's buffer hold between grid points is not described. -/
module

public import proofs.«01_k».proof.Proof.Gen.Attn.Frame
public import proofs.«01_k».proof.Proof.Gen.Attn.Loops
public import Idealize.ShloMosaic.Lib.Claim
public import Idealize.ShloMosaic.Lib.Exec
public import Idealize.ShloMosaic.Lib.VecWindow
public import Idealize.ShloMosaic.Lib.LoopRemainder
public import Idealize.ShloMosaic.Lib.Pipeline.TableIdle
public import Idealize.ShloMosaic.Lib.Tactic.Stretches

@[expose] public section

set_option maxRecDepth 16384

noncomputable section

namespace Cert.Attn.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Attn Cert.Attn.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One grid point: the inputs stay, the other buffers are left at something. -/
theorem run (c : Dev nD) (i : grid0.Coords) (arg3 : Memref sig .tc .vmem S1x2x1024x128 .bf16) (harg3 : arg3.IsWhole) (arg4 : Memref sig .tc .vmem S1x2x16384x128 .bf16) (harg4 : arg4.IsWhole) (arg5 : Memref sig .tc .vmem S1x2x16384x128 .bf16) (harg5 : arg5.IsWhole) (arg6 : Memref sig .tc .vmem S1x1024x128 .bf16) (harg6 : arg6.IsWhole) (arg7 : Memref sig .tc .vmem S2x2x1024x512 .f32) (harg7 : arg7.IsWhole) (arg8 : Memref sig .tc .vmem S2x2x1024x512 .bf16) (harg8 : arg8.IsWhole) (arg9 : Memref sig .tc .vmem S2x2x1024x128 .f32) (harg9 : arg9.IsWhole) (arg10 : Memref sig .tc .vmem S2x1024x128 .f32) (harg10 : arg10.IsWhole) (arg11 : Memref sig .tc .vmem S2x1024x128 .f32) (harg11 : arg11.IsWhole)  (X_arg3 : BufTy.Contents (Elt F) arg3.view.ty) (X_arg4 : BufTy.Contents (Elt F) arg4.view.ty) (X_arg5 : BufTy.Contents (Elt F) arg5.view.ty) :
    (iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (∃ f, arg6.view.loc (c : Thread nD τ) ↦[arg6.view.set]{fullShare} f) ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f)) : sProp 𝕄)
      ⊢ wp frame (wpE (defs₀ (F := F)) Variants.none (c : Thread nD τ) none) Set.univ (cc0_attn (F := F) i arg3 harg3 arg4 harg4 arg5 harg5 arg6 harg6 arg7 harg7 arg8 harg8 arg9 harg9 arg10 harg10 arg11 harg11)
          (fun _ => iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (∃ f, arg6.view.loc (c : Thread nD τ) ↦[arg6.view.set]{fullShare} f) ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f))) := by
  unfold cc0_attn
  iintro ⟨HR_arg3, HR_arg4, HR_arg5, ⟨%f_arg6, HW_arg6⟩, ⟨%f_arg7, HW_arg7⟩, ⟨%f_arg8, HW_arg8⟩, ⟨%f_arg9, HW_arg9⟩, ⟨%f_arg10, HW_arg10⟩, ⟨%f_arg11, HW_arg11⟩⟩
  sl_exec
  sl_step
  isplitl [HR_arg3]; · iexact HR_arg3
  isplitl [HR_arg4]; · iexact HR_arg4
  isplitl [HR_arg5]; · iexact HR_arg5
  isplitl [HW_arg6]; · iexists _; iexact HW_arg6
  isplitl [HW_arg7]; · iexists _; iexact HW_arg7
  isplitl [HW_arg8]; · iexists _; iexact HW_arg8
  isplitl [HW_arg9]; · iexists _; iexact HW_arg9
  isplitl [HW_arg10]; · iexists _; iexact HW_arg10
  iexists _; iexact HW_arg11

/-- The window whose contents are not described: the output's. -/
def fgt : Fin cfg0.W → Bool := fun w => w == 3

/-- The proof data: the inputs keep their blocks, and nothing is said of the output and of the scratch buffers. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- A whole buffer held is its memref held. -/
theorem held_whole (c : Dev nD) (b : Ref sig .tc) (f : Buf (Elt F) ((c : Thread nD τ).loc b)) :
    (((c : Thread nD τ).loc b ↦{fullShare} f) : sProp 𝕄)
      = ((Memref.whole b).view.loc (c : Thread nD τ) ↦[(Memref.whole b).view.set]{fullShare} f) := by
  have h : (Memref.whole b).view.set = Finset.univ := View.set_whole b
  rw [h]

set_option maxHeartbeats 1000000 in
/-- The body at any point. -/
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ X, owns (c : Thread nD τ) (st0_3 t) fullShare X))
      ⊢ wp frame (wpE (defs₀ (F := F)) Variants.none c none) Set.univ (bodyAt0 t) (fun _ =>
        iprop((dats m 0 c).Φ t.succ ∗ (dats m 0 c).owesAt () t.succ
          ∗ owns (c : Thread nD τ) (st0_0 t) fullShare ((dats m 0 c).after 0 t)
          ∗ owns (c : Thread nD τ) (st0_1 t) fullShare ((dats m 0 c).after 1 t)
          ∗ owns (c : Thread nD τ) (st0_2 t) fullShare ((dats m 0 c).after 2 t)
          ∗ (∃ X, owns (c : Thread nD τ) (st0_3 t) fullShare X))) := by
  unfold bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2]
  unfold Pipeline.ΦA
  rw [scopedRest0_eq]
  simp only [held_whole]
  iintro ⟨⟨⟨H7, H8, H9, H10, H11⟩, Hr⟩, Ho, ⟨%d0, H0⟩, ⟨%d1, H1⟩, ⟨%d2, H2⟩, ⟨%d3, H3⟩⟩
  iapply (wp_wand_r Idealize.ShloMosaic.frame (wpE (defs₀ (F := F)) Variants.none (c : Thread nD τ) none) Set.univ)
  isplitl [H0 H1 H2 H3 H7 H8 H9 H10 H11]
  · iapply (run (F := F) c (grid0.coords t) (st0_0 t) _ (st0_1 t) _ (st0_2 t) _ (st0_3 t) _ (Memref.whole cc0_scratch0) _ (Memref.whole cc0_scratch1) _
      (Memref.whole cc0_scratch2) _ (Memref.whole cc0_scratch3) _ (Memref.whole cc0_scratch4) _)
    isplitl [H0]; · iapply rep_of_owns; iexact H0
    isplitl [H1]; · iapply rep_of_owns; iexact H1
    isplitl [H2]; · iapply rep_of_owns; iexact H2
    isplitl [H3]; · iexists _; iapply rep_of_owns; iexact H3
    isplitl [H7]; · iexact H7
    isplitl [H8]; · iexact H8
    isplitl [H9]; · iexact H9
    isplitl [H10]; · iexact H10
    iexact H11
  iintro %_ ⟨H0, H1, H2, ⟨%f3, H3⟩, H7, H8, H9, H10, H11⟩
  isplitl [H7 H8 H9 H10 H11 Hr]
  · isplitl [H7 H8 H9 H10 H11]
    · isplitl [H7]; · iexact H7
      isplitl [H8]; · iexact H8
      isplitl [H9]; · iexact H9
      isplitl [H10]; · iexact H10
      iexact H11
    · iexact Hr
  isplitl [Ho]; · iexact Ho
  isplitl [H0]; · iapply owns_of_rep; iexact H0
  isplitl [H1]; · iapply owns_of_rep; iexact H1
  isplitl [H2]; · iapply owns_of_rep; iexact H2
  iexists _; unfold owns; iexists _; isplitr; swap
  · iexact H3
  · ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
/-- From any memory with zero counters @main ends, each input as it was and every counter at zero. -/
theorem run_main : θ_run defs (onTc (τ := τ) (main (F := F))) (s₀ m ρ)
    (fun r => Pipeline.RDat.FramePost (cfgs 0) (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as launched and every counter ends at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨h.1.arr_in c 0 rfl, h.1.arr_in c 1 rfl, h.1.arr_in c 2 rfl⟩, h.2⟩) (run_main m ρ)

end Cert.Attn.Run

end
-- ==== Proof.AttnClaims.lean ====
/- The claims about the attention: the frames of the kernel and of its reference, and the value claim that joins them. -/
module

public import proofs.«01_k».proof.Defs
public import proofs.«01_k».proof.Proof.AttnIdealValue
public import proofs.«01_k».proof.Proof.AttnRefTable
public import proofs.«01_k».proof.Proof.AttnRun
public import proofs.«01_k».proof.Proof.Gen.AttnRefIdeal.Run
public import Idealize.ShloMosaic.Lib.Quiescent

@[expose] public section

noncomputable section

namespace Cert.AttnRefIdeal.Read

open Cert.AttnRefIdeal Cert.AttnRefIdeal.Gen
open Idealize.ShloMosaic Idealize.ShloMosaic.TcCoe Idealize.SL.Sem

/-- The reference's frame: it holds no semaphore, so the counters stay at zero. -/
theorem quiescent : Cert.quiescent_AttnRefIdeal (hAttnRefIdeal := Cert.AttnRefIdeal.Gen.facts) := fun m ρ _ =>
  (θ_run defs _ _).mono (fun r h => ⟨fun c => (h c).2, sem_eq_zero_of_no_sems (by decide) r.2⟩) (Cert.AttnRefIdeal.Value.run (F := Ideal) m ρ)

/-- From equal arguments the kernel and the reference end at the same table of results. -/
theorem algebraic : Cert.algebraic_AttnIdeal_AttnRefIdeal (hAttnIdeal := Cert.AttnIdeal.Gen.facts) (hAttnRefIdeal := Cert.AttnRefIdeal.Gen.facts) :=
  fun m ρ m' ρ' _ hargs => by
  refine ⟨Cert.AttnIdeal.Body.result m, Cert.AttnIdeal.Body.value m ρ, ?_⟩
  refine (θ_run defs _ _).mono (fun r hr c => ⟨?_, (hr c).2⟩) (Cert.AttnRefIdeal.Value.run (F := Ideal) m' ρ')
  obtain ⟨a0, a1, a2⟩ := hargs c
  have hv := value (m' ((c.tc : Thread nD τ).loc main_arg0)) (m' ((c.tc : Thread nD τ).loc main_arg1)) (m' ((c.tc : Thread nD τ).loc main_arg2))
  refine ((hr c).1.trans (val_main_v30_eq (F := Ideal) _ _)).trans (hv.trans ?_)
  rw [a0, a1, a2]
  rfl

end Cert.AttnRefIdeal.Read

end

end
-- ==== Proof.FinalSpec.lean ====
/- The mathematics of the last step: a token's residual plus its two experts' outputs, each at its weight, then the last
   norm. -/
module

public import proofs.«01_k».proof.Proof.PoolSpec

@[expose] public section

noncomputable section

namespace Cert.FinalSpec

open Idealize.ShloMosaic
open Idealize.ShloMosaic.ValueIdx
open Cert.PoolSpec

/-- The residual plus the weighted outputs of the two experts. -/
def blend (x ya yb : Fin 1024 → EReal) (wa wb : EReal) (d : Fin 1024) : EReal := x d + (wa * ya d + wb * yb d)

/-- The table of results: row `q` from row `q` of the residual, of the experts' outputs and of the router's record, whose
    columns 4 and 5 are the two weights. -/
def table (x ya yb : (⟨2, ![32768, 1024]⟩ : Shape).Idx → EReal) (w : (⟨2, ![32768, 8]⟩ : Shape).Idx → EReal)
    (g : (⟨1, ![1024]⟩ : Shape).Idx → EReal) (i : (⟨2, ![32768, 1024]⟩ : Shape).Idx) : EReal :=
  norm (blend (fun k => x (ix2 (i 0) k)) (fun k => ya (ix2 (i 0) k)) (fun k => yb (ix2 (i 0) k)) (w (ix2 (i 0) 4)) (w (ix2 (i 0) 5))) (i 1)
    * g (ix1 (i 1))

end Cert.FinalSpec

end

end
-- ==== Proof.FinalIdealValue.lean ====
/- The last call's result array: every row of the table of results. -/
module

public import proofs.«01_k».proof.Proof.FinalSpec
public import proofs.«01_k».proof.Proof.Gen.FinalIdeal.Value
public import Idealize.ShloMosaic.Lib.Pipeline.ValueKit
public import Idealize.ShloMosaic.Lib.ValueLayout
public import Idealize.ShloMosaic.Lib.KernelVsHost

@[expose] public section

noncomputable section

namespace Cert.FinalIdeal.Body

open Idealize.ShloMosaic hiding ix1 ix2 ix3 eq_ix1 eq_ix2 eq_ix3
open Idealize.ShloMosaic.TcCoe Idealize.SL.Sem
open Idealize.ShloMosaic.ValueIdx
open Cert.PoolSpec Cert.FinalSpec
open Cert.FinalIdeal Cert.FinalIdeal.Gen
open Idealize.ShloMosaic.Pipeline (Dat)

/-! ## One grid point -/

/-- A column of the router's record laid along a tile's features. -/
theorem weight_apply (w : Vec Ideal S512x8 .f32) (n : Fin 8) (off : Fin 2 → ℕ) (ho : off = ![0, n.val]) (h1 h2) (r : Fin 512) (d : Fin 1024) :
    broadcastTo S512x1024 (extractStridedSlice S512x1 off w h1) h2 (ix2 r d) = w (ix2 r n) := by
  subst ho
  refine Eq.trans (b := extractStridedSlice S512x1 ![0, n.val] w h1 (ix2 r 0)) ?_ ?_
  · pointwise
  · exact extractStridedSlice_apply _ w h1 _ (ix2 r n) fun a => by
      match a with
      | ⟨0, _⟩ => show r.val = 0 + r.val; omega
      | ⟨1, _⟩ => rfl

/-- A tile's rows, each divided by its root mean square and scaled, read at a feature. -/
theorem norm_apply (x : FVec Ideal S512x1024 .f32) (g : Vec Ideal S1x1024 .f32) (r : Fin 512) (d : Fin 1024) :
    mulf (mulf x (broadcastTo S512x1024 (rsqrt (addf (divf (shapeCast S512x1 (multiReduction .add [1] S512 (mulf x x) 0x00000000#32
      reduces_S512x1024_S512 (.inl rfl) rfl) shapeCasts_S512_S512x1) (broadcast S512x1 (Scalar.ofBits .f32 0x44800000#32)))
      (broadcast S512x1 (Scalar.ofBits .f32 0x3727C5AC#32)))) broadcasts_S512x1_S512x1024))
      (broadcastTo S512x1024 (shapeCast S1x1024 g shapeCasts_S1x1024_S1x1024) broadcasts_S1x1024_S512x1024) (ix2 r d)
      = norm (fun k => x (ix2 r k)) d * g (ix2 0 d) := by
  pointwise
  rfl

/-- Row `r` of a tile, from the blocks its grid point reads. -/
theorem out_apply (x ya yb : Vec Ideal S512x1024 .f32) (w : Vec Ideal S512x8 .f32) (g : Vec Ideal S1x1024 .f32) (r : Fin 512) (d : Fin 1024) :
    out0_5 x ya yb w g (ix2 r d)
      = norm (blend (fun k => x (ix2 r k)) (fun k => ya (ix2 r k)) (fun k => yb (ix2 r k)) (w (ix2 r 4)) (w (ix2 r 5))) d * g (ix2 0 d) := by
  unfold out0_5
  frame_out
  unfold k0_pay1
  refine (norm_apply _ g r d).trans ?_
  refine congrArg (fun v => norm v d * g (ix2 0 d)) (funext fun k => ?_)
  refine Eq.trans (congrArg₂ (fun u v : EReal => x (ix2 r k) + u * ya (ix2 r k) + v * yb (ix2 r k))
    (weight_apply w 4 _ rfl _ _ r k) (weight_apply w 5 _ rfl _ _ r k)) ?_
  exact add_assoc _ _ _

/-! ## The blocks a grid point reads -/

variable (m : (ℓ : Loc nD τ sig) → Buf (Elt Ideal) ℓ) (ρ : Dev nD → PrngReg)

theorem scale (c : Dev nD) (d : Fin 1024) : V m c main_v0 (ix2 0 d) = m ((c : Thread nD τ).loc main_arg4) (ix1 d) := by
  entry_read
  exact shapeCast_a_1a_apply (a := 1024) _ _ 0 d

theorem index0 : ∀ t : Fin cfg0.N, (cfg0.win (0 : Fin 6)).index t = ![t.val, 0] := (by decide +kernel : ∀ t : Fin grid0.N, _)
theorem index1 : ∀ t : Fin cfg0.N, (cfg0.win (1 : Fin 6)).index t = ![t.val, 0] := (by decide +kernel : ∀ t : Fin grid0.N, _)
theorem index2 : ∀ t : Fin cfg0.N, (cfg0.win (2 : Fin 6)).index t = ![t.val, 0] := (by decide +kernel : ∀ t : Fin grid0.N, _)
theorem index3 : ∀ t : Fin cfg0.N, (cfg0.win (3 : Fin 6)).index t = ![t.val, 0] := (by decide +kernel : ∀ t : Fin grid0.N, _)
theorem index4 : ∀ t : Fin cfg0.N, (cfg0.win (4 : Fin 6)).index t = ![0, 0] := (by decide +kernel : ∀ t : Fin grid0.N, _)
theorem index5 : ∀ t : Fin cfg0.N, (cfg0.win (5 : Fin 6)).index t = ![t.val, 0] := (by decide +kernel : ∀ t : Fin grid0.N, _)

theorem skip (n k : ℕ) : 0 * n + k = k := by rw [Nat.zero_mul, Nat.zero_add]

theorem blk0 (c : Dev nD) (t : Fin cfg0.N) (r : Fin 512) (d : Fin 1024) (q : Fin 32768) (hq : q.val = t.val * 512 + r.val) :
    iblk m c 0 t (ix2 r d) = m ((c : Thread nD τ).loc main_arg0) (ix2 q d) := by
  unfold iblk
  rw [View.read_apply]
  refine Eq.trans ?_ (show V m c main_arg0 (ix2 q d) = _ by entry_read; rfl)
  refine congrArg (V m c main_arg0) (funext fun a => Fin.ext ?_)
  refine (Pipeline.Window.rect_emb_val (cfg0.win (0 : Fin 6)) t _ a).trans ?_
  rw [index0]
  match a with
  | ⟨0, _⟩ => exact hq.symm
  | ⟨1, _⟩ => exact skip 1024 d.val

theorem blk1 (c : Dev nD) (t : Fin cfg0.N) (r : Fin 512) (d : Fin 1024) (q : Fin 32768) (hq : q.val = t.val * 512 + r.val) :
    iblk m c 1 t (ix2 r d) = m ((c : Thread nD τ).loc main_arg1) (ix2 q d) := by
  unfold iblk
  rw [View.read_apply]
  refine Eq.trans ?_ (show V m c main_arg1 (ix2 q d) = _ by entry_read; rfl)
  refine congrArg (V m c main_arg1) (funext fun a => Fin.ext ?_)
  refine (Pipeline.Window.rect_emb_val (cfg0.win (1 : Fin 6)) t _ a).trans ?_
  rw [index1]
  match a with
  | ⟨0, _⟩ => exact hq.symm
  | ⟨1, _⟩ => exact skip 1024 d.val

theorem blk2 (c : Dev nD) (t : Fin cfg0.N) (r : Fin 512) (d : Fin 1024) (q : Fin 32768) (hq : q.val = t.val * 512 + r.val) :
    iblk m c 2 t (ix2 r d) = m ((c : Thread nD τ).loc main_arg2) (ix2 q d) := by
  unfold iblk
  rw [View.read_apply]
  refine Eq.trans ?_ (show V m c main_arg2 (ix2 q d) = _ by entry_read; rfl)
  refine congrArg (V m c main_arg2) (funext fun a => Fin.ext ?_)
  refine (Pipeline.Window.rect_emb_val (cfg0.win (2 : Fin 6)) t _ a).trans ?_
  rw [index2]
  match a with
  | ⟨0, _⟩ => exact hq.symm
  | ⟨1, _⟩ => exact skip 1024 d.val

theorem blk3 (c : Dev nD) (t : Fin cfg0.N) (r : Fin 512) (n : Fin 8) (q : Fin 32768) (hq : q.val = t.val * 512 + r.val) :
    iblk m c 3 t (ix2 r n) = m ((c : Thread nD τ).loc main_arg3) (ix2 q n) := by
  unfold iblk
  rw [View.read_apply]
  refine Eq.trans ?_ (show V m c main_arg3 (ix2 q n) = _ by entry_read; rfl)
  refine congrArg (V m c main_arg3) (funext fun a => Fin.ext ?_)
  refine (Pipeline.Window.rect_emb_val (cfg0.win (3 : Fin 6)) t _ a).trans ?_
  rw [index3]
  match a with
  | ⟨0, _⟩ => exact hq.symm
  | ⟨1, _⟩ => exact skip 8 n.val

theorem blk4 (c : Dev nD) (t : Fin cfg0.N) (d : Fin 1024) : iblk m c 4 t (ix2 0 d) = m ((c : Thread nD τ).loc main_arg4) (ix1 d) := by
  unfold iblk
  rw [View.read_apply]
  refine Eq.trans ?_ (scale m c d)
  refine congrArg (V m c main_v0) (funext fun a => Fin.ext ?_)
  refine (Pipeline.Window.rect_emb_val (cfg0.win (4 : Fin 6)) t _ a).trans ?_
  rw [index4]
  match a with
  | ⟨0, _⟩ => rfl
  | ⟨1, _⟩ => exact skip 1024 d.val

/-! ## The result array -/

/-- The table of results over the arguments of core `c`. -/
def result (c : Dev nD) : Buf (Elt Ideal) ((c : Thread nD τ).loc main_v1) :=
  table (m ((c : Thread nD τ).loc main_arg0)) (m ((c : Thread nD τ).loc main_arg1)) (m ((c : Thread nD τ).loc main_arg2))
    (m ((c : Thread nD τ).loc main_arg3)) (m ((c : Thread nD τ).loc main_arg4))

/-- What a grid point leaves in the output block. -/
theorem point (c : Dev nD) (t : Fin cfg0.N) (r : Fin 512) (d : Fin 1024) (q : Fin 32768) (hq : q.val = t.val * 512 + r.val) :
    out0_5 (iblk m c 0 t) (iblk m c 1 t) (iblk m c 2 t) (iblk m c 3 t) (iblk m c 4 t) (ix2 r d) = result m c (ix2 q d) := by
  refine (out_apply _ _ _ _ _ r d).trans ?_
  have e0 : (fun k => iblk m c 0 t (ix2 r k)) = fun k => m ((c : Thread nD τ).loc main_arg0) (ix2 q k) := funext fun k => blk0 m c t r k q hq
  have e1 : (fun k => iblk m c 1 t (ix2 r k)) = fun k => m ((c : Thread nD τ).loc main_arg1) (ix2 q k) := funext fun k => blk1 m c t r k q hq
  have e2 : (fun k => iblk m c 2 t (ix2 r k)) = fun k => m ((c : Thread nD τ).loc main_arg2) (ix2 q k) := funext fun k => blk2 m c t r k q hq
  rw [e0, e1, e2, blk3 m c t r 4 q hq, blk3 m c t r 5 q hq, blk4 m c t d]
  rfl

/-- The output array after the grid. -/
theorem final (c : Dev nD) : (dats m 0 c).arrAt (5 : Fin 6) cfg0.N = result m c := by
  refine (dats m 0 c).arrAt_eq_of_covers (5 : Fin 6) _ (by decide +kernel) fun t hf y => ?_
  have ht : t.val < 64 := t.isLt
  blk_simp
  rw [after0_5]
  obtain ⟨r, d, rfl⟩ : ∃ (r : Fin 512) (d : Fin 1024), y = ix2 r d := ⟨y 0, y 1, eq_ix2 y⟩
  have hr : r.val < 512 := r.isLt
  have hq : t.val * 512 + r.val < 32768 := by omega
  refine (point m c t r d ⟨t.val * 512 + r.val, hq⟩ rfl).trans (congrArg (result m c) (funext fun a => Fin.ext ?_))
  refine Eq.trans ?_ (Pipeline.Window.rect_emb_val (cfg0.win (5 : Fin 6)) t _ a).symm
  rw [index5]
  match a with
  | ⟨0, _⟩ => rfl
  | ⟨1, _⟩ => exact (skip 1024 d.val).symm

/-- The run, read: the result array at the table of results, the arguments unchanged. -/
theorem value : θ_run (defs (F := Ideal)) (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (final m c), (h c).2⟩) (Cert.FinalIdeal.Value.run_blocks (F := Ideal) m ρ)

end Cert.FinalIdeal.Body

end

end
-- ==== Proof.FinalClaims.lean ====
/- The last step's reference is the table of results; the claims about it, and the value claim that joins it to the kernel. -/
module

public import proofs.«01_k».proof.Defs
public import proofs.«01_k».proof.Proof.FinalIdealValue
public import proofs.«01_k».proof.Proof.Gen.FinalRefIdeal.Read
public import proofs.«01_k».proof.Proof.Gen.FinalRefIdeal.Run
public import Idealize.ShloMosaic.Lib.Quiescent

@[expose] public section

noncomputable section

namespace Cert.FinalRefIdeal.Read

open Cert.FinalRefIdeal Cert.FinalRefIdeal.Gen
open Idealize.ShloMosaic hiding ix1 ix2 ix3 eq_ix1 eq_ix2 eq_ix3
open Idealize.ShloMosaic.TcCoe Idealize.SL.Sem
open Idealize.ShloMosaic.ValueIdx
open Cert.PoolSpec Cert.FinalSpec

variable (x0 x1 x2 : (⟨S32768x1024, .f32⟩ : BufTy).Contents (Elt Ideal)) (x3 : (⟨S32768x8, .f32⟩ : BufTy).Contents (Elt Ideal))
  (x4 : (⟨S1024, .f32⟩ : BufTy).Contents (Elt Ideal))

/-- The residual and the two experts' outputs of token `q`, added. -/
theorem blend_apply (q : Fin 32768) (d : Fin 1024) :
    val_main_v7 (F := Ideal) x0 x1 x2 x3 (ix2 q d)
      = blend (fun k => x0 (ix2 q k)) (fun k => x1 (ix2 q k)) (fun k => x2 (ix2 q k)) (x3 (ix2 q 4)) (x3 (ix2 q 5)) d := by
  have ea : idx_main_v0 (idx_main_v1 (ix2 q d)) = ix2 q 4 := funext fun a => Fin.ext (by match a with | ⟨0, _⟩ => rfl | ⟨1, _⟩ => rfl)
  have eb : idx_main_v3 (idx_main_v4 (ix2 q d)) = ix2 q 5 := funext fun a => Fin.ext (by match a with | ⟨0, _⟩ => rfl | ⟨1, _⟩ => rfl)
  rw [val_main_v7_apply, val_main_v6_apply, val_main_v2_apply, val_main_v5_apply, val_main_v1_apply, val_main_v0_apply, val_main_v4_apply,
    val_main_v3_apply, ea, eb]
  rfl

theorem norm_apply (q : Fin 32768) (d : Fin 1024) :
    val_main_v17 (F := Ideal) x0 x1 x2 x3 (ix2 q d)
      = norm (blend (fun k => x0 (ix2 q k)) (fun k => x1 (ix2 q k)) (fun k => x2 (ix2 q k)) (x3 (ix2 q 4)) (x3 (ix2 q 5))) d := by
  rw [val_main_v17_apply, val_main_v16_apply, val_main_v15_apply, val_main_v14_apply, val_main_v12_apply, val_main_v11_apply, val_main_v13_apply,
    val_main_v10_apply, val_main_v9_apply, val_main_cst_apply, val_main_cst_0_apply, val_main_cst_1_apply, blend_apply,
    show FloatOps.ofBits (F := Ideal) .f32 0x00000000#32 = 0 from Ideal.ofBits_zero_f32, zero_add]
  refine congrArg (fun u : EReal => blend (fun k => x0 (ix2 q k)) (fun k => x1 (ix2 q k)) (fun k => x2 (ix2 q k)) (x3 (ix2 q 4)) (x3 (ix2 q 5)) d
    * Ideal.rsqrt (Ideal.div u _ + _)) (Finset.sum_congr rfl fun k _ => ?_)
  have e : idx_main_v9 (idx_main_v10 (idx_main_v16 (ix2 q d))) k = ix2 q k :=
    funext fun a => Fin.ext (by match a with | ⟨0, _⟩ => rfl | ⟨1, _⟩ => rfl)
  rw [val_main_v8_apply, e, blend_apply]
  rfl

/-- The reference's result is the table of results. -/
theorem value : val_main_v20 (F := Ideal) x0 x1 x2 x3 x4 = table x0 x1 x2 x3 x4 := by
  funext i
  obtain ⟨q, d, rfl⟩ : ∃ (q : Fin 32768) (d : Fin 1024), i = ix2 q d := ⟨i 0, i 1, eq_ix2 i⟩
  have e : idx_main_v18 (idx_main_v19 (ix2 q d)) = ix1 d := funext fun a => Fin.ext (by match a with | ⟨0, _⟩ => rfl)
  rw [val_main_v20_apply, norm_apply, val_main_v19_apply, val_main_v18_apply, e]
  rfl

/-- The reference's frame: it holds no semaphore, so the counters stay at zero. -/
theorem quiescent : Cert.quiescent_FinalRefIdeal (hFinalRefIdeal := Cert.FinalRefIdeal.Gen.facts) := fun m ρ _ =>
  (θ_run defs _ _).mono (fun r h => ⟨fun c => (h c).2, sem_eq_zero_of_no_sems (by decide) r.2⟩) (Cert.FinalRefIdeal.Value.run (F := Ideal) m ρ)

/-- From equal arguments the kernel and the reference end at the same table of results. -/
theorem algebraic : Cert.algebraic_FinalIdeal_FinalRefIdeal (hFinalIdeal := Cert.FinalIdeal.Gen.facts) (hFinalRefIdeal := Cert.FinalRefIdeal.Gen.facts) :=
  fun m ρ m' ρ' _ hargs => by
  refine ⟨Cert.FinalIdeal.Body.result m, Cert.FinalIdeal.Body.value m ρ, ?_⟩
  refine (θ_run defs _ _).mono (fun r hr c => ⟨?_, (hr c).2⟩) (Cert.FinalRefIdeal.Value.run (F := Ideal) m' ρ')
  obtain ⟨a0, a1, a2, a3, a4⟩ := hargs c
  have hv := value (m' ((c.tc : Thread nD τ).loc main_arg0)) (m' ((c.tc : Thread nD τ).loc main_arg1))
    (m' ((c.tc : Thread nD τ).loc main_arg2)) (m' ((c.tc : Thread nD τ).loc main_arg3)) (m' ((c.tc : Thread nD τ).loc main_arg4))
  refine ((hr c).1.trans (val_main_v20_eq (F := Ideal) _ _ _ _ _)).trans (hv.trans ?_)
  rw [a0, a1, a2, a3, a4]
  rfl

end Cert.FinalRefIdeal.Read

end

end
-- ==== Proof.lean ====
module

public import proofs.«01_k».proof.Defs
public import proofs.«01_k».proof.Proof.MoeRange
public import proofs.«01_k».proof.Proof.MoeClaims
public import proofs.«01_k».proof.Proof.Gen.Pool.Frame
public import proofs.«01_k».proof.Proof.Gen.PoolIdeal.Frame
public import proofs.«01_k».proof.Proof.PoolClaims
public import proofs.«01_k».proof.Proof.AttnClaims
public import proofs.«01_k».proof.Proof.Gen.Final.Frame
public import proofs.«01_k».proof.Proof.Gen.FinalIdeal.Frame
public import proofs.«01_k».proof.Proof.FinalClaims

@[expose] public section

noncomputable section

namespace Cert.Proof

theorem claim : Cert.Claim :=
  ⟨Cert.Moe.Gen.facts, Cert.MoeIdeal.Gen.facts, Cert.MoeRefIdeal.Gen.facts, Cert.Pool.Gen.facts, Cert.PoolIdeal.Gen.facts,
    Cert.PoolRefIdeal.Gen.facts, Cert.Attn.Gen.facts, Cert.AttnIdeal.Gen.facts, Cert.AttnRefIdeal.Gen.facts,
    Cert.Final.Gen.facts, Cert.FinalIdeal.Gen.facts, Cert.FinalRefIdeal.Gen.facts, Cert.Pre_in_range.Gen.facts,
    Cert.Moe.Tab.quiescent, Cert.MoeIdeal.Tab.quiescent, Cert.MoeRefIdeal.Read.quiescent, Cert.MoeRefIdeal.Read.quiescent_pre,
    fun m ρ _ => Cert.Pool.Gen.frame m ρ, fun m ρ _ => Cert.PoolIdeal.Gen.frame m ρ, Cert.PoolRefIdeal.Read.quiescent,
    fun m ρ _ => Cert.Attn.Run.frame_main m ρ, fun m ρ _ => Cert.AttnIdeal.Body.frame_main m ρ, Cert.AttnRefIdeal.Read.quiescent,
    fun m ρ _ => Cert.Final.Gen.frame m ρ, fun m ρ _ => Cert.FinalIdeal.Gen.frame m ρ, Cert.FinalRefIdeal.Read.quiescent,
    trivial, Cert.MoeRefIdeal.Read.algebraic, trivial, Cert.PoolRefIdeal.Read.algebraic,
    Idealize.ShloMosaic.IdealRules.named_const.statement Cert.AttnIdeal.κ "mask" .f32 0xF149F2CA#32 ⊥ rfl, Cert.AttnRefIdeal.Read.algebraic,
    trivial, Cert.FinalRefIdeal.Read.algebraic⟩

end Cert.Proof

end
